-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 6144]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![6144, 1536]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S6x128x1536 : Shape := ⟨3, ![6, 128, 1536]⟩
abbrev S6x64x1536 : Shape := ⟨3, ![6, 64, 1536]⟩
abbrev S5x6 : Shape := ⟨2, ![5, 6]⟩
abbrev S2x6 : Shape := ⟨2, ![2, 6]⟩
abbrev S_ : Shape := ⟨0, ![]⟩
abbrev S3x6 : Shape := ⟨2, ![3, 6]⟩
abbrev S1x1 : Shape := ⟨2, ![1, 1]⟩
abbrev S128x768 : Shape := ⟨2, ![128, 768]⟩
abbrev S128x1536 : Shape := ⟨2, ![128, 1536]⟩
abbrev S1x128x1536 : Shape := ⟨3, ![1, 128, 1536]⟩
abbrev S64x1536 : Shape := ⟨2, ![64, 1536]⟩
abbrev S1x64x1536 : Shape := ⟨3, ![1, 64, 1536]⟩

abbrev nBuf : Space → Nat
  | .hbm => 3
  | .vmem => 7
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .vmem, ⟨3, _⟩ => ⟨S1536x1536, .bf16⟩
  | .local _ .vmem, ⟨4, _⟩ => ⟨S6x128x1536, .bf16⟩
  | .local _ .vmem, ⟨5, _⟩ => ⟨S6x64x1536, .bf16⟩
  | .local _ .vmem, ⟨6, _⟩ => ⟨S6x64x1536, .bf16⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  (ofTc nBuf bufTy 1 91 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 8
abbrev τ : Topo := Topo.v7x

variable {F : FTy → Type} [FloatOps F]

abbrev grid0 : Pipeline.Grid := .none

def k0_off1 (d0 : Dev nD) (c0_i32_10 : BitVec 32) : Fin 2 → Nat :=
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v16 : BitVec 32 := Scalar.subi c1_i32_9 v8
  let c128_i32 : BitVec 32 := 128#32
  let v17 : BitVec 32 := Scalar.muli v16 c128_i32
  let v18 : BitVec 32 := Scalar.addi c0_i32_10 v17
  let c0_i32_35 : BitVec 32 := 0#32
  ![v18.toNat, 0]
def k0_off2 (d0 : Dev nD) (c256_i32 : BitVec 32) : Fin 2 → Nat :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v21 : BitVec 32 := Scalar.subi c1_i32_13 v10
  let c128_i32_14 : BitVec 32 := 128#32
  let v22 : BitVec 32 := Scalar.muli v21 c128_i32_14
  let v23 : BitVec 32 := Scalar.addi c256_i32 v22
  let c0_i32_39 : BitVec 32 := 0#32
  ![v23.toNat, 0]
def k0_off3 (d0 : Dev nD) (c512_i32 : BitVec 32) : Fin 2 → Nat :=
  let c1_i32_17 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v26 : BitVec 32 := Scalar.subi c1_i32_17 v4
  let c128_i32_18 : BitVec 32 := 128#32
  let v27 : BitVec 32 := Scalar.muli v26 c128_i32_18
  let v28 : BitVec 32 := Scalar.addi c512_i32 v27
  let c0_i32_43 : BitVec 32 := 0#32
  ![v28.toNat, 0]
def k0_off4 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_11 : BitVec 32 := 128#32
  let v19 : BitVec 32 := Scalar.muli v8 c128_i32_11
  let v20 : BitVec 32 := Scalar.addi c0_i32_12 v19
  let c0_i32_58 : BitVec 32 := 0#32
  ![v20.toNat, 0]
def k0_off5 (d0 : Dev nD) (c256_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c128_i32_15 : BitVec 32 := 128#32
  let v24 : BitVec 32 := Scalar.muli v10 c128_i32_15
  let v25 : BitVec 32 := Scalar.addi c256_i32_16 v24
  let c0_i32_62 : BitVec 32 := 0#32
  ![v25.toNat, 0]
def k0_off6 (d0 : Dev nD) (c512_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c128_i32_19 : BitVec 32 := 128#32
  let v29 : BitVec 32 := Scalar.muli v4 c128_i32_19
  let v30 : BitVec 32 := Scalar.addi c512_i32_20 v29
  let c0_i32_66 : BitVec 32 := 0#32
  ![v30.toNat, 0]
def k0_dev1 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_81 : BitVec 32 := 1#32
  let v95 : BitVec 32 := Scalar.muli v11 c1_i32_81
  let v96 : BitVec 32 := Scalar.addi c0_i32_82 v95
  v96.toNat
def k0_dev2 (d0 : Dev nD) : Nat :=
  let c0_i32_85 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v12 : BitVec 32 := Scalar.muli c4_i32_7 v4
  let c3_i32 : BitVec 32 := 3#32
  let c4_i32 : BitVec 32 := 4#32
  let v3 : BitVec 32 := Scalar.remsi v2 c4_i32
  let v13 : BitVec 32 := Scalar.subi c3_i32 v3
  let v14 : BitVec 32 := Scalar.addi v12 v13
  let c1_i32_84 : BitVec 32 := 1#32
  let v97 : BitVec 32 := Scalar.muli v14 c1_i32_84
  let v98 : BitVec 32 := Scalar.addi c0_i32_85 v97
  v98.toNat
def k0_dev3 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_87 : BitVec 32 := 1#32
  let v99 : BitVec 32 := Scalar.muli v15 c1_i32_87
  let v100 : BitVec 32 := Scalar.addi c0_i32_88 v99
  v100.toNat
def k0_off7 (d0 : Dev nD) (c0_i32_10 : BitVec 32) : Fin 2 → Nat :=
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v16 : BitVec 32 := Scalar.subi c1_i32_9 v8
  let c128_i32 : BitVec 32 := 128#32
  let v17 : BitVec 32 := Scalar.muli v16 c128_i32
  let v18 : BitVec 32 := Scalar.addi c0_i32_10 v17
  let v105 : Index := Scalar.indexCast v18
  let c0 : Index := 0#32
  ![v105.toNat, 0]
def k0_off8 (d0 : Dev nD) (c0_i32_10 : BitVec 32) : Fin 2 → Nat :=
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v16 : BitVec 32 := Scalar.subi c1_i32_9 v8
  let c128_i32 : BitVec 32 := 128#32
  let v17 : BitVec 32 := Scalar.muli v16 c128_i32
  let v18 : BitVec 32 := Scalar.addi c0_i32_10 v17
  let v110 : Index := Scalar.indexCast v18
  let c0_95 : Index := 0#32
  ![v110.toNat, 0]
def k0_off9 (d0 : Dev nD) (c0_i32_10 : BitVec 32) : Fin 2 → Nat :=
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v16 : BitVec 32 := Scalar.subi c1_i32_9 v8
  let c128_i32 : BitVec 32 := 128#32
  let v17 : BitVec 32 := Scalar.muli v16 c128_i32
  let v18 : BitVec 32 := Scalar.addi c0_i32_10 v17
  let c0_i32_106 : BitVec 32 := 0#32
  ![v18.toNat, 0]
def k0_dev4 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_102 : BitVec 32 := 1#32
  let v114 : BitVec 32 := Scalar.muli v11 c1_i32_102
  let v115 : BitVec 32 := Scalar.addi c0_i32_103 v114
  v115.toNat
def k0_off10 (d0 : Dev nD) (c256_i32 : BitVec 32) : Fin 2 → Nat :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v21 : BitVec 32 := Scalar.subi c1_i32_13 v10
  let c128_i32_14 : BitVec 32 := 128#32
  let v22 : BitVec 32 := Scalar.muli v21 c128_i32_14
  let v23 : BitVec 32 := Scalar.addi c256_i32 v22
  let v127 : Index := Scalar.indexCast v23
  let c0_111 : Index := 0#32
  ![v127.toNat, 0]
def k0_off11 (d0 : Dev nD) (c256_i32 : BitVec 32) : Fin 2 → Nat :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v21 : BitVec 32 := Scalar.subi c1_i32_13 v10
  let c128_i32_14 : BitVec 32 := 128#32
  let v22 : BitVec 32 := Scalar.muli v21 c128_i32_14
  let v23 : BitVec 32 := Scalar.addi c256_i32 v22
  let v132 : Index := Scalar.indexCast v23
  let c0_115 : Index := 0#32
  ![v132.toNat, 0]
def k0_off12 (d0 : Dev nD) (c256_i32 : BitVec 32) : Fin 2 → Nat :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v21 : BitVec 32 := Scalar.subi c1_i32_13 v10
  let c128_i32_14 : BitVec 32 := 128#32
  let v22 : BitVec 32 := Scalar.muli v21 c128_i32_14
  let v23 : BitVec 32 := Scalar.addi c256_i32 v22
  let c0_i32_125 : BitVec 32 := 0#32
  ![v23.toNat, 0]
def k0_dev5 (d0 : Dev nD) : Nat :=
  let c0_i32_122 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v12 : BitVec 32 := Scalar.muli c4_i32_7 v4
  let c3_i32 : BitVec 32 := 3#32
  let c4_i32 : BitVec 32 := 4#32
  let v3 : BitVec 32 := Scalar.remsi v2 c4_i32
  let v13 : BitVec 32 := Scalar.subi c3_i32 v3
  let v14 : BitVec 32 := Scalar.addi v12 v13
  let c1_i32_121 : BitVec 32 := 1#32
  let v136 : BitVec 32 := Scalar.muli v14 c1_i32_121
  let v137 : BitVec 32 := Scalar.addi c0_i32_122 v136
  v137.toNat
def k0_off13 (d0 : Dev nD) (c512_i32 : BitVec 32) : Fin 2 → Nat :=
  let c1_i32_17 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v26 : BitVec 32 := Scalar.subi c1_i32_17 v4
  let c128_i32_18 : BitVec 32 := 128#32
  let v27 : BitVec 32 := Scalar.muli v26 c128_i32_18
  let v28 : BitVec 32 := Scalar.addi c512_i32 v27
  let v149 : Index := Scalar.indexCast v28
  let c0_130 : Index := 0#32
  ![v149.toNat, 0]
def k0_off14 (d0 : Dev nD) (c512_i32 : BitVec 32) : Fin 2 → Nat :=
  let c1_i32_17 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v26 : BitVec 32 := Scalar.subi c1_i32_17 v4
  let c128_i32_18 : BitVec 32 := 128#32
  let v27 : BitVec 32 := Scalar.muli v26 c128_i32_18
  let v28 : BitVec 32 := Scalar.addi c512_i32 v27
  let v154 : Index := Scalar.indexCast v28
  let c0_134 : Index := 0#32
  ![v154.toNat, 0]
def k0_off15 (d0 : Dev nD) (c512_i32 : BitVec 32) : Fin 2 → Nat :=
  let c1_i32_17 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v26 : BitVec 32 := Scalar.subi c1_i32_17 v4
  let c128_i32_18 : BitVec 32 := 128#32
  let v27 : BitVec 32 := Scalar.muli v26 c128_i32_18
  let v28 : BitVec 32 := Scalar.addi c512_i32 v27
  let c0_i32_144 : BitVec 32 := 0#32
  ![v28.toNat, 0]
def k0_dev6 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_140 : BitVec 32 := 1#32
  let v158 : BitVec 32 := Scalar.muli v15 c1_i32_140
  let v159 : BitVec 32 := Scalar.addi c0_i32_141 v158
  v159.toNat
def k0_dev7 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_159 : BitVec 32 := 1#32
  let v180 : BitVec 32 := Scalar.muli v11 c1_i32_159
  let v181 : BitVec 32 := Scalar.addi c0_i32_160 v180
  v181.toNat
def k0_dev8 (d0 : Dev nD) : Nat :=
  let c0_i32_179 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v12 : BitVec 32 := Scalar.muli c4_i32_7 v4
  let c3_i32 : BitVec 32 := 3#32
  let c4_i32 : BitVec 32 := 4#32
  let v3 : BitVec 32 := Scalar.remsi v2 c4_i32
  let v13 : BitVec 32 := Scalar.subi c3_i32 v3
  let v14 : BitVec 32 := Scalar.addi v12 v13
  let c1_i32_178 : BitVec 32 := 1#32
  let v202 : BitVec 32 := Scalar.muli v14 c1_i32_178
  let v203 : BitVec 32 := Scalar.addi c0_i32_179 v202
  v203.toNat
def k0_dev9 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_197 : BitVec 32 := 1#32
  let v224 : BitVec 32 := Scalar.muli v15 c1_i32_197
  let v225 : BitVec 32 := Scalar.addi c0_i32_198 v224
  v225.toNat
def k0_off16 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_11 : BitVec 32 := 128#32
  let v19 : BitVec 32 := Scalar.muli v8 c128_i32_11
  let v20 : BitVec 32 := Scalar.addi c0_i32_12 v19
  let v237 : Index := Scalar.indexCast v20
  let c0_206 : Index := 0#32
  ![v237.toNat, 0]
def k0_off17 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_11 : BitVec 32 := 128#32
  let v19 : BitVec 32 := Scalar.muli v8 c128_i32_11
  let v20 : BitVec 32 := Scalar.addi c0_i32_12 v19
  let v241 : Index := Scalar.indexCast v20
  let c0_210 : Index := 0#32
  ![v241.toNat, 0]
def k0_off18 (d0 : Dev nD) (c256_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c128_i32_15 : BitVec 32 := 128#32
  let v24 : BitVec 32 := Scalar.muli v10 c128_i32_15
  let v25 : BitVec 32 := Scalar.addi c256_i32_16 v24
  let v249 : Index := Scalar.indexCast v25
  let c0_215 : Index := 0#32
  ![v249.toNat, 0]
def k0_off19 (d0 : Dev nD) (c256_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c128_i32_15 : BitVec 32 := 128#32
  let v24 : BitVec 32 := Scalar.muli v10 c128_i32_15
  let v25 : BitVec 32 := Scalar.addi c256_i32_16 v24
  let v253 : Index := Scalar.indexCast v25
  let c0_219 : Index := 0#32
  ![v253.toNat, 0]
def k0_off20 (d0 : Dev nD) (c512_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c128_i32_19 : BitVec 32 := 128#32
  let v29 : BitVec 32 := Scalar.muli v4 c128_i32_19
  let v30 : BitVec 32 := Scalar.addi c512_i32_20 v29
  let v261 : Index := Scalar.indexCast v30
  let c0_224 : Index := 0#32
  ![v261.toNat, 0]
def k0_off21 (d0 : Dev nD) (c512_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c128_i32_19 : BitVec 32 := 128#32
  let v29 : BitVec 32 := Scalar.muli v4 c128_i32_19
  let v30 : BitVec 32 := Scalar.addi c512_i32_20 v29
  let v265 : Index := Scalar.indexCast v30
  let c0_228 : Index := 0#32
  ![v265.toNat, 0]
def k0_off22 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_11 : BitVec 32 := 128#32
  let v19 : BitVec 32 := Scalar.muli v8 c128_i32_11
  let v20 : BitVec 32 := Scalar.addi c0_i32_12 v19
  let c1_i32_275 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v317 : BitVec 32 := Scalar.subi c1_i32_275 v10
  let c64_i32 : BitVec 32 := 64#32
  let v318 : BitVec 32 := Scalar.muli v317 c64_i32
  let v319 : BitVec 32 := Scalar.addi v20 v318
  let v322 : Index := Scalar.indexCast v319
  let c0_277 : Index := 0#32
  ![v322.toNat, 0]
def k0_off23 (d0 : Dev nD) : Fin 3 → Nat :=
  let c0_278 : Index := 0#32
  let c1_i32_275 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v317 : BitVec 32 := Scalar.subi c1_i32_275 v10
  let c64_i32 : BitVec 32 := 64#32
  let v318 : BitVec 32 := Scalar.muli v317 c64_i32
  let v324 : Index := Scalar.indexCast v318
  let c0_279 : Index := 0#32
  ![0, v324.toNat, 0]
def k0_off24 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_11 : BitVec 32 := 128#32
  let v19 : BitVec 32 := Scalar.muli v8 c128_i32_11
  let v20 : BitVec 32 := Scalar.addi c0_i32_12 v19
  let c1_i32_275 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v317 : BitVec 32 := Scalar.subi c1_i32_275 v10
  let c64_i32 : BitVec 32 := 64#32
  let v318 : BitVec 32 := Scalar.muli v317 c64_i32
  let v319 : BitVec 32 := Scalar.addi v20 v318
  let c0_i32_290 : BitVec 32 := 0#32
  ![v319.toNat, 0]
def k0_dev10 (d0 : Dev nD) : Nat :=
  let c0_i32_287 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v12 : BitVec 32 := Scalar.muli c4_i32_7 v4
  let c3_i32 : BitVec 32 := 3#32
  let c4_i32 : BitVec 32 := 4#32
  let v3 : BitVec 32 := Scalar.remsi v2 c4_i32
  let v13 : BitVec 32 := Scalar.subi c3_i32 v3
  let v14 : BitVec 32 := Scalar.addi v12 v13
  let c1_i32_286 : BitVec 32 := 1#32
  let v334 : BitVec 32 := Scalar.muli v14 c1_i32_286
  let v335 : BitVec 32 := Scalar.addi c0_i32_287 v334
  v335.toNat
def k0_off25 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_11 : BitVec 32 := 128#32
  let v19 : BitVec 32 := Scalar.muli v8 c128_i32_11
  let v20 : BitVec 32 := Scalar.addi c0_i32_12 v19
  let c64_i32_276 : BitVec 32 := 64#32
  let c1_i32_275 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v317 : BitVec 32 := Scalar.subi c1_i32_275 v10
  let c64_i32 : BitVec 32 := 64#32
  let v318 : BitVec 32 := Scalar.muli v317 c64_i32
  let v320 : BitVec 32 := Scalar.subi c64_i32_276 v318
  let v321 : BitVec 32 := Scalar.addi v20 v320
  let v343 : Index := Scalar.indexCast v321
  let c0_291 : Index := 0#32
  ![v343.toNat, 0]
def k0_off26 (d0 : Dev nD) : Fin 3 → Nat :=
  let c0_293 : Index := 0#32
  let c64_i32_292 : BitVec 32 := 64#32
  let c1_i32_275 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v317 : BitVec 32 := Scalar.subi c1_i32_275 v10
  let c64_i32 : BitVec 32 := 64#32
  let v318 : BitVec 32 := Scalar.muli v317 c64_i32
  let v345 : BitVec 32 := Scalar.subi c64_i32_292 v318
  let v346 : Index := Scalar.indexCast v345
  let c0_294 : Index := 0#32
  ![0, v346.toNat, 0]
def k0_off27 (d0 : Dev nD) (c256_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c128_i32_15 : BitVec 32 := 128#32
  let v24 : BitVec 32 := Scalar.muli v10 c128_i32_15
  let v25 : BitVec 32 := Scalar.addi c256_i32_16 v24
  let c1_i32_316 : BitVec 32 := 1#32
  let c4_i32_0 : BitVec 32 := 4#32
  let v4 : BitVec 32 := Scalar.divsi v2 c4_i32_0
  let v369 : BitVec 32 := Scalar.subi c1_i32_316 v4
  let c64_i32_317 : BitVec 32 := 64#32
  let v370 : BitVec 32 := Scalar.muli v369 c64_i32_317
  let v371 : BitVec 32 := Scalar.addi v25 v370
  let v374 : Index := Scalar.indexCast v371
  let c0_319 : Index := 0#32
  ![v374.toNat, 0]
def k0_off28 (d0 : Dev nD) : Fin 3 → Nat :=
  let c1 : Index := 1#32
  let c1_i32_316 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v369 : BitVec 32 := Scalar.subi c1_i32_316 v4
  let c64_i32_317 : BitVec 32 := 64#32
  let v370 : BitVec 32 := Scalar.muli v369 c64_i32_317
  let v376 : Index := Scalar.indexCast v370
  let c0_320 : Index := 0#32
  ![1, v376.toNat, 0]
def k0_off29 (d0 : Dev nD) (c256_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c128_i32_15 : BitVec 32 := 128#32
  let v24 : BitVec 32 := Scalar.muli v10 c128_i32_15
  let v25 : BitVec 32 := Scalar.addi c256_i32_16 v24
  let c1_i32_316 : BitVec 32 := 1#32
  let c4_i32_0 : BitVec 32 := 4#32
  let v4 : BitVec 32 := Scalar.divsi v2 c4_i32_0
  let v369 : BitVec 32 := Scalar.subi c1_i32_316 v4
  let c64_i32_317 : BitVec 32 := 64#32
  let v370 : BitVec 32 := Scalar.muli v369 c64_i32_317
  let v371 : BitVec 32 := Scalar.addi v25 v370
  let c0_i32_331 : BitVec 32 := 0#32
  ![v371.toNat, 0]
def k0_dev11 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_327 : BitVec 32 := 1#32
  let v386 : BitVec 32 := Scalar.muli v15 c1_i32_327
  let v387 : BitVec 32 := Scalar.addi c0_i32_328 v386
  v387.toNat
def k0_off30 (d0 : Dev nD) (c256_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c128_i32_15 : BitVec 32 := 128#32
  let v24 : BitVec 32 := Scalar.muli v10 c128_i32_15
  let v25 : BitVec 32 := Scalar.addi c256_i32_16 v24
  let c64_i32_318 : BitVec 32 := 64#32
  let c1_i32_316 : BitVec 32 := 1#32
  let c4_i32_0 : BitVec 32 := 4#32
  let v4 : BitVec 32 := Scalar.divsi v2 c4_i32_0
  let v369 : BitVec 32 := Scalar.subi c1_i32_316 v4
  let c64_i32_317 : BitVec 32 := 64#32
  let v370 : BitVec 32 := Scalar.muli v369 c64_i32_317
  let v372 : BitVec 32 := Scalar.subi c64_i32_318 v370
  let v373 : BitVec 32 := Scalar.addi v25 v372
  let v395 : Index := Scalar.indexCast v373
  let c0_332 : Index := 0#32
  ![v395.toNat, 0]
def k0_off31 (d0 : Dev nD) : Fin 3 → Nat :=
  let c1_334 : Index := 1#32
  let c64_i32_333 : BitVec 32 := 64#32
  let c1_i32_316 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v369 : BitVec 32 := Scalar.subi c1_i32_316 v4
  let c64_i32_317 : BitVec 32 := 64#32
  let v370 : BitVec 32 := Scalar.muli v369 c64_i32_317
  let v397 : BitVec 32 := Scalar.subi c64_i32_333 v370
  let v398 : Index := Scalar.indexCast v397
  let c0_335 : Index := 0#32
  ![1, v398.toNat, 0]
def k0_off32 (d0 : Dev nD) (c512_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c128_i32_19 : BitVec 32 := 128#32
  let v29 : BitVec 32 := Scalar.muli v4 c128_i32_19
  let v30 : BitVec 32 := Scalar.addi c512_i32_20 v29
  let c1_i32_357 : BitVec 32 := 1#32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v421 : BitVec 32 := Scalar.subi c1_i32_357 v8
  let c64_i32_358 : BitVec 32 := 64#32
  let v422 : BitVec 32 := Scalar.muli v421 c64_i32_358
  let v423 : BitVec 32 := Scalar.addi v30 v422
  let v426 : Index := Scalar.indexCast v423
  let c0_360 : Index := 0#32
  ![v426.toNat, 0]
def k0_off33 (d0 : Dev nD) : Fin 3 → Nat :=
  let c2 : Index := 2#32
  let c1_i32_357 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v421 : BitVec 32 := Scalar.subi c1_i32_357 v8
  let c64_i32_358 : BitVec 32 := 64#32
  let v422 : BitVec 32 := Scalar.muli v421 c64_i32_358
  let v428 : Index := Scalar.indexCast v422
  let c0_361 : Index := 0#32
  ![2, v428.toNat, 0]
def k0_off34 (d0 : Dev nD) (c512_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c128_i32_19 : BitVec 32 := 128#32
  let v29 : BitVec 32 := Scalar.muli v4 c128_i32_19
  let v30 : BitVec 32 := Scalar.addi c512_i32_20 v29
  let c1_i32_357 : BitVec 32 := 1#32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v421 : BitVec 32 := Scalar.subi c1_i32_357 v8
  let c64_i32_358 : BitVec 32 := 64#32
  let v422 : BitVec 32 := Scalar.muli v421 c64_i32_358
  let v423 : BitVec 32 := Scalar.addi v30 v422
  let c0_i32_372 : BitVec 32 := 0#32
  ![v423.toNat, 0]
def k0_dev12 (d0 : Dev nD) : Nat :=
  let c0_i32_369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_368 : BitVec 32 := 1#32
  let v438 : BitVec 32 := Scalar.muli v11 c1_i32_368
  let v439 : BitVec 32 := Scalar.addi c0_i32_369 v438
  v439.toNat
def k0_off35 (d0 : Dev nD) (c512_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c128_i32_19 : BitVec 32 := 128#32
  let v29 : BitVec 32 := Scalar.muli v4 c128_i32_19
  let v30 : BitVec 32 := Scalar.addi c512_i32_20 v29
  let c64_i32_359 : BitVec 32 := 64#32
  let c1_i32_357 : BitVec 32 := 1#32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v421 : BitVec 32 := Scalar.subi c1_i32_357 v8
  let c64_i32_358 : BitVec 32 := 64#32
  let v422 : BitVec 32 := Scalar.muli v421 c64_i32_358
  let v424 : BitVec 32 := Scalar.subi c64_i32_359 v422
  let v425 : BitVec 32 := Scalar.addi v30 v424
  let v447 : Index := Scalar.indexCast v425
  let c0_373 : Index := 0#32
  ![v447.toNat, 0]
def k0_off36 (d0 : Dev nD) : Fin 3 → Nat :=
  let c2_375 : Index := 2#32
  let c64_i32_374 : BitVec 32 := 64#32
  let c1_i32_357 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v421 : BitVec 32 := Scalar.subi c1_i32_357 v8
  let c64_i32_358 : BitVec 32 := 64#32
  let v422 : BitVec 32 := Scalar.muli v421 c64_i32_358
  let v449 : BitVec 32 := Scalar.subi c64_i32_374 v422
  let v450 : Index := Scalar.indexCast v449
  let c0_376 : Index := 0#32
  ![2, v450.toNat, 0]
def k0_off37 (d0 : Dev nD) : Fin 3 → Nat :=
  let c3 : Index := 3#32
  let c1_i32_398 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v473 : BitVec 32 := Scalar.subi c1_i32_398 v10
  let c64_i32_399 : BitVec 32 := 64#32
  let v474 : BitVec 32 := Scalar.muli v473 c64_i32_399
  let v480 : Index := Scalar.indexCast v474
  let c0_402 : Index := 0#32
  ![3, v480.toNat, 0]
def k0_dev13 (d0 : Dev nD) : Nat :=
  let c0_i32_410 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v12 : BitVec 32 := Scalar.muli c4_i32_7 v4
  let c3_i32 : BitVec 32 := 3#32
  let c4_i32 : BitVec 32 := 4#32
  let v3 : BitVec 32 := Scalar.remsi v2 c4_i32
  let v13 : BitVec 32 := Scalar.subi c3_i32 v3
  let v14 : BitVec 32 := Scalar.addi v12 v13
  let c1_i32_409 : BitVec 32 := 1#32
  let v490 : BitVec 32 := Scalar.muli v14 c1_i32_409
  let v491 : BitVec 32 := Scalar.addi c0_i32_410 v490
  v491.toNat
def k0_off38 (d0 : Dev nD) : Fin 3 → Nat :=
  let c3_416 : Index := 3#32
  let c64_i32_415 : BitVec 32 := 64#32
  let c1_i32_398 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v473 : BitVec 32 := Scalar.subi c1_i32_398 v10
  let c64_i32_399 : BitVec 32 := 64#32
  let v474 : BitVec 32 := Scalar.muli v473 c64_i32_399
  let v501 : BitVec 32 := Scalar.subi c64_i32_415 v474
  let v502 : Index := Scalar.indexCast v501
  let c0_417 : Index := 0#32
  ![3, v502.toNat, 0]
def k0_off39 (d0 : Dev nD) : Fin 3 → Nat :=
  let c4 : Index := 4#32
  let c1_i32_439 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v525 : BitVec 32 := Scalar.subi c1_i32_439 v4
  let c64_i32_440 : BitVec 32 := 64#32
  let v526 : BitVec 32 := Scalar.muli v525 c64_i32_440
  let v532 : Index := Scalar.indexCast v526
  let c0_443 : Index := 0#32
  ![4, v532.toNat, 0]
def k0_dev14 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_450 : BitVec 32 := 1#32
  let v542 : BitVec 32 := Scalar.muli v15 c1_i32_450
  let v543 : BitVec 32 := Scalar.addi c0_i32_451 v542
  v543.toNat
def k0_off40 (d0 : Dev nD) : Fin 3 → Nat :=
  let c4_457 : Index := 4#32
  let c64_i32_456 : BitVec 32 := 64#32
  let c1_i32_439 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v525 : BitVec 32 := Scalar.subi c1_i32_439 v4
  let c64_i32_440 : BitVec 32 := 64#32
  let v526 : BitVec 32 := Scalar.muli v525 c64_i32_440
  let v553 : BitVec 32 := Scalar.subi c64_i32_456 v526
  let v554 : Index := Scalar.indexCast v553
  let c0_458 : Index := 0#32
  ![4, v554.toNat, 0]
def k0_off41 (d0 : Dev nD) : Fin 3 → Nat :=
  let c5 : Index := 5#32
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v577 : BitVec 32 := Scalar.subi c1_i32_480 v8
  let c64_i32_481 : BitVec 32 := 64#32
  let v578 : BitVec 32 := Scalar.muli v577 c64_i32_481
  let v584 : Index := Scalar.indexCast v578
  let c0_484 : Index := 0#32
  ![5, v584.toNat, 0]
def k0_dev15 (d0 : Dev nD) : Nat :=
  let c0_i32_492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_491 : BitVec 32 := 1#32
  let v594 : BitVec 32 := Scalar.muli v11 c1_i32_491
  let v595 : BitVec 32 := Scalar.addi c0_i32_492 v594
  v595.toNat
def k0_off42 (d0 : Dev nD) : Fin 3 → Nat :=
  let c5_498 : Index := 5#32
  let c64_i32_497 : BitVec 32 := 64#32
  let c1_i32_480 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v577 : BitVec 32 := Scalar.subi c1_i32_480 v8
  let c64_i32_481 : BitVec 32 := 64#32
  let v578 : BitVec 32 := Scalar.muli v577 c64_i32_481
  let v605 : BitVec 32 := Scalar.subi c64_i32_497 v578
  let v606 : Index := Scalar.indexCast v605
  let c0_499 : Index := 0#32
  ![5, v606.toNat, 0]
def k0_off43 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_11 : BitVec 32 := 128#32
  let v19 : BitVec 32 := Scalar.muli v8 c128_i32_11
  let v20 : BitVec 32 := Scalar.addi c0_i32_12 v19
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c64_i32_296 : BitVec 32 := 64#32
  let v355 : BitVec 32 := Scalar.muli v10 c64_i32_296
  let v356 : BitVec 32 := Scalar.addi v20 v355
  let v629 : Index := Scalar.indexCast v356
  let c0_521 : Index := 0#32
  ![v629.toNat, 0]
def k0_off44 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_11 : BitVec 32 := 128#32
  let v19 : BitVec 32 := Scalar.muli v8 c128_i32_11
  let v20 : BitVec 32 := Scalar.addi c0_i32_12 v19
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c64_i32_296 : BitVec 32 := 64#32
  let v355 : BitVec 32 := Scalar.muli v10 c64_i32_296
  let v356 : BitVec 32 := Scalar.addi v20 v355
  let c0_i32_536 : BitVec 32 := 0#32
  ![v356.toNat, 0]
def k0_dev16 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_532 : BitVec 32 := 1#32
  let v644 : BitVec 32 := Scalar.muli v15 c1_i32_532
  let v645 : BitVec 32 := Scalar.addi c0_i32_533 v644
  v645.toNat
def k0_off45 (d0 : Dev nD) (c256_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c128_i32_15 : BitVec 32 := 128#32
  let v24 : BitVec 32 := Scalar.muli v10 c128_i32_15
  let v25 : BitVec 32 := Scalar.addi c256_i32_16 v24
  let c4_i32_0 : BitVec 32 := 4#32
  let v4 : BitVec 32 := Scalar.divsi v2 c4_i32_0
  let c64_i32_337 : BitVec 32 := 64#32
  let v407 : BitVec 32 := Scalar.muli v4 c64_i32_337
  let v408 : BitVec 32 := Scalar.addi v25 v407
  let v665 : Index := Scalar.indexCast v408
  let c0_556 : Index := 0#32
  ![v665.toNat, 0]
def k0_off46 (d0 : Dev nD) (c256_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c128_i32_15 : BitVec 32 := 128#32
  let v24 : BitVec 32 := Scalar.muli v10 c128_i32_15
  let v25 : BitVec 32 := Scalar.addi c256_i32_16 v24
  let c4_i32_0 : BitVec 32 := 4#32
  let v4 : BitVec 32 := Scalar.divsi v2 c4_i32_0
  let c64_i32_337 : BitVec 32 := 64#32
  let v407 : BitVec 32 := Scalar.muli v4 c64_i32_337
  let v408 : BitVec 32 := Scalar.addi v25 v407
  let c0_i32_571 : BitVec 32 := 0#32
  ![v408.toNat, 0]
def k0_dev17 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_567 : BitVec 32 := 1#32
  let v680 : BitVec 32 := Scalar.muli v11 c1_i32_567
  let v681 : BitVec 32 := Scalar.addi c0_i32_568 v680
  v681.toNat
def k0_off47 (d0 : Dev nD) (c512_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c128_i32_19 : BitVec 32 := 128#32
  let v29 : BitVec 32 := Scalar.muli v4 c128_i32_19
  let v30 : BitVec 32 := Scalar.addi c512_i32_20 v29
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c64_i32_378 : BitVec 32 := 64#32
  let v459 : BitVec 32 := Scalar.muli v8 c64_i32_378
  let v460 : BitVec 32 := Scalar.addi v30 v459
  let v701 : Index := Scalar.indexCast v460
  let c0_591 : Index := 0#32
  ![v701.toNat, 0]
def k0_off48 (d0 : Dev nD) (c512_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c128_i32_19 : BitVec 32 := 128#32
  let v29 : BitVec 32 := Scalar.muli v4 c128_i32_19
  let v30 : BitVec 32 := Scalar.addi c512_i32_20 v29
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c64_i32_378 : BitVec 32 := 64#32
  let v459 : BitVec 32 := Scalar.muli v8 c64_i32_378
  let v460 : BitVec 32 := Scalar.addi v30 v459
  let c0_i32_606 : BitVec 32 := 0#32
  ![v460.toNat, 0]
def k0_dev18 (d0 : Dev nD) : Nat :=
  let c0_i32_603 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v12 : BitVec 32 := Scalar.muli c4_i32_7 v4
  let c3_i32 : BitVec 32 := 3#32
  let c4_i32 : BitVec 32 := 4#32
  let v3 : BitVec 32 := Scalar.remsi v2 c4_i32
  let v13 : BitVec 32 := Scalar.subi c3_i32 v3
  let v14 : BitVec 32 := Scalar.addi v12 v13
  let c1_i32_602 : BitVec 32 := 1#32
  let v716 : BitVec 32 := Scalar.muli v14 c1_i32_602
  let v717 : BitVec 32 := Scalar.addi c0_i32_603 v716
  v717.toNat
def k0_dev19 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_637 : BitVec 32 := 1#32
  let v752 : BitVec 32 := Scalar.muli v15 c1_i32_637
  let v753 : BitVec 32 := Scalar.addi c0_i32_638 v752
  v753.toNat
def k0_dev20 (d0 : Dev nD) : Nat :=
  let c0_i32_673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_672 : BitVec 32 := 1#32
  let v788 : BitVec 32 := Scalar.muli v11 c1_i32_672
  let v789 : BitVec 32 := Scalar.addi c0_i32_673 v788
  v789.toNat
def k0_dev21 (d0 : Dev nD) : Nat :=
  let c0_i32_708 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v12 : BitVec 32 := Scalar.muli c4_i32_7 v4
  let c3_i32 : BitVec 32 := 3#32
  let c4_i32 : BitVec 32 := 4#32
  let v3 : BitVec 32 := Scalar.remsi v2 c4_i32
  let v13 : BitVec 32 := Scalar.subi c3_i32 v3
  let v14 : BitVec 32 := Scalar.addi v12 v13
  let c1_i32_707 : BitVec 32 := 1#32
  let v824 : BitVec 32 := Scalar.muli v14 c1_i32_707
  let v825 : BitVec 32 := Scalar.addi c0_i32_708 v824
  v825.toNat
def k0_dev22 (d0 : Dev nD) : Nat :=
  let c0_i32_742 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v12 : BitVec 32 := Scalar.muli c4_i32_7 v4
  let c3_i32 : BitVec 32 := 3#32
  let c4_i32 : BitVec 32 := 4#32
  let v3 : BitVec 32 := Scalar.remsi v2 c4_i32
  let v13 : BitVec 32 := Scalar.subi c3_i32 v3
  let v14 : BitVec 32 := Scalar.addi v12 v13
  let c1_i32_741 : BitVec 32 := 1#32
  let v860 : BitVec 32 := Scalar.muli v14 c1_i32_741
  let v861 : BitVec 32 := Scalar.addi c0_i32_742 v860
  v861.toNat
def k0_dev23 (d0 : Dev nD) : Nat :=
  let c0_i32_783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_782 : BitVec 32 := 1#32
  let v905 : BitVec 32 := Scalar.muli v15 c1_i32_782
  let v906 : BitVec 32 := Scalar.addi c0_i32_783 v905
  v906.toNat
def k0_dev24 (d0 : Dev nD) : Nat :=
  let c0_i32_824 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_823 : BitVec 32 := 1#32
  let v950 : BitVec 32 := Scalar.muli v11 c1_i32_823
  let v951 : BitVec 32 := Scalar.addi c0_i32_824 v950
  v951.toNat
def k0_dev25 (d0 : Dev nD) : Nat :=
  let c0_i32_865 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v12 : BitVec 32 := Scalar.muli c4_i32_7 v4
  let c3_i32 : BitVec 32 := 3#32
  let c4_i32 : BitVec 32 := 4#32
  let v3 : BitVec 32 := Scalar.remsi v2 c4_i32
  let v13 : BitVec 32 := Scalar.subi c3_i32 v3
  let v14 : BitVec 32 := Scalar.addi v12 v13
  let c1_i32_864 : BitVec 32 := 1#32
  let v995 : BitVec 32 := Scalar.muli v14 c1_i32_864
  let v996 : BitVec 32 := Scalar.addi c0_i32_865 v995
  v996.toNat
def k0_dev26 (d0 : Dev nD) : Nat :=
  let c0_i32_906 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_905 : BitVec 32 := 1#32
  let v1040 : BitVec 32 := Scalar.muli v15 c1_i32_905
  let v1041 : BitVec 32 := Scalar.addi c0_i32_906 v1040
  v1041.toNat
def k0_dev27 (d0 : Dev nD) : Nat :=
  let c0_i32_947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_946 : BitVec 32 := 1#32
  let v1085 : BitVec 32 := Scalar.muli v11 c1_i32_946
  let v1086 : BitVec 32 := Scalar.addi c0_i32_947 v1085
  v1086.toNat
def k0_off49 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_11 : BitVec 32 := 128#32
  let v19 : BitVec 32 := Scalar.muli v8 c128_i32_11
  let v20 : BitVec 32 := Scalar.addi c0_i32_12 v19
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c64_i32_296 : BitVec 32 := 64#32
  let v355 : BitVec 32 := Scalar.muli v10 c64_i32_296
  let v356 : BitVec 32 := Scalar.addi v20 v355
  let c64_i32_752 : BitVec 32 := 64#32
  let v876 : BitVec 32 := Scalar.muli v10 c64_i32_752
  let v877 : BitVec 32 := Scalar.subi v356 v876
  let c0_i32_979 : BitVec 32 := 0#32
  ![v877.toNat, 0]
def k0_dev28 (d0 : Dev nD) : Nat :=
  let c0_i32_978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_977 : BitVec 32 := 1#32
  let v1113 : BitVec 32 := Scalar.muli v11 c1_i32_977
  let v1114 : BitVec 32 := Scalar.addi c0_i32_978 v1113
  v1114.toNat
def k0_off50 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_11 : BitVec 32 := 128#32
  let v19 : BitVec 32 := Scalar.muli v8 c128_i32_11
  let v20 : BitVec 32 := Scalar.addi c0_i32_12 v19
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c64_i32_296 : BitVec 32 := 64#32
  let v355 : BitVec 32 := Scalar.muli v10 c64_i32_296
  let v356 : BitVec 32 := Scalar.addi v20 v355
  let c1_i32_750 : BitVec 32 := 1#32
  let c2_i32_749 : BitVec 32 := 2#32
  let v872 : BitVec 32 := Scalar.muli c2_i32_749 v10
  let v873 : BitVec 32 := Scalar.subi c1_i32_750 v872
  let c64_i32_751 : BitVec 32 := 64#32
  let v874 : BitVec 32 := Scalar.muli v873 c64_i32_751
  let v875 : BitVec 32 := Scalar.addi v356 v874
  let v1125 : Index := Scalar.indexCast v875
  let c0_984 : Index := 0#32
  ![v1125.toNat, 0]
def k0_off51 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_11 : BitVec 32 := 128#32
  let v19 : BitVec 32 := Scalar.muli v8 c128_i32_11
  let v20 : BitVec 32 := Scalar.addi c0_i32_12 v19
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c64_i32_296 : BitVec 32 := 64#32
  let v355 : BitVec 32 := Scalar.muli v10 c64_i32_296
  let v356 : BitVec 32 := Scalar.addi v20 v355
  let c1_i32_750 : BitVec 32 := 1#32
  let c2_i32_749 : BitVec 32 := 2#32
  let v872 : BitVec 32 := Scalar.muli c2_i32_749 v10
  let v873 : BitVec 32 := Scalar.subi c1_i32_750 v872
  let c64_i32_751 : BitVec 32 := 64#32
  let v874 : BitVec 32 := Scalar.muli v873 c64_i32_751
  let v875 : BitVec 32 := Scalar.addi v356 v874
  let c0_i32_988 : BitVec 32 := 0#32
  ![v875.toNat, 0]
def k0_off52 (d0 : Dev nD) (c256_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c128_i32_15 : BitVec 32 := 128#32
  let v24 : BitVec 32 := Scalar.muli v10 c128_i32_15
  let v25 : BitVec 32 := Scalar.addi c256_i32_16 v24
  let c4_i32_0 : BitVec 32 := 4#32
  let v4 : BitVec 32 := Scalar.divsi v2 c4_i32_0
  let c64_i32_337 : BitVec 32 := 64#32
  let v407 : BitVec 32 := Scalar.muli v4 c64_i32_337
  let v408 : BitVec 32 := Scalar.addi v25 v407
  let c64_i32_793 : BitVec 32 := 64#32
  let v921 : BitVec 32 := Scalar.muli v4 c64_i32_793
  let v922 : BitVec 32 := Scalar.subi v408 v921
  let c0_i32_1011 : BitVec 32 := 0#32
  ![v922.toNat, 0]
def k0_dev29 (d0 : Dev nD) : Nat :=
  let c0_i32_1010 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v12 : BitVec 32 := Scalar.muli c4_i32_7 v4
  let c3_i32 : BitVec 32 := 3#32
  let c4_i32 : BitVec 32 := 4#32
  let v3 : BitVec 32 := Scalar.remsi v2 c4_i32
  let v13 : BitVec 32 := Scalar.subi c3_i32 v3
  let v14 : BitVec 32 := Scalar.addi v12 v13
  let c1_i32_1009 : BitVec 32 := 1#32
  let v1146 : BitVec 32 := Scalar.muli v14 c1_i32_1009
  let v1147 : BitVec 32 := Scalar.addi c0_i32_1010 v1146
  v1147.toNat
def k0_off53 (d0 : Dev nD) (c256_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c128_i32_15 : BitVec 32 := 128#32
  let v24 : BitVec 32 := Scalar.muli v10 c128_i32_15
  let v25 : BitVec 32 := Scalar.addi c256_i32_16 v24
  let c4_i32_0 : BitVec 32 := 4#32
  let v4 : BitVec 32 := Scalar.divsi v2 c4_i32_0
  let c64_i32_337 : BitVec 32 := 64#32
  let v407 : BitVec 32 := Scalar.muli v4 c64_i32_337
  let v408 : BitVec 32 := Scalar.addi v25 v407
  let c1_i32_791 : BitVec 32 := 1#32
  let c2_i32_790 : BitVec 32 := 2#32
  let v917 : BitVec 32 := Scalar.muli c2_i32_790 v4
  let v918 : BitVec 32 := Scalar.subi c1_i32_791 v917
  let c64_i32_792 : BitVec 32 := 64#32
  let v919 : BitVec 32 := Scalar.muli v918 c64_i32_792
  let v920 : BitVec 32 := Scalar.addi v408 v919
  let v1158 : Index := Scalar.indexCast v920
  let c0_1016 : Index := 0#32
  ![v1158.toNat, 0]
def k0_off54 (d0 : Dev nD) (c256_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c128_i32_15 : BitVec 32 := 128#32
  let v24 : BitVec 32 := Scalar.muli v10 c128_i32_15
  let v25 : BitVec 32 := Scalar.addi c256_i32_16 v24
  let c4_i32_0 : BitVec 32 := 4#32
  let v4 : BitVec 32 := Scalar.divsi v2 c4_i32_0
  let c64_i32_337 : BitVec 32 := 64#32
  let v407 : BitVec 32 := Scalar.muli v4 c64_i32_337
  let v408 : BitVec 32 := Scalar.addi v25 v407
  let c1_i32_791 : BitVec 32 := 1#32
  let c2_i32_790 : BitVec 32 := 2#32
  let v917 : BitVec 32 := Scalar.muli c2_i32_790 v4
  let v918 : BitVec 32 := Scalar.subi c1_i32_791 v917
  let c64_i32_792 : BitVec 32 := 64#32
  let v919 : BitVec 32 := Scalar.muli v918 c64_i32_792
  let v920 : BitVec 32 := Scalar.addi v408 v919
  let c0_i32_1020 : BitVec 32 := 0#32
  ![v920.toNat, 0]
def k0_off55 (d0 : Dev nD) (c512_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c128_i32_19 : BitVec 32 := 128#32
  let v29 : BitVec 32 := Scalar.muli v4 c128_i32_19
  let v30 : BitVec 32 := Scalar.addi c512_i32_20 v29
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c64_i32_378 : BitVec 32 := 64#32
  let v459 : BitVec 32 := Scalar.muli v8 c64_i32_378
  let v460 : BitVec 32 := Scalar.addi v30 v459
  let c64_i32_834 : BitVec 32 := 64#32
  let v966 : BitVec 32 := Scalar.muli v8 c64_i32_834
  let v967 : BitVec 32 := Scalar.subi v460 v966
  let c0_i32_1043 : BitVec 32 := 0#32
  ![v967.toNat, 0]
def k0_dev30 (d0 : Dev nD) : Nat :=
  let c0_i32_1042 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_1041 : BitVec 32 := 1#32
  let v1179 : BitVec 32 := Scalar.muli v15 c1_i32_1041
  let v1180 : BitVec 32 := Scalar.addi c0_i32_1042 v1179
  v1180.toNat
def k0_off56 (d0 : Dev nD) (c512_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c128_i32_19 : BitVec 32 := 128#32
  let v29 : BitVec 32 := Scalar.muli v4 c128_i32_19
  let v30 : BitVec 32 := Scalar.addi c512_i32_20 v29
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c64_i32_378 : BitVec 32 := 64#32
  let v459 : BitVec 32 := Scalar.muli v8 c64_i32_378
  let v460 : BitVec 32 := Scalar.addi v30 v459
  let c1_i32_832 : BitVec 32 := 1#32
  let c2_i32_831 : BitVec 32 := 2#32
  let v962 : BitVec 32 := Scalar.muli c2_i32_831 v8
  let v963 : BitVec 32 := Scalar.subi c1_i32_832 v962
  let c64_i32_833 : BitVec 32 := 64#32
  let v964 : BitVec 32 := Scalar.muli v963 c64_i32_833
  let v965 : BitVec 32 := Scalar.addi v460 v964
  let v1191 : Index := Scalar.indexCast v965
  let c0_1048 : Index := 0#32
  ![v1191.toNat, 0]
def k0_off57 (d0 : Dev nD) (c512_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c128_i32_19 : BitVec 32 := 128#32
  let v29 : BitVec 32 := Scalar.muli v4 c128_i32_19
  let v30 : BitVec 32 := Scalar.addi c512_i32_20 v29
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c64_i32_378 : BitVec 32 := 64#32
  let v459 : BitVec 32 := Scalar.muli v8 c64_i32_378
  let v460 : BitVec 32 := Scalar.addi v30 v459
  let c1_i32_832 : BitVec 32 := 1#32
  let c2_i32_831 : BitVec 32 := 2#32
  let v962 : BitVec 32 := Scalar.muli c2_i32_831 v8
  let v963 : BitVec 32 := Scalar.subi c1_i32_832 v962
  let c64_i32_833 : BitVec 32 := 64#32
  let v964 : BitVec 32 := Scalar.muli v963 c64_i32_833
  let v965 : BitVec 32 := Scalar.addi v460 v964
  let c0_i32_1052 : BitVec 32 := 0#32
  ![v965.toNat, 0]
def k0_dev31 (d0 : Dev nD) : Nat :=
  let c0_i32_1074 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_1073 : BitVec 32 := 1#32
  let v1212 : BitVec 32 := Scalar.muli v11 c1_i32_1073
  let v1213 : BitVec 32 := Scalar.addi c0_i32_1074 v1212
  v1213.toNat
def k0_dev32 (d0 : Dev nD) : Nat :=
  let c0_i32_1106 : BitVec 32 := 0#32
  let c4_i32_7 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v12 : BitVec 32 := Scalar.muli c4_i32_7 v4
  let c3_i32 : BitVec 32 := 3#32
  let c4_i32 : BitVec 32 := 4#32
  let v3 : BitVec 32 := Scalar.remsi v2 c4_i32
  let v13 : BitVec 32 := Scalar.subi c3_i32 v3
  let v14 : BitVec 32 := Scalar.addi v12 v13
  let c1_i32_1105 : BitVec 32 := 1#32
  let v1245 : BitVec 32 := Scalar.muli v14 c1_i32_1105
  let v1246 : BitVec 32 := Scalar.addi c0_i32_1106 v1245
  v1246.toNat
def k0_dev33 (d0 : Dev nD) : Nat :=
  let c0_i32_1138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v15 : BitVec 32 := Scalar.xori v2 c4_i32_8
  let c1_i32_1137 : BitVec 32 := 1#32
  let v1278 : BitVec 32 := Scalar.muli v15 c1_i32_1137
  let v1279 : BitVec 32 := Scalar.addi c0_i32_1138 v1278
  v1279.toNat
def k0_off58 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_11 : BitVec 32 := 128#32
  let v19 : BitVec 32 := Scalar.muli v8 c128_i32_11
  let v20 : BitVec 32 := Scalar.addi c0_i32_12 v19
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c64_i32_296 : BitVec 32 := 64#32
  let v355 : BitVec 32 := Scalar.muli v10 c64_i32_296
  let v356 : BitVec 32 := Scalar.addi v20 v355
  let c64_i32_752 : BitVec 32 := 64#32
  let v876 : BitVec 32 := Scalar.muli v10 c64_i32_752
  let v877 : BitVec 32 := Scalar.subi v356 v876
  let c1_i32_982 : BitVec 32 := 1#32
  let c2_i32_981 : BitVec 32 := 2#32
  let v1121 : BitVec 32 := Scalar.muli c2_i32_981 v8
  let v1122 : BitVec 32 := Scalar.subi c1_i32_982 v1121
  let c128_i32_983 : BitVec 32 := 128#32
  let v1123 : BitVec 32 := Scalar.muli v1122 c128_i32_983
  let v1124 : BitVec 32 := Scalar.addi v877 v1123
  let v1311 : Index := Scalar.indexCast v1124
  let c0_1165 : Index := 0#32
  ![v1311.toNat, 0]
def k0_off59 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_11 : BitVec 32 := 128#32
  let v19 : BitVec 32 := Scalar.muli v8 c128_i32_11
  let v20 : BitVec 32 := Scalar.addi c0_i32_12 v19
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c64_i32_296 : BitVec 32 := 64#32
  let v355 : BitVec 32 := Scalar.muli v10 c64_i32_296
  let v356 : BitVec 32 := Scalar.addi v20 v355
  let c64_i32_752 : BitVec 32 := 64#32
  let v876 : BitVec 32 := Scalar.muli v10 c64_i32_752
  let v877 : BitVec 32 := Scalar.subi v356 v876
  let c1_i32_982 : BitVec 32 := 1#32
  let c2_i32_981 : BitVec 32 := 2#32
  let v1121 : BitVec 32 := Scalar.muli c2_i32_981 v8
  let v1122 : BitVec 32 := Scalar.subi c1_i32_982 v1121
  let c128_i32_983 : BitVec 32 := 128#32
  let v1123 : BitVec 32 := Scalar.muli v1122 c128_i32_983
  let v1124 : BitVec 32 := Scalar.addi v877 v1123
  let c0_i32_1169 : BitVec 32 := 0#32
  ![v1124.toNat, 0]
def k0_off60 (d0 : Dev nD) (c256_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c128_i32_15 : BitVec 32 := 128#32
  let v24 : BitVec 32 := Scalar.muli v10 c128_i32_15
  let v25 : BitVec 32 := Scalar.addi c256_i32_16 v24
  let c4_i32_0 : BitVec 32 := 4#32
  let v4 : BitVec 32 := Scalar.divsi v2 c4_i32_0
  let c64_i32_337 : BitVec 32 := 64#32
  let v407 : BitVec 32 := Scalar.muli v4 c64_i32_337
  let v408 : BitVec 32 := Scalar.addi v25 v407
  let c64_i32_793 : BitVec 32 := 64#32
  let v921 : BitVec 32 := Scalar.muli v4 c64_i32_793
  let v922 : BitVec 32 := Scalar.subi v408 v921
  let c1_i32_1014 : BitVec 32 := 1#32
  let c2_i32_1013 : BitVec 32 := 2#32
  let v1154 : BitVec 32 := Scalar.muli c2_i32_1013 v10
  let v1155 : BitVec 32 := Scalar.subi c1_i32_1014 v1154
  let c128_i32_1015 : BitVec 32 := 128#32
  let v1156 : BitVec 32 := Scalar.muli v1155 c128_i32_1015
  let v1157 : BitVec 32 := Scalar.addi v922 v1156
  let v1332 : Index := Scalar.indexCast v1157
  let c0_1186 : Index := 0#32
  ![v1332.toNat, 0]
def k0_off61 (d0 : Dev nD) (c256_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c128_i32_15 : BitVec 32 := 128#32
  let v24 : BitVec 32 := Scalar.muli v10 c128_i32_15
  let v25 : BitVec 32 := Scalar.addi c256_i32_16 v24
  let c4_i32_0 : BitVec 32 := 4#32
  let v4 : BitVec 32 := Scalar.divsi v2 c4_i32_0
  let c64_i32_337 : BitVec 32 := 64#32
  let v407 : BitVec 32 := Scalar.muli v4 c64_i32_337
  let v408 : BitVec 32 := Scalar.addi v25 v407
  let c64_i32_793 : BitVec 32 := 64#32
  let v921 : BitVec 32 := Scalar.muli v4 c64_i32_793
  let v922 : BitVec 32 := Scalar.subi v408 v921
  let c1_i32_1014 : BitVec 32 := 1#32
  let c2_i32_1013 : BitVec 32 := 2#32
  let v1154 : BitVec 32 := Scalar.muli c2_i32_1013 v10
  let v1155 : BitVec 32 := Scalar.subi c1_i32_1014 v1154
  let c128_i32_1015 : BitVec 32 := 128#32
  let v1156 : BitVec 32 := Scalar.muli v1155 c128_i32_1015
  let v1157 : BitVec 32 := Scalar.addi v922 v1156
  let c0_i32_1190 : BitVec 32 := 0#32
  ![v1157.toNat, 0]
def k0_off62 (d0 : Dev nD) (c512_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c128_i32_19 : BitVec 32 := 128#32
  let v29 : BitVec 32 := Scalar.muli v4 c128_i32_19
  let v30 : BitVec 32 := Scalar.addi c512_i32_20 v29
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c64_i32_378 : BitVec 32 := 64#32
  let v459 : BitVec 32 := Scalar.muli v8 c64_i32_378
  let v460 : BitVec 32 := Scalar.addi v30 v459
  let c64_i32_834 : BitVec 32 := 64#32
  let v966 : BitVec 32 := Scalar.muli v8 c64_i32_834
  let v967 : BitVec 32 := Scalar.subi v460 v966
  let c1_i32_1046 : BitVec 32 := 1#32
  let c2_i32_1045 : BitVec 32 := 2#32
  let v1187 : BitVec 32 := Scalar.muli c2_i32_1045 v4
  let v1188 : BitVec 32 := Scalar.subi c1_i32_1046 v1187
  let c128_i32_1047 : BitVec 32 := 128#32
  let v1189 : BitVec 32 := Scalar.muli v1188 c128_i32_1047
  let v1190 : BitVec 32 := Scalar.addi v967 v1189
  let v1353 : Index := Scalar.indexCast v1190
  let c0_1207 : Index := 0#32
  ![v1353.toNat, 0]
def k0_off63 (d0 : Dev nD) (c512_i32_20 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c128_i32_19 : BitVec 32 := 128#32
  let v29 : BitVec 32 := Scalar.muli v4 c128_i32_19
  let v30 : BitVec 32 := Scalar.addi c512_i32_20 v29
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c64_i32_378 : BitVec 32 := 64#32
  let v459 : BitVec 32 := Scalar.muli v8 c64_i32_378
  let v460 : BitVec 32 := Scalar.addi v30 v459
  let c64_i32_834 : BitVec 32 := 64#32
  let v966 : BitVec 32 := Scalar.muli v8 c64_i32_834
  let v967 : BitVec 32 := Scalar.subi v460 v966
  let c1_i32_1046 : BitVec 32 := 1#32
  let c2_i32_1045 : BitVec 32 := 2#32
  let v1187 : BitVec 32 := Scalar.muli c2_i32_1045 v4
  let v1188 : BitVec 32 := Scalar.subi c1_i32_1046 v1187
  let c128_i32_1047 : BitVec 32 := 128#32
  let v1189 : BitVec 32 := Scalar.muli v1188 c128_i32_1047
  let v1190 : BitVec 32 := Scalar.addi v967 v1189
  let c0_i32_1211 : BitVec 32 := 0#32
  ![v1190.toNat, 0]
-- ==== ReferenceIdeal.lean ====
abbrev S1536x6144 : Shape := ⟨2, ![1536, 6144]⟩
abbrev S6144x1536 : Shape := ⟨2, ![6144, 1536]⟩
abbrev S1536x1536 : Shape := ⟨2, ![1536, 1536]⟩

abbrev nBuf : Space → Nat
  | .hbm => 3
  | .vmem => 0
  | .smem => 0
  | _ => 0

abbrev bufTy : (tb : Table) → Fin (tcTables nBuf tb) → BufTy
  | .hbm, ⟨0, _⟩ => ⟨S1536x6144, .f32⟩
  | .hbm, ⟨1, _⟩ => ⟨S6144x1536, .f32⟩
  | .hbm, ⟨2, _⟩ => ⟨S1536x1536, .f32⟩
  | _, _ => ⟨S1536x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Common.lean ====
/-
  The eight devices as a 2 x 2 x 2 cube, the row blocks each device keeps and sends, the kernel's buffers and
  semaphores by name, and what a device holds of a row block.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.MemrefSat
public import Idealize.ShloMosaic.Lib.Tactic

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The cube -/

/-- A device's coordinate along axis `a` of the cube. -/
def bit (a : Fin 3) (c : Dev nD) : Fin 2 := match a with
  | 0 => if c.val % 4 = 1 ∨ c.val % 4 = 2 then 1 else 0
  | 1 => if 2 ≤ c.val % 4 then 1 else 0
  | 2 => if 4 ≤ c.val then 1 else 0

/-- The device across axis `a`. -/
def nbr (a : Fin 3) (c : Dev nD) : Dev nD := match a with
  | 0 => (![1, 0, 3, 2, 5, 4, 7, 6] : Fin 8 → Fin 8) c
  | 1 => (![3, 2, 1, 0, 7, 6, 5, 4] : Fin 8 → Fin 8) c
  | 2 => (![4, 5, 6, 7, 0, 1, 2, 3] : Fin 8 → Fin 8) c

/-- Crossing an axis twice comes back. -/
theorem nbr_nbr (a : Fin 3) (c : Dev nD) : nbr a (nbr a c) = c := by revert a c; decide +kernel

/-- Crossing an axis, as a permutation of the devices. -/
def across (a : Fin 3) : Dev nD ≃ Dev nD := ⟨nbr a, nbr a, nbr_nbr a, nbr_nbr a⟩

/-- The axis the `s`-th exchange of row group `g` crosses. -/
def axis (s : Fin 5) (g : Fin 6) : Fin 3 := match s with
  | 0 => ⟨g.val % 3, by omega⟩
  | 1 => ⟨(g.val + 1) % 3, by omega⟩
  | 2 => ⟨(g.val + 2) % 3, by omega⟩
  | 3 => ⟨(g.val + 1) % 3, by omega⟩
  | 4 => ⟨g.val % 3, by omega⟩

/-- The device the `s`-th exchange of row group `g` is with. -/
abbrev peer (s : Fin 5) (g : Fin 6) (c : Dev nD) : Dev nD := nbr (axis s g) c

/-- The half (of 128 rows) of group `g` a device keeps at the first exchange, and the one it sends. -/
def hk (c : Dev nD) (g : Fin 6) : Fin 12 := ⟨2 * g.val + (bit (axis 0 g) c).val, by omega⟩
def hs (c : Dev nD) (g : Fin 6) : Fin 12 := ⟨2 * g.val + (1 - (bit (axis 0 g) c).val), by omega⟩
/-- The quarter (of 64 rows) of group `g` a device keeps at the second exchange, and the one it sends. -/
def qk (c : Dev nD) (g : Fin 6) : Fin 24 := ⟨2 * (hk c g).val + (bit (axis 1 g) c).val, by omega⟩
def qs (c : Dev nD) (g : Fin 6) : Fin 24 := ⟨2 * (hk c g).val + (1 - (bit (axis 1 g) c).val), by omega⟩

/-- Across the first exchange the half that the neighbour keeps is the one sent to it. -/
theorem hk_peer0 (c : Dev nD) (g : Fin 6) : hk (peer 0 g c) g = hs c g := by revert c g; decide +kernel
/-- Across the first exchange the half that the neighbour sends is the one kept. -/
theorem hs_peer0 (c : Dev nD) (g : Fin 6) : hs (peer 0 g c) g = hk c g := by revert c g; decide +kernel
/-- Across the second exchange both keep the same half. -/
theorem hk_peer1 (c : Dev nD) (g : Fin 6) : hk (peer 1 g c) g = hk c g := by revert c g; decide +kernel
/-- Across the second exchange the quarter that the neighbour keeps is the one sent to it. -/
theorem qk_peer1 (c : Dev nD) (g : Fin 6) : qk (peer 1 g c) g = qs c g := by revert c g; decide +kernel
/-- Across the second exchange the quarter that the neighbour sends is the one kept. -/
theorem qs_peer1 (c : Dev nD) (g : Fin 6) : qs (peer 1 g c) g = qk c g := by revert c g; decide +kernel
/-- Across the third exchange both keep the same quarter. -/
theorem qk_peer2 (c : Dev nD) (g : Fin 6) : qk (peer 2 g c) g = qk c g := by revert c g; decide +kernel

/-! ## Row blocks -/

/-- A block of 128 rows lies inside the array. -/
theorem inbH (j : Fin 12) : ∀ a, (![128 * j.val, 0] : Fin 2 → ℕ) a + S128x1536.size a ≤ S1536x1536.size a := by
  intro a; fin_cases a
  · show 128 * j.val + 128 ≤ 1536; omega
  · show 0 + 1536 ≤ 1536; omega
/-- A block of 64 rows lies inside the array. -/
theorem inbQ (k : Fin 24) : ∀ a, (![64 * k.val, 0] : Fin 2 → ℕ) a + S64x1536.size a ≤ S1536x1536.size a := by
  intro a; fin_cases a
  · show 64 * k.val + 64 ≤ 1536; omega
  · show 0 + 1536 ≤ 1536; omega
/-- A block of 128 rows lies inside the left factor. -/
theorem inbA (j : Fin 12) : ∀ a, (![128 * j.val, 0] : Fin 2 → ℕ) a + S128x768.size a ≤ S1536x768.size a := by
  intro a; fin_cases a
  · show 128 * j.val + 128 ≤ 1536; omega
  · show 0 + 768 ≤ 768; omega

/-- Rows `128 j` to `128 j + 127` of a square array. -/
abbrev rH (j : Fin 12) : Rect S1536x1536 := Rect.unit (s := S1536x1536) ![128 * j.val, 0] S128x1536.size (inbH j)
/-- Rows `64 k` to `64 k + 63` of a square array. -/
abbrev rQ (k : Fin 24) : Rect S1536x1536 := Rect.unit (s := S1536x1536) ![64 * k.val, 0] S64x1536.size (inbQ k)
/-- Rows `128 j` to `128 j + 127` of the left factor. -/
abbrev rA (j : Fin 12) : Rect S1536x768 := Rect.unit (s := S1536x768) ![128 * j.val, 0] S128x768.size (inbA j)

/-! ## Buffers and semaphores -/

abbrev aM : Memref sig .tc .hbm S1536x768 .f32 := Memref.whole main_arg0
abbrev bM : Memref sig .tc .hbm S768x1536 .f32 := Memref.whole main_arg1
abbrev oM : Memref sig .tc .hbm S1536x1536 .f32 := Memref.whole main_v1
abbrev avM : Memref sig .tc .vmem S1536x768 .f32 := Memref.whole cc0_scratch0
abbrev bvM : Memref sig .tc .vmem S768x1536 .f32 := Memref.whole cc0_scratch1
abbrev accM : Memref sig .tc .vmem S1536x1536 .f32 := Memref.whole cc0_scratch2
abbrev mirM : Memref sig .tc .vmem S1536x1536 .bf16 := Memref.whole cc0_scratch3
abbrev rs0M : Memref sig .tc .vmem S6x128x1536 .bf16 := Memref.whole cc0_scratch4
abbrev rs1M : Memref sig .tc .vmem S6x64x1536 .bf16 := Memref.whole cc0_scratch5
abbrev rs2M : Memref sig .tc .vmem S6x64x1536 .bf16 := Memref.whole cc0_scratch6

/-- A block of rows of each buffer. -/
abbrev mH {sp : Space} {e : EltTy} (M : Memref sig .tc sp S1536x1536 e) (j : Fin 12) : Memref sig .tc sp S128x1536 e := M.slice (rH j) (fun _ => rfl)
abbrev mQ {sp : Space} {e : EltTy} (M : Memref sig .tc sp S1536x1536 e) (k : Fin 24) : Memref sig .tc sp S64x1536 e := M.slice (rQ k) (fun _ => rfl)
abbrev mA {sp : Space} {e : EltTy} (M : Memref sig .tc sp S1536x768 e) (j : Fin 12) : Memref sig .tc sp S128x768 e := M.slice (rA j) (fun _ => rfl)

/-- A block of the first landing buffer lies inside it. -/
theorem inbS0 (g : Fin 6) : ∀ a, (![g.val, 0, 0] : Fin 3 → ℕ) a + S1x128x1536.size a ≤ S6x128x1536.size a := by
  intro a; fin_cases a
  · show g.val + 1 ≤ 6; omega
  · show 0 + 128 ≤ 128; omega
  · show 0 + 1536 ≤ 1536; omega
/-- A block of the second or third landing buffer lies inside it. -/
theorem inbS1 (g : Fin 6) : ∀ a, (![g.val, 0, 0] : Fin 3 → ℕ) a + S1x64x1536.size a ≤ S6x64x1536.size a := by
  intro a; fin_cases a
  · show g.val + 1 ≤ 6; omega
  · show 0 + 64 ≤ 64; omega
  · show 0 + 1536 ≤ 1536; omega

/-- Row group `g`'s landing block of the first, second and third exchange. -/
abbrev slot0 (g : Fin 6) : Memref sig .tc .vmem S128x1536 .bf16 :=
  (rs0M.slice (Rect.unit (s := S6x128x1536) ![g.val, 0, 0] S1x128x1536.size (inbS0 g)) (fun _ => rfl)).squeeze S128x1536 squeezes_S1x128x1536_S128x1536
abbrev slot1 (g : Fin 6) : Memref sig .tc .vmem S64x1536 .bf16 :=
  (rs1M.slice (Rect.unit (s := S6x64x1536) ![g.val, 0, 0] S1x64x1536.size (inbS1 g)) (fun _ => rfl)).squeeze S64x1536 squeezes_S1x64x1536_S64x1536
abbrev slot2 (g : Fin 6) : Memref sig .tc .vmem S64x1536 .bf16 :=
  (rs2M.slice (Rect.unit (s := S6x64x1536) ![g.val, 0, 0] S1x64x1536.size (inbS1 g)) (fun _ => rfl)).squeeze S64x1536 squeezes_S1x64x1536_S64x1536

/-- An exchange and a group name a cell of the exchange counters. -/
theorem inb56 (s : Fin 5) (g : Fin 6) : ∀ a, (![s.val, g.val] : Fin 2 → ℕ) a + S1x1.size a ≤ S5x6.size a := by
  intro a; fin_cases a
  · show s.val + 1 ≤ 5; omega
  · show g.val + 1 ≤ 6; omega
/-- A half and a group name a cell of the counters of the loads. -/
theorem inb26 (s : Fin 2) (g : Fin 6) : ∀ a, (![s.val, g.val] : Fin 2 → ℕ) a + S1x1.size a ≤ S2x6.size a := by
  intro a; fin_cases a
  · show s.val + 1 ≤ 2; omega
  · show g.val + 1 ≤ 6; omega
/-- A part and a group name a cell of the counters of the stores. -/
theorem inb36 (s : Fin 3) (g : Fin 6) : ∀ a, (![s.val, g.val] : Fin 2 → ℕ) a + S1x1.size a ≤ S3x6.size a := by
  intro a; fin_cases a
  · show s.val + 1 ≤ 3; omega
  · show g.val + 1 ≤ 6; omega

abbrev barS : Sem sig := (SemArray.scalar (sig.barrier 0 rfl) : Sems sig S_).sem
abbrev sendS (s : Fin 5) (g : Fin 6) : DmaSem sig :=
  ((cc0_scratch7.slice (Rect.unit (s := S5x6) ![s.val, g.val] S1x1.size (inb56 s g))).squeeze S_ squeezes_S1x1_S_).sem
abbrev recvS (s : Fin 5) (g : Fin 6) : DmaSem sig :=
  ((cc0_scratch8.slice (Rect.unit (s := S5x6) ![s.val, g.val] S1x1.size (inb56 s g))).squeeze S_ squeezes_S1x1_S_).sem
abbrev aS (i : Fin 2) (g : Fin 6) : DmaSem sig :=
  ((cc0_scratch9.slice (Rect.unit (s := S2x6) ![i.val, g.val] S1x1.size (inb26 i g))).squeeze S_ squeezes_S1x1_S_).sem
abbrev bS : DmaSem sig := cc0_scratch10.sem
abbrev oS (i : Fin 3) (g : Fin 6) : DmaSem sig :=
  ((cc0_scratch11.slice (Rect.unit (s := S3x6) ![i.val, g.val] S1x1.size (inb36 i g))).squeeze S_ squeezes_S1x1_S_).sem

/-- Where the semaphores of the arrays lie in the device's table of transfer semaphores. -/
theorem sendS_val (s : Fin 5) (g : Fin 6) : (sendS s g).val = 6 * s.val + g.val := by revert s g; decide +kernel
/-- The number of a receive counter. -/
theorem recvS_val (s : Fin 5) (g : Fin 6) : (recvS s g).val = 30 + (6 * s.val + g.val) := by revert s g; decide +kernel

end Cert.CubeProof

end
-- ==== Proof.Ops.lean ====
/-
  One rule per memory operation of the kernel, for a device that owns the block of rows the operation names; and
  how a block is cut in two and put together again.
-/
module

public import proofs.«01_k».proof.Proof.Common

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The exchange cells' duties are named by the axis (a barrier cell has one duty per axis, a transfer cell duty 0). -/
abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange cells' part of the resources. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local transfers' part of the resources. -/
abbrev EC : UEmb Counters (MT nD τ sig Unit (Elt F) ℕ UU ℕ) := countersEmb (U := UU)
instance EC_landsIn : (EC : UEmb Counters 𝕄).LandsIn (upEmb : UEmb _ 𝕄) := inferInstance

abbrev 𝒱₀ : Variants := Variants.none

/-- Running `p` on device `c` and ending in `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` owns all of memref `M`, holding `X`. -/
abbrev own {sp : Space} {s : Shape} {e : EltTy} (c : Dev nD) (M : Memref sig .tc sp s e) (X : s.Idx → Elt F e) : sProp 𝕄 :=
  owns (c : Thread nD τ) M fullShare X
/-- Device `c` owns all of memref `M`, whatever it holds. -/
def any {sp : Space} {s : Shape} {e : EltTy} (c : Dev nD) (M : Memref sig .tc sp s e) : sProp 𝕄 := iprop(∃ X, own (F := F) c M X)

instance any_storable {sp : Space} {s : Shape} {e : EltTy} (c : Dev nD) (M : Memref sig .tc sp s e) :
    BI.Storable (upEmb : UEmb _ 𝕄) (any (F := F) c M) := by unfold any; infer_instance

/-- Known contents are some contents. -/
theorem any_intro {sp : Space} {s : Shape} {e : EltTy} (c : Dev nD) (M : Memref sig .tc sp s e) (X : s.Idx → Elt F e) :
    own c M X ⊢ (any (F := F) c M : sProp 𝕄) := by
  unfold any; iintro H; iexists X; iexact H

/-! ## Loads and stores -/

/-- A load of an owned block reads what the block holds. -/
theorem run_load (c : Dev nD) {α : Type} {Q : α → sProp 𝕄} {cs : CoreSpace} {s : Shape} {e : EltTy} {m : Memref sig .tc cs s e} {r : Rect s}
    {hl : m.view.LoadsAt r.toLoadRect} {k : (r.toLoadRect.shape.Idx → Elt F e) → Prog (TpuEff nD τ sig (Elt F) Λ₀ .tc) α}
    (hr : ∀ a, r.stride a = 1) (q : PosShare TreeShare) (X : r.shape.Idx → Elt F e) :
    owns (c : Thread nD τ) (m.slice r hr) q X
      ⊢ iprop((owns (c : Thread nD τ) (m.slice r hr) q X -∗ run c (k X) Q) -∗ run c (.op (.load m r.toLoadRect hl) k) Q) := by
  unfold owns
  iintro ⟨%f, %hf, H⟩ Hk
  subst hf
  iapply (wp_load 𝒱₀ (c : Thread nD τ) none Set.univ (m := m) (r := r.toLoadRect) (S := (m.slice r hr).view.set)
    (View.set_slice m.view r).symm.subset) $$ H
  iintro H
  iapply Hk
  iexists f
  isplitr; · ipureintro; rfl
  iexact H

/-- A store to an owned block leaves the block holding the stored value. -/
theorem run_store (c : Dev nD) {α : Type} {Q : α → sProp 𝕄} {cs : CoreSpace} {s : Shape} {e : EltTy} {m : Memref sig .tc cs s e} {r : Rect s}
    {w : r.shape.Idx → Elt F e} {hx : (m.access r).Stores Finset.univ} {hm : Finset.univ = Finset.univ ∨ ∀ a, r.stride a = 1}
    {k : PUnit → Prog (TpuEff nD τ sig (Elt F) Λ₀ .tc) α} (hr : ∀ a, r.stride a = 1) :
    any c (m.slice r hr)
      ⊢ iprop((own c (m.slice r hr) w -∗ run c (k ⟨⟩) Q) -∗ run c (.op (.store m r w Finset.univ hx hm) k) Q) := by
  unfold any own owns
  iintro ⟨%X, %f, %hf, H⟩ Hk
  iapply (wp_store 𝒱₀ (c : Thread nD τ) none Set.univ (m := m) (r := r) (Mk := Finset.univ) (S := (m.slice r hr).view.set)
    (f := f) (w := w) (hx := hx) (hm := hm) subset_rfl) $$ H
  iintro H
  iapply Hk
  iexists _
  isplitr
  · ipureintro; exact View.read_write_univ (v := m.view.slice r) f w
  iexact H

end Cert.CubeProof

end
-- ==== Proof.Blocks.lean ====
/-
  How a device's buffers are cut into the row blocks the kernel works on and put together again, what a load of a
  landing block reads, and the rules of a local copy, for a device that owns the blocks concerned.
-/
module

public import proofs.«01_k».proof.Proof.Ops
public import Idealize.ShloMosaic.Lib.ValueLayout

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Local copies -/

/-- A local copy under way on semaphore `sm`: at its wait the destination holds `X` and the source is back. -/
abbrev fly {sp sp' : Space} {s : Shape} {e : EltTy} (c : Dev nD) (sm : DmaSem sig) (src : Memref sig .tc sp s e) (dst : Memref sig .tc sp' s e)
    (q : PosShare TreeShare) (X : s.Idx → Elt F e) : sProp 𝕄 :=
  Transfers.Flight EC (c : Thread nD τ) (.dma sm) () dst.view.dmaCredit iprop(own c dst X ∗ owns (c : Thread nD τ) src q X)

/-- The start of a local copy. -/
theorem run_copy (c : Dev nD) {α : Type} {Q : α → sProp 𝕄} {sp sp' : Space} {s : Shape} {e : EltTy} {src : Memref sig .tc sp s e}
    {dst : Memref sig .tc sp' s e} {sm : DmaSem sig} {hsrc : src.view.WordExact} {hdst : dst.view.WordExact}
    {hsem : DmaTarget.Typed (nD := nD) (τ := τ) (p := Proc.tc) sp (SemLoc.dma sm) (.here dst)} {k : PUnit → Prog (TpuEff nD τ sig (Elt F) Λ₀ .tc) α}
    (q : PosShare TreeShare) (X : s.Idx → Elt F e) (hpos : 0 < s.numel) :
    iprop(owns (c : Thread nD τ) src q X ∗ any c dst ∗ semVal ((c : Thread nD τ), .dma sm) 0)
      ⊢ iprop((fly c sm src dst q X -∗ run c (k ⟨⟩) Q) -∗ run c (.op (.enqueueDma src (.here dst) (.dma sm) hsrc hdst hsem) k) Q) := by
  unfold any fly own owns
  iintro ⟨⟨%fs, %hfs, Hs⟩, ⟨%Y, %fd, -, Hd⟩, Hv⟩ Hk
  iapply (Transfers.wp_dmaLocal EC 𝒱₀ (c : Thread nD τ) none () dst.view.dmaCredit rfl (View.dmaCredit_pos _ hpos) subset_rfl) $$ [Hs Hd Hv]
  · isplitl [Hs]; · iexact Hs
    isplitl [Hd]; · iexact Hd
    iexact Hv
  iintro HF
  iapply Hk
  iapply (Transfers.Flight_mono EC (c : Thread nD τ) ?_) $$ HF
  iintro ⟨Hd, Hs⟩
  isplitl [Hd]
  · iexists _
    isplitr
    · ipureintro; exact (View.read_write_univ (v := dst.view) fd _).trans hfs
    iexact Hd
  · iexists fs
    isplitr; · ipureintro; exact hfs
    iexact Hs

/-! ## A block of 128 rows as two of 64 -/

/-- Rows `64 b` to `64 b + 63` of values on 128 rows. -/
def sub {α : Type} (b : Fin 2) (X : S128x1536.Idx → α) : S64x1536.Idx → α :=
  fun i => X (ValueIdx.ix2 (⟨64 * b.val + (i 0).val, by have := (i 0).isLt; change (i 0).val < 64 at this; omega⟩ : Fin 128) (i 1 : Fin 1536))

/-- Values on 128 rows from those of rows `64 b …` and those of the other 64. -/
def glue2 {α : Type} (b : Fin 2) (U V : S64x1536.Idx → α) : S128x1536.Idx → α :=
  fun i => if (i 0).val / 64 = b.val then U (ValueIdx.ix2 (⟨(i 0).val % 64, Nat.mod_lt _ (by omega)⟩ : Fin 64) (i 1 : Fin 1536))
    else V (ValueIdx.ix2 (⟨(i 0).val % 64, Nat.mod_lt _ (by omega)⟩ : Fin 64) (i 1 : Fin 1536))

/-- The part named by `b` of two glued parts is the first. -/
theorem sub_glue2 {α : Type} (b : Fin 2) (U V : S64x1536.Idx → α) : sub b (glue2 b U V) = U := by
  funext i
  have h0 : (i 0).val < 64 := (i 0).isLt
  show (if (64 * b.val + (i 0).val) / 64 = b.val then _ else _) = _
  rw [if_pos (by omega)]
  congr 1
  funext a; refine Fin.cases ?_ (fun a => ?_) a
  · apply Fin.ext; show (64 * b.val + (i 0).val) % 64 = _; omega
  · obtain rfl : a = 0 := Subsingleton.elim _ _; rfl

/-- The other part of two glued parts is the second. -/
theorem sub_glue2' {α : Type} (b : Fin 2) (U V : S64x1536.Idx → α) : sub (1 - b) (glue2 b U V) = V := by
  funext i
  have h0 : (i 0).val < 64 := (i 0).isLt
  show (if (64 * (1 - b).val + (i 0).val) / 64 = b.val then _ else _) = _
  rw [if_neg (by fin_cases b <;> simp <;> omega)]
  congr 1
  funext a; refine Fin.cases ?_ (fun a => ?_) a
  · apply Fin.ext; show (64 * (1 - b).val + (i 0).val) % 64 = _; omega
  · obtain rfl : a = 0 := Subsingleton.elim _ _; rfl

/-- The two halves of 128 rows. -/
abbrev rB (b : Fin 2) : Rect S128x1536 := Rect.unit (s := S128x1536) ![64 * b.val, 0] S64x1536.size (by
  intro a; fin_cases a
  · show 64 * b.val + 64 ≤ 128; omega
  · show 0 + 1536 ≤ 1536; omega)

/-- The two quarters of a half do not meet. -/
theorem rB_disj (t t' : Fin 2) (h : t ≠ t') : Disjoint (rB t).set (rB t').set :=
  Rect.unit_disjoint 0 (by
    show 64 * t.val + 64 ≤ 64 * t'.val ∨ 64 * t'.val + 64 ≤ 64 * t.val
    have : t.val ≠ t'.val := fun e => h (Fin.ext e)
    omega)

/-- The two quarters of a half are all of it. -/
theorem rB_cov : (Finset.univ : Finset (Fin 2)).biUnion (fun t => (rB t).set) = Finset.univ := by
  ext i
  simp only [Finset.mem_biUnion, Finset.mem_univ, true_and, iff_true]
  have h0 : (i 0).val < 128 := (i 0).isLt
  have h1 : (i 1).val < 1536 := (i 1).isLt
  refine ⟨⟨(i 0).val / 64, by omega⟩, Rect.mem_set_unit.mpr fun a => ?_⟩
  fin_cases a
  · show 64 * ((i 0).val / 64) ≤ (i 0).val ∧ (i 0).val < 64 * ((i 0).val / 64) + 64; omega
  · show 0 ≤ (i 1).val ∧ (i 1).val < 0 + 1536; omega

/-- A part of a block of rows is a block of rows. -/
theorem owns_sub (c : Dev nD) {sp : Space} {e : EltTy} (M : Memref sig .tc sp S1536x1536 e) (j : Fin 12) (b : Fin 2) (k : Fin 24)
    (hk : k.val = 2 * j.val + b.val) (q : PosShare TreeShare) (X : S64x1536.Idx → Elt F e) :
    (owns (c : Thread nD τ) ((mH M j).slice (rB b) (fun _ => rfl)) q X : sProp 𝕄) = owns (c : Thread nD τ) (mQ M k) q X := by
  have he : ∀ x : S64x1536.Idx, (rH j).emb ((rB b).emb x) = (rQ k).emb x := fun x => by
    funext a; fin_cases a
    · apply Fin.ext
      show 128 * j.val + 1 * (64 * b.val + 1 * (x 0).val) = 64 * k.val + 1 * (x 0).val
      omega
    · apply Fin.ext
      show 0 + 1 * (0 + 1 * (x 1).val) = 0 + 1 * (x 1).val
      omega
  have hv : ∀ x : S64x1536.Idx, ((mH M j).slice (rB b) (fun _ => rfl)).view.emb x = (mQ M k).view.emb x := fun x => by
    show M.view.emb ((rH j).emb ((rB b).emb x)) = M.view.emb ((rQ k).emb x)
    rw [he]
  have hs : ((mH M j).slice (rB b) (fun _ => rfl)).view.set = (mQ M k).view.set := by
    unfold View.set
    exact congrArg (fun g => Finset.map g Finset.univ) (Function.Embedding.ext hv)
  have hr : ∀ f : M.view.ty.Contents (Elt F), ((mH M j).slice (rB b) (fun _ => rfl)).view.read (Elt F) f = (mQ M k).view.read (Elt F) f := fun f => by
    funext x
    show _root_.cast _ (f (((mH M j).slice (rB b) (fun _ => rfl)).view.emb x)) = _root_.cast _ (f ((mQ M k).view.emb x))
    rw [hv]
  unfold owns
  rw [hs]
  exact congrArg BIBase.exists (funext fun f => by rw [hr])

/-- Reading the rows of quarter `b` of a half is `sub b`. -/
theorem sub_emb {α : Type} (b : Fin 2) (X : S128x1536.Idx → α) : (fun i => X ((rB b).emb i)) = sub b X := by
  funext i
  show X _ = X _
  congr 1
  funext a; fin_cases a
  · apply Fin.ext
    show 64 * b.val + 1 * (i 0).val = 64 * b.val + (i 0).val
    omega
  · apply Fin.ext
    show 0 + 1 * (i 1).val = (i 1).val
    omega

/-- An owned block of 128 rows is its two halves owned, -/
theorem owns_cut (c : Dev nD) {sp : Space} {e : EltTy} (M : Memref sig .tc sp S1536x1536 e) (j : Fin 12) (b : Fin 2) (k k' : Fin 24)
    (hk : k.val = 2 * j.val + b.val) (hk' : k'.val = 2 * j.val + (1 - b.val)) (q : PosShare TreeShare) (X : S128x1536.Idx → Elt F e) :
    (owns (c : Thread nD τ) (mH M j) q X : sProp 𝕄)
      ⊣⊢ iprop(owns (c : Thread nD τ) (mQ M k) q (sub b X) ∗ owns (c : Thread nD τ) (mQ M k') q (sub (1 - b) X)) := by
  have hb : (BI.bigSep Finset.univ (fun t : Fin 2 => owns (c : Thread nD τ) ((mH M j).slice (rB t) (fun _ => rfl)) q (fun i => X ((rB t).emb i))) : sProp 𝕄)
      ⊣⊢ iprop(owns (c : Thread nD τ) (mQ M k) q (sub b X) ∗ owns (c : Thread nD τ) (mQ M k') q (sub (1 - b) X)) := by
    rw [BI.bigSep_fin_two]
    simp only [sub_emb]
    fin_cases b
    · rw [owns_sub c M j 0 k hk, owns_sub c M j 1 k' hk']; exact BiEntails.rfl
    · rw [owns_sub c M j 0 k' hk', owns_sub c M j 1 k hk]; exact sep_comm
  exact ⟨(owns_rects (c : Thread nD τ) (mH M j) q rB (fun _ _ => rfl) rB_disj rB_cov X).trans hb.1,
    hb.2.trans (owns_of_rects (c : Thread nD τ) (mH M j) q rB (fun _ _ => rfl) rB_disj rB_cov X)⟩

/-- and back. -/
theorem owns_glue (c : Dev nD) {sp : Space} {e : EltTy} (M : Memref sig .tc sp S1536x1536 e) (j : Fin 12) (b : Fin 2) (k k' : Fin 24)
    (hk : k.val = 2 * j.val + b.val) (hk' : k'.val = 2 * j.val + (1 - b.val)) (q : PosShare TreeShare) (U V : S64x1536.Idx → Elt F e) :
    iprop(owns (c : Thread nD τ) (mQ M k) q U ∗ owns (c : Thread nD τ) (mQ M k') q V)
      ⊢ (owns (c : Thread nD τ) (mH M j) q (glue2 b U V) : sProp 𝕄) := by
  refine .trans ?_ (owns_cut c M j b k k' hk hk' q (glue2 b U V)).2
  rw [sub_glue2, sub_glue2']

/-! ## A square array as twelve blocks, two to a row group -/

/-- The twelve blocks of 128 rows do not meet. -/
theorem rH_disj (t t' : Fin 12) (h : t ≠ t') : Disjoint (rH t).set (rH t').set :=
  Rect.unit_disjoint 0 (by
    show 128 * t.val + 128 ≤ 128 * t'.val ∨ 128 * t'.val + 128 ≤ 128 * t.val
    have : t.val ≠ t'.val := fun e => h (Fin.ext e)
    omega)

/-- The twelve blocks of 128 rows are all 1536 rows. -/
theorem rH_cov : (Finset.univ : Finset (Fin 12)).biUnion (fun t => (rH t).set) = Finset.univ := by
  ext i
  simp only [Finset.mem_biUnion, Finset.mem_univ, true_and, iff_true]
  have h0 : (i 0).val < 1536 := (i 0).isLt
  have h1 : (i 1).val < 1536 := (i 1).isLt
  refine ⟨⟨(i 0).val / 128, by omega⟩, Rect.mem_set_unit.mpr fun a => ?_⟩
  fin_cases a
  · show 128 * ((i 0).val / 128) ≤ (i 0).val ∧ (i 0).val < 128 * ((i 0).val / 128) + 128; omega
  · show 0 ≤ (i 1).val ∧ (i 1).val < 0 + 1536; omega

/-- The twelve blocks of rows of the left factor do not meet. -/
theorem rA_disj (t t' : Fin 12) (h : t ≠ t') : Disjoint (rA t).set (rA t').set :=
  Rect.unit_disjoint 0 (by
    show 128 * t.val + 128 ≤ 128 * t'.val ∨ 128 * t'.val + 128 ≤ 128 * t.val
    have : t.val ≠ t'.val := fun e => h (Fin.ext e)
    omega)

/-- The twelve blocks of rows of the left factor are all of it. -/
theorem rA_cov : (Finset.univ : Finset (Fin 12)).biUnion (fun t => (rA t).set) = Finset.univ := by
  ext i
  simp only [Finset.mem_biUnion, Finset.mem_univ, true_and, iff_true]
  have h0 : (i 0).val < 1536 := (i 0).isLt
  have h1 : (i 1).val < 768 := (i 1).isLt
  refine ⟨⟨(i 0).val / 128, by omega⟩, Rect.mem_set_unit.mpr fun a => ?_⟩
  fin_cases a
  · show 128 * ((i 0).val / 128) ≤ (i 0).val ∧ (i 0).val < 128 * ((i 0).val / 128) + 128; omega
  · show 0 ≤ (i 1).val ∧ (i 1).val < 0 + 768; omega

/-- The halves kept and the halves sent, group by group, are the twelve blocks, each once. -/
theorem hidx_bij (c : Dev nD) : Function.Bijective (fun p : Fin 6 × Fin 2 => if p.2 = 0 then hk c p.1 else hs c p.1) := by
  revert c; decide +kernel

/-- A device's twelve blocks: of each row group the one it keeps and the one it sends. -/
theorem bigSep_blocks (c : Dev nD) (Φ : Fin 12 → sProp 𝕄) :
    BI.bigSep Finset.univ Φ ⊣⊢ BI.bigSep Finset.univ fun g : Fin 6 => iprop(Φ (hk c g) ∗ Φ (hs c g)) := by
  have h := BI.bigSep_univ_equiv (Equiv.ofBijective _ (hidx_bij c)) Φ
  rw [h, BI.bigSep_univ_prod]
  simp only [BI.bigSep_fin_two]
  exact BiEntails.rfl

/-- A whole memref owned at some contents is each of a disjoint covering family of its slices so owned. -/
theorem any_rects (c : Dev nD) {sp : Space} {s : Shape} {e : EltTy} (m : Memref sig .tc sp s e) {T : Type} [Fintype T] [DecidableEq T]
    (r : T → Rect s) (hr : ∀ t a, (r t).stride a = 1) (hd : ∀ t t', t ≠ t' → Disjoint (r t).set (r t').set)
    (hcov : (Finset.univ : Finset T).biUnion (fun t => (r t).set) = Finset.univ) :
    (any (F := F) c m : sProp 𝕄) ⊣⊢ BI.bigSep Finset.univ fun t => any (F := F) c (m.slice (r t) (hr t)) := by
  have h1 : ∀ {s : Shape} (m : Memref sig .tc sp s e), (any (F := F) c m : sProp 𝕄) ⊣⊢ ownsSat (c : Thread nD τ) m fullShare (fun _ => True) :=
    fun m => ⟨(ownsSat_true (c : Thread nD τ) m fullShare).2, (ownsSat_true (c : Thread nD τ) m fullShare).1⟩
  constructor
  · refine (h1 m).1.trans (.trans ?_ (BI.bigSep_mono fun t _ => (h1 _).2))
    refine .trans ?_ (ownsSat_rects (c : Thread nD τ) m fullShare r hr hd hcov (fun _ _ => True))
    exact ownsSat_mono _ _ _ fun _ _ _ => trivial
  · refine (BI.bigSep_mono fun t _ => (h1 _).1).trans (.trans ?_ (h1 m).2)
    refine (ownsSat_of_rects (c : Thread nD τ) m fullShare r hr hd hcov (fun _ _ => True)).trans ?_
    exact ownsSat_mono _ _ _ fun _ _ => trivial

/-! ## The landing blocks -/

/-- Owning a squeezed memref is owning the memref, whatever it holds. -/
theorem any_squeeze (c : Dev nD) {sp : Space} {s s' : Shape} {e : EltTy} (m : Memref sig .tc sp s e) (h : s.Squeezes s') :
    (any (F := F) c (m.squeeze s' h) : sProp 𝕄) ⊣⊢ any (F := F) c m := by
  have hset : (m.squeeze s' h).view.set = m.view.set := View.set_reshape _ h.numel_eq
  unfold any own owns
  constructor
  · iintro ⟨%X, %f, -, H⟩
    iexists _; iexists f
    isplitr; · ipureintro; rfl
    rw [← hset]; iexact H
  · iintro ⟨%X, %f, -, H⟩
    iexists _; iexists f
    isplitr; · ipureintro; rfl
    rw [hset]; iexact H

abbrev rS0 (g : Fin 6) : Rect S6x128x1536 := Rect.unit (s := S6x128x1536) ![g.val, 0, 0] S1x128x1536.size (inbS0 g)
abbrev rS1 (g : Fin 6) : Rect S6x64x1536 := Rect.unit (s := S6x64x1536) ![g.val, 0, 0] S1x64x1536.size (inbS1 g)

/-- The blocks of the first landing buffer do not meet. -/
theorem rS0_disj (t t' : Fin 6) (h : t ≠ t') : Disjoint (rS0 t).set (rS0 t').set :=
  Rect.unit_disjoint 0 (by
    show t.val + 1 ≤ t'.val ∨ t'.val + 1 ≤ t.val
    have : t.val ≠ t'.val := fun e => h (Fin.ext e)
    omega)
/-- The blocks of the second and third landing buffers do not meet. -/
theorem rS1_disj (t t' : Fin 6) (h : t ≠ t') : Disjoint (rS1 t).set (rS1 t').set :=
  Rect.unit_disjoint 0 (by
    show t.val + 1 ≤ t'.val ∨ t'.val + 1 ≤ t.val
    have : t.val ≠ t'.val := fun e => h (Fin.ext e)
    omega)
/-- The blocks of the first landing buffer are all of it. -/
theorem rS0_cov : (Finset.univ : Finset (Fin 6)).biUnion (fun t => (rS0 t).set) = Finset.univ := by
  ext i
  simp only [Finset.mem_biUnion, Finset.mem_univ, true_and, iff_true]
  have h1 : (i 1).val < 128 := (i 1).isLt
  have h2 : (i 2).val < 1536 := (i 2).isLt
  refine ⟨(i 0 : Fin 6), Rect.mem_set_unit.mpr fun a => ?_⟩
  fin_cases a
  · show (i 0).val ≤ (i 0).val ∧ (i 0).val < (i 0).val + 1; omega
  · show 0 ≤ (i 1).val ∧ (i 1).val < 0 + 128; omega
  · show 0 ≤ (i 2).val ∧ (i 2).val < 0 + 1536; omega
/-- The blocks of the second and third landing buffers are all of them. -/
theorem rS1_cov : (Finset.univ : Finset (Fin 6)).biUnion (fun t => (rS1 t).set) = Finset.univ := by
  ext i
  simp only [Finset.mem_biUnion, Finset.mem_univ, true_and, iff_true]
  have h1 : (i 1).val < 64 := (i 1).isLt
  have h2 : (i 2).val < 1536 := (i 2).isLt
  refine ⟨(i 0 : Fin 6), Rect.mem_set_unit.mpr fun a => ?_⟩
  fin_cases a
  · show (i 0).val ≤ (i 0).val ∧ (i 0).val < (i 0).val + 1; omega
  · show 0 ≤ (i 1).val ∧ (i 1).val < 0 + 64; omega
  · show 0 ≤ (i 2).val ∧ (i 2).val < 0 + 1536; omega

/-- The three landing buffers are their six landing blocks each. -/
theorem any_slots0 (c : Dev nD) : (any (F := F) c rs0M : sProp 𝕄) ⊣⊢ BI.bigSep Finset.univ fun g => any (F := F) c (slot0 g) :=
  (any_rects c rs0M rS0 (fun _ _ => rfl) rS0_disj rS0_cov).trans
    ⟨BI.bigSep_mono fun g _ => (any_squeeze c _ _).2, BI.bigSep_mono fun g _ => (any_squeeze c _ _).1⟩
/-- The second landing buffer is its six blocks. -/
theorem any_slots1 (c : Dev nD) : (any (F := F) c rs1M : sProp 𝕄) ⊣⊢ BI.bigSep Finset.univ fun g => any (F := F) c (slot1 g) :=
  (any_rects c rs1M rS1 (fun _ _ => rfl) rS1_disj rS1_cov).trans
    ⟨BI.bigSep_mono fun g _ => (any_squeeze c _ _).2, BI.bigSep_mono fun g _ => (any_squeeze c _ _).1⟩
/-- The third landing buffer is its six blocks. -/
theorem any_slots2 (c : Dev nD) : (any (F := F) c rs2M : sProp 𝕄) ⊣⊢ BI.bigSep Finset.univ fun g => any (F := F) c (slot2 g) :=
  (any_rects c rs2M rS1 (fun _ _ => rfl) rS1_disj rS1_cov).trans
    ⟨BI.bigSep_mono fun g _ => (any_squeeze c _ _).2, BI.bigSep_mono fun g _ => (any_squeeze c _ _).1⟩

/-- 64 rows as one block of a stack. -/
def lift3 {α : Type} (V : S64x1536.Idx → α) : S1x64x1536.Idx → α := fun i => V (ValueIdx.ix2 (i 1 : Fin 64) (i 2 : Fin 1536))

/-- Where the index of a landing block lies in the landing buffer. -/
theorem slot0_emb (g : Fin 6) (a : Fin 128) (b : Fin 1536) :
    (slot0 g).view.emb (ValueIdx.ix2 a b) = (ValueIdx.ix3 g a b : S6x128x1536.Idx) := by
  show (rS0 g).emb (Shape.reshapeEquiv _ (ValueIdx.ix2 a b)) = _
  rw [ValueIdx.reshapeEquiv_ix2_1ab]
  funext i; fin_cases i
  · apply Fin.ext; show g.val + 1 * 0 = g.val; omega
  · apply Fin.ext; show 0 + 1 * a.val = a.val; omega
  · apply Fin.ext; show 0 + 1 * b.val = b.val; omega
/-- Where the index of a block of the second landing buffer lies in it. -/
theorem slot1_emb (g : Fin 6) (a : Fin 64) (b : Fin 1536) :
    (slot1 g).view.emb (ValueIdx.ix2 a b) = (ValueIdx.ix3 g a b : S6x64x1536.Idx) := by
  show (rS1 g).emb (Shape.reshapeEquiv _ (ValueIdx.ix2 a b)) = _
  rw [ValueIdx.reshapeEquiv_ix2_1ab]
  funext i; fin_cases i
  · apply Fin.ext; show g.val + 1 * 0 = g.val; omega
  · apply Fin.ext; show 0 + 1 * a.val = a.val; omega
  · apply Fin.ext; show 0 + 1 * b.val = b.val; omega
/-- Where the index of a block of the third landing buffer lies in it. -/
theorem slot2_emb (g : Fin 6) (a : Fin 64) (b : Fin 1536) :
    (slot2 g).view.emb (ValueIdx.ix2 a b) = (ValueIdx.ix3 g a b : S6x64x1536.Idx) := slot1_emb g a b

/-- A load inside an owned landing block reads what the block holds there. -/
theorem run_load_inside (c : Dev nD) {α : Type} {Q : α → sProp 𝕄} {cs : CoreSpace} {s s' : Shape} {e : EltTy} {m : Memref sig .tc cs s e}
    {r₀ : Rect s} {h₀ : ∀ a, r₀.stride a = 1} {hs : r₀.shape.Squeezes s'} {r : LoadRect s}
    {hl : m.view.LoadsAt r} {k : (r.shape.Idx → Elt F e) → Prog (TpuEff nD τ sig (Elt F) Λ₀ .tc) α} (ix : r.shape.Idx → s'.Idx)
    (h : ∀ j, r₀.emb (Shape.reshapeEquiv hs.numel_eq (ix j)) = r.idx j) (q : PosShare TreeShare) (X : s'.Idx → Elt F e) :
    owns (c : Thread nD τ) ((m.slice r₀ h₀).squeeze s' hs) q X
      ⊢ iprop((owns (c : Thread nD τ) ((m.slice r₀ h₀).squeeze s' hs) q X -∗ run c (k (fun j => X (ix j))) Q)
        -∗ run c (.op (.load m r hl) k) Q) := by
  have hsub : m.view.setOn r.set ⊆ ((m.slice r₀ h₀).squeeze s' hs).view.set := by
    intro y hy
    obtain ⟨x, hx, rfl⟩ := Finset.mem_map.mp hy
    obtain ⟨j, rfl⟩ : ∃ j, r.idx j = x := by
      have hx' := r.mem_set.mp hx
      choose j hj hj' using hx'
      exact ⟨fun a => ⟨j a, hj a⟩, funext fun a => Fin.ext (hj' a).symm⟩
    rw [← h j]
    exact View.emb_mem_set ((m.slice r₀ h₀).squeeze s' hs).view (ix j)
  unfold owns
  iintro ⟨%f, %hf, H⟩ Hk
  iapply (wp_load 𝒱₀ (c : Thread nD τ) none Set.univ (m := m) (r := r) (S := ((m.slice r₀ h₀).squeeze s' hs).view.set) hsub) $$ H
  iintro H
  have hv : m.view.readAt (Elt F) r f = fun j => X (ix j) := by
    funext j
    rw [← hf, View.readAt_apply, ← h j]
    rfl
  rw [hv]
  iapply Hk
  iexists f
  isplitr; · ipureintro; exact hf
  iexact H

/-- Half of what row group `g`'s first landing block holds. -/
theorem run_load_slot0 (c : Dev nD) (g : Fin 6) (b : Fin 2) {α : Type} {Q : α → sProp 𝕄} {off : Fin 3 → ℕ} (ho : off = ![g.val, 64 * b.val, 0])
    {inb : ∀ a, off a + S1x64x1536.size a ≤ S6x128x1536.size a}
    {hl : rs0M.view.LoadsAt (Rect.unit (s := S6x128x1536) off S1x64x1536.size inb).toLoadRect}
    {k : (S1x64x1536.Idx → Elt F .bf16) → Prog (TpuEff nD τ sig (Elt F) Λ₀ .tc) α} (X : S128x1536.Idx → Elt F .bf16) :
    own c (slot0 g) X
      ⊢ iprop((own c (slot0 g) X -∗ run c (k (lift3 (sub b X))) Q)
        -∗ run c (.op (.load rs0M (Rect.unit (s := S6x128x1536) off S1x64x1536.size inb).toLoadRect hl) k) Q) := by
  subst ho
  have h : ∀ j : S1x64x1536.Idx, (rS0 g).emb (Shape.reshapeEquiv squeezes_S1x128x1536_S128x1536.numel_eq (ValueIdx.ix2 (⟨64 * b.val + (j 1).val, by have := (j 1).isLt; change (j 1).val < 64 at this; omega⟩ : Fin 128) (j 2 : Fin 1536)))
      = (Rect.unit (s := S6x128x1536) ![g.val, 64 * b.val, 0] S1x64x1536.size inb).toLoadRect.idx j := fun j => by
    refine (slot0_emb g _ _).trans ?_
    have h0 : (j 0).val < 1 := (j 0).isLt
    funext i; fin_cases i
    · apply Fin.ext; show g.val = g.val + 1 * (j 0).val; omega
    · apply Fin.ext; show 64 * b.val + (j 1).val = 64 * b.val + 1 * (j 1).val; omega
    · apply Fin.ext; show (j 2).val = 0 + 1 * (j 2).val; omega
  exact run_load_inside c (m := rs0M) (r := (Rect.unit (s := S6x128x1536) ![g.val, 64 * b.val, 0] S1x64x1536.size inb).toLoadRect) (r₀ := rS0 g) (h₀ := fun _ => rfl) (hs := squeezes_S1x128x1536_S128x1536)
    (fun j : S1x64x1536.Idx => ValueIdx.ix2 (⟨64 * b.val + (j 1).val, by have := (j 1).isLt; change (j 1).val < 64 at this; omega⟩ : Fin 128) (j 2 : Fin 1536)) h fullShare X

/-- What row group `g`'s second landing block holds. -/
theorem run_load_slot1 (c : Dev nD) (g : Fin 6) {α : Type} {Q : α → sProp 𝕄} {off : Fin 3 → ℕ} (ho : off = ![g.val, 0, 0])
    {inb : ∀ a, off a + S1x64x1536.size a ≤ S6x64x1536.size a}
    {hl : rs1M.view.LoadsAt (Rect.unit (s := S6x64x1536) off S1x64x1536.size inb).toLoadRect}
    {k : (S1x64x1536.Idx → Elt F .bf16) → Prog (TpuEff nD τ sig (Elt F) Λ₀ .tc) α} (X : S64x1536.Idx → Elt F .bf16) :
    own c (slot1 g) X
      ⊢ iprop((own c (slot1 g) X -∗ run c (k (lift3 X)) Q)
        -∗ run c (.op (.load rs1M (Rect.unit (s := S6x64x1536) off S1x64x1536.size inb).toLoadRect hl) k) Q) := by
  subst ho
  have h : ∀ j : S1x64x1536.Idx, (rS1 g).emb (Shape.reshapeEquiv squeezes_S1x64x1536_S64x1536.numel_eq (ValueIdx.ix2 (j 1 : Fin 64) (j 2 : Fin 1536)))
      = (Rect.unit (s := S6x64x1536) ![g.val, 0, 0] S1x64x1536.size inb).toLoadRect.idx j := fun j => by
    refine (slot1_emb g _ _).trans ?_
    have h0 : (j 0).val < 1 := (j 0).isLt
    funext i; fin_cases i
    · apply Fin.ext; show g.val = g.val + 1 * (j 0).val; omega
    · apply Fin.ext; show (j 1).val = 0 + 1 * (j 1).val; omega
    · apply Fin.ext; show (j 2).val = 0 + 1 * (j 2).val; omega
  exact run_load_inside c (m := rs1M) (r := (Rect.unit (s := S6x64x1536) ![g.val, 0, 0] S1x64x1536.size inb).toLoadRect) (r₀ := rS1 g) (h₀ := fun _ => rfl) (hs := squeezes_S1x64x1536_S64x1536)
    (fun j : S1x64x1536.Idx => ValueIdx.ix2 (j 1 : Fin 64) (j 2 : Fin 1536)) h fullShare X

/-- What row group `g`'s third landing block holds. -/
theorem run_load_slot2 (c : Dev nD) (g : Fin 6) {α : Type} {Q : α → sProp 𝕄} {off : Fin 3 → ℕ} (ho : off = ![g.val, 0, 0])
    {inb : ∀ a, off a + S1x64x1536.size a ≤ S6x64x1536.size a}
    {hl : rs2M.view.LoadsAt (Rect.unit (s := S6x64x1536) off S1x64x1536.size inb).toLoadRect}
    {k : (S1x64x1536.Idx → Elt F .bf16) → Prog (TpuEff nD τ sig (Elt F) Λ₀ .tc) α} (X : S64x1536.Idx → Elt F .bf16) :
    own c (slot2 g) X
      ⊢ iprop((own c (slot2 g) X -∗ run c (k (lift3 X)) Q)
        -∗ run c (.op (.load rs2M (Rect.unit (s := S6x64x1536) off S1x64x1536.size inb).toLoadRect hl) k) Q) := by
  subst ho
  have h : ∀ j : S1x64x1536.Idx, (rS1 g).emb (Shape.reshapeEquiv squeezes_S1x64x1536_S64x1536.numel_eq (ValueIdx.ix2 (j 1 : Fin 64) (j 2 : Fin 1536)))
      = (Rect.unit (s := S6x64x1536) ![g.val, 0, 0] S1x64x1536.size inb).toLoadRect.idx j := fun j => by
    refine (slot2_emb g _ _).trans ?_
    have h0 : (j 0).val < 1 := (j 0).isLt
    funext i; fin_cases i
    · apply Fin.ext; show g.val = g.val + 1 * (j 0).val; omega
    · apply Fin.ext; show (j 1).val = 0 + 1 * (j 1).val; omega
    · apply Fin.ext; show (j 2).val = 0 + 1 * (j 2).val; omega
  exact run_load_inside c (m := rs2M) (r := (Rect.unit (s := S6x64x1536) ![g.val, 0, 0] S1x64x1536.size inb).toLoadRect) (r₀ := rS1 g) (h₀ := fun _ => rfl) (hs := squeezes_S1x64x1536_S64x1536)
    (fun j : S1x64x1536.Idx => ValueIdx.ix2 (j 1 : Fin 64) (j 2 : Fin 1536)) h fullShare X

/-- A load of the whole right factor. -/
theorem run_load_bv (c : Dev nD) {α : Type} {Q : α → sProp 𝕄} {inb : ∀ a, (![0, 0] : Fin 2 → ℕ) a + S768x1536.size a ≤ S768x1536.size a}
    {hl : bvM.view.LoadsAt (Rect.unit (s := S768x1536) ![0, 0] S768x1536.size inb).toLoadRect}
    {k : (S768x1536.Idx → Elt F .f32) → Prog (TpuEff nD τ sig (Elt F) Λ₀ .tc) α} (X : S768x1536.Idx → Elt F .f32) :
    own c bvM X
      ⊢ iprop((own c bvM X -∗ run c (k X) Q)
        -∗ run c (.op (.load bvM (Rect.unit (s := S768x1536) ![0, 0] S768x1536.size inb).toLoadRect hl) k) Q) := by
  unfold own owns
  iintro ⟨%f, %hf, H⟩ Hk
  iapply (wp_load 𝒱₀ (c : Thread nD τ) none Set.univ (m := bvM) (r := (Rect.unit (s := S768x1536) ![0, 0] S768x1536.size inb).toLoadRect)
    (S := bvM.view.set) (View.setOn_subset_set _ _)) $$ H
  iintro H
  have hv : bvM.view.readAt (Elt F) (Rect.unit (s := S768x1536) ![0, 0] S768x1536.size inb).toLoadRect f = X := by
    funext j
    rw [← hf, View.readAt_apply]
    congr 1
    funext i; fin_cases i
    · apply Fin.ext; show 0 + 1 * (j 0).val = (j 0).val; omega
    · apply Fin.ext; show 0 + 1 * (j 1).val = (j 1).val; omega
  rw [hv]
  iapply Hk
  iexists f
  isplitr; · ipureintro; exact hf
  iexact H

end Cert.CubeProof

end
-- ==== Proof.Sched.lean ====
/-
  What the exchanges carry, and the protocol of the kernel's semaphores: who pays which cell, what the payment hands
  over, and in which order the cells are waited for.
-/
module

public import proofs.«01_k».proof.Proof.Blocks

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The values the exchanges carry -/

section Values

variable (A : Dev nD → S1536x768.Idx → Elt F .f32) (B : Dev nD → S768x1536.Idx → Elt F .f32)

/-- The rows of block `j` of a device's left factor. -/
def aBlk (c : Dev nD) (j : Fin 12) : S128x768.Idx → Elt F .f32 := fun i => A c ((rA j).emb i)

/-- The coordinate that decides which quarter of group `g` a device keeps. -/
def b2 (c : Dev nD) (g : Fin 6) : Fin 2 := bit (axis 1 g) c

/-- First exchange: the device's product on the rows it gives away. -/
def X0 (c : Dev nD) (g : Fin 6) : S128x1536.Idx → Elt F .bf16 := k0_pay3 (aBlk A c (hs c g)) (B c)
/-- The device's product on the rows it keeps. -/
def Y0 (c : Dev nD) (g : Fin 6) : S128x1536.Idx → Elt F .f32 := k0_pay9 (aBlk A c (hk c g)) (B c)
/-- Second exchange: the sum so far on the quarter it gives away, and on the quarter it keeps. -/
def X1 (c : Dev nD) (g : Fin 6) : S64x1536.Idx → Elt F .bf16 :=
  k0_pay16 (sub (1 - b2 c g) (Y0 A B c g)) (lift3 (sub (1 - b2 c g) (X0 A B (peer 0 g c) g)))
def Y1 (c : Dev nD) (g : Fin 6) : S64x1536.Idx → Elt F .f32 :=
  k0_pay21 (sub (b2 c g) (Y0 A B c g)) (lift3 (sub (b2 c g) (X0 A B (peer 0 g c) g)))
/-- Third exchange: the sum so far on the quarter it keeps. -/
def Y2 (c : Dev nD) (g : Fin 6) : S64x1536.Idx → Elt F .f32 := k0_pay31 (Y1 A B c g) (lift3 (X1 A B (peer 1 g c) g))
def X2 (c : Dev nD) (g : Fin 6) : S64x1536.Idx → Elt F .bf16 := k0_pay32 (Y1 A B c g) (lift3 (X1 A B (peer 1 g c) g))
/-- Fourth exchange: the finished quarter. -/
def Y3 (c : Dev nD) (g : Fin 6) : S64x1536.Idx → Elt F .f32 := k0_pay31 (Y2 A B c g) (lift3 (X2 A B (peer 2 g c) g))
def X3 (c : Dev nD) (g : Fin 6) : S64x1536.Idx → Elt F .bf16 := k0_pay32 (Y2 A B c g) (lift3 (X2 A B (peer 2 g c) g))
/-- Fifth exchange: the finished half. -/
def X4 (c : Dev nD) (g : Fin 6) : S128x1536.Idx → Elt F .bf16 := glue2 (b2 c g) (X3 A B c g) (X3 A B (peer 1 g c) g)
/-- What the kernel writes to the result besides the device's own quarter. -/
def Z3 (c : Dev nD) (g : Fin 6) : S64x1536.Idx → Elt F .f32 := k0_pay67 (X3 A B (peer 1 g c) g)
def Z4 (c : Dev nD) (g : Fin 6) : S128x1536.Idx → Elt F .f32 := k0_pay73 (X4 A B (peer 0 g c) g)

end Values

/-! ## The payloads -/

/-- Row group `g`'s landing block of exchange `p` on device `c`, whatever it holds. -/
def slotAny (c : Dev nD) (p : Fin 3) (g : Fin 6) : sProp 𝕄 := match p with
  | 0 => any (F := F) c (slot0 g)
  | 1 => any (F := F) c (slot1 g)
  | 2 => any (F := F) c (slot2 g)

instance slotAny_storable (c : Dev nD) (p : Fin 3) (g : Fin 6) : BI.Storable (upEmb : UEmb _ 𝕄) (slotAny (F := F) c p g) := by
  unfold slotAny; split <;> infer_instance

/-- Which of group `g`'s first three exchanges crosses axis `a`. -/
def pos (a : Fin 3) (g : Fin 6) : Fin 3 := ⟨(a.val + 2 * g.val) % 3, Nat.mod_lt _ (by omega)⟩

/-- What the signal across axis `a` hands the device: of each row group, the neighbour's landing block of the exchange
    across that axis. -/
def barPay (c : Dev nD) (a : Fin 3) : sProp 𝕄 := BI.bigSep Finset.univ fun g : Fin 6 => slotAny (F := F) (nbr a c) (pos a g) g

instance barPay_storable (c : Dev nD) (a : Fin 3) : BI.Storable (upEmb : UEmb _ 𝕄) (barPay (F := F) c a) := by
  unfold barPay; infer_instance

section Payloads

variable (A : Dev nD → S1536x768.Idx → Elt F .f32) (B : Dev nD → S768x1536.Idx → Elt F .f32)

/-- What the landing of exchange `s` of group `g` hands its device. -/
def recvPay (c : Dev nD) (s : Fin 5) (g : Fin 6) : sProp 𝕄 := match s with
  | 0 => iprop(own c (slot0 g) (X0 A B (peer 0 g c) g) ∗ any (F := F) (peer 0 g c) (mH mirM (hk c g)))
  | 1 => iprop(own c (slot1 g) (X1 A B (peer 1 g c) g) ∗ any (F := F) (peer 1 g c) (mQ mirM (qk c g)))
  | 2 => own c (slot2 g) (X2 A B (peer 2 g c) g)
  | 3 => own c (mQ mirM (qs c g)) (X3 A B (peer 1 g c) g)
  | 4 => own c (mH mirM (hs c g)) (X4 A B (peer 0 g c) g)

/-- What the end of the reading of exchange `s` of group `g` hands the device that sent it. -/
def sendPay (c : Dev nD) (s : Fin 5) (g : Fin 6) : sProp 𝕄 := match s with
  | 0 => iprop(emp)
  | 1 => iprop(emp)
  | 2 => own c (mQ mirM (qk c g)) (X2 A B c g)
  | 3 => own c (mQ mirM (qk c g)) (X3 A B c g)
  | 4 => owns (c : Thread nD τ) (mH mirM (hk c g)) fullShare.right (X4 A B c g)

instance recvPay_storable (c : Dev nD) (s : Fin 5) (g : Fin 6) : BI.Storable (upEmb : UEmb _ 𝕄) (recvPay A B c s g) := by
  unfold recvPay; split <;> infer_instance
instance sendPay_storable (c : Dev nD) (s : Fin 5) (g : Fin 6) : BI.Storable (upEmb : UEmb _ 𝕄) (sendPay A B c s g) := by
  unfold sendPay; split <;> infer_instance

end Payloads

/-! ## The cells -/

abbrev barCell (c : Dev nD) : GSem nD τ sig := ((c : Thread nD τ), .reg barS)
abbrev sendCell (c : Dev nD) (s : Fin 5) (g : Fin 6) : GSem nD τ sig := ((c : Thread nD τ), .dma (sendS s g))
abbrev recvCell (c : Dev nD) (s : Fin 5) (g : Fin 6) : GSem nD τ sig := ((c : Thread nD τ), .dma (recvS s g))

/-- What exchange `s` credits: 128 rows in the first and the last, 64 in the others. -/
def amt (s : Fin 5) : ℕ := match s with
  | 0 => (mH mirM 0).view.dmaCredit
  | 1 => (mQ mirM 0).view.dmaCredit
  | 2 => (mQ mirM 0).view.dmaCredit
  | 3 => (mQ mirM 0).view.dmaCredit
  | 4 => (mH mirM 0).view.dmaCredit

/-- Every exchange moves something. -/
theorem amt_pos (s : Fin 5) : 0 < amt s := by
  have h1 : 0 < (mH mirM 0).view.dmaCredit := View.dmaCredit_pos _ (by decide)
  have h2 : 0 < (mQ mirM 0).view.dmaCredit := View.dmaCredit_pos _ (by decide)
  fin_cases s <;> first | exact h1 | exact h2

/-- A cell of the protocol: the barrier (`none`), or an exchange's sending (`false`) or landing (`true`) semaphore. -/
abbrev Cell : Type := Option (Bool × Fin 5 × Fin 6)

/-- The exchange a transfer semaphore belongs to. -/
def dec (q : DmaSem sig) : Cell :=
  if h : q.val < 30 then some (false, ⟨q.val / 6, by omega⟩, ⟨q.val % 6, Nat.mod_lt _ (by omega)⟩)
  else if h : q.val < 60 then some (true, ⟨(q.val - 30) / 6, by omega⟩, ⟨(q.val - 30) % 6, Nat.mod_lt _ (by omega)⟩)
  else none

/-- The send counters, decoded. -/
theorem dec_send (s : Fin 5) (g : Fin 6) : dec (sendS s g) = some (false, s, g) := by
  have h := sendS_val s g
  unfold dec
  rw [dif_pos (by omega)]
  congr 3 <;> apply Fin.ext <;> simp only [h] <;> omega
/-- The receive counters, decoded. -/
theorem dec_recv (s : Fin 5) (g : Fin 6) : dec (recvS s g) = some (true, s, g) := by
  have h := recvS_val s g
  unfold dec
  rw [dif_neg (by omega), dif_pos (by omega)]
  congr 3 <;> apply Fin.ext <;> simp only [h] <;> omega

/-- The semaphore of a cell. -/
def csem : Cell → SemLoc sig
  | none => .reg barS
  | some (false, s, g) => .dma (sendS s g)
  | some (true, s, g) => .dma (recvS s g)
abbrev kcell (ck : Dev nD × Cell) : GSem nD τ sig := ((ck.1 : Thread nD τ), csem ck.2)

/-- The cell of a semaphore. -/
def decS : SemLoc sig → Cell
  | .reg _ => none
  | .dma q => dec q

/-- Decoding undoes encoding. -/
theorem decS_csem (k : Cell) : decS (csem k) = k := by
  rcases k with _ | ⟨b, s, g⟩
  · rfl
  · cases b
    · exact dec_send s g
    · exact dec_recv s g

/-- Different cells have different counters. -/
theorem csem_injective : Function.Injective csem := fun a b h => by rw [← decS_csem a, ← decS_csem b, h]

/-- Different cells on different devices are different. -/
theorem kcell_injective : Function.Injective kcell := fun a b h => by
  have h1 : a.1 = b.1 := congrArg (fun x : GSem nD τ sig => x.1.1) h
  have h2 : a.2 = b.2 := csem_injective (congrArg Prod.snd h)
  exact Prod.ext h1 h2

/-! ## The schedule -/

section Schedule

variable (A : Dev nD → S1536x768.Idx → Elt F .f32) (B : Dev nD → S768x1536.Idx → Elt F .f32)

/-- One round: a barrier cell has one duty per axis, a transfer cell the duty 0. -/
def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with
    | .reg _ => 1
    | .dma q => match dec q with | none => 1 | some (_, s, _) => amt s
  payload g _ d := match g.2 with
    | .reg _ => barPay g.1.1 d
    | .dma q => match dec q with
      | none => iprop(emp)
      | some (false, s, gr) => sendPay A B g.1.1 s gr
      | some (true, s, gr) => recvPay A B g.1.1 s gr
  amount_pos g _ _ _ := by
    rcases g with ⟨t, sm⟩
    cases sm with
    | reg _ => exact Nat.one_pos
    | dma q =>
      show 0 < (match dec q with | none => 1 | some (_, s, _) => amt s)
      split
      · exact Nat.one_pos
      · exact amt_pos _

instance Rd_payload_storable (g : GSem nD τ sig) (r : ℕ) (d : Fin 3) :
    BI.Storable (upEmb : UEmb _ 𝕄) ((Rd (F := F) A B).payload g r d) := by
  rcases g with ⟨t, sm⟩
  cases sm with
  | reg _ => exact barPay_storable t.1 d
  | dma q =>
    show BI.Storable upEmb (match dec q with
      | none => iprop(emp)
      | some (false, s, gr) => sendPay A B t.1 s gr
      | some (true, s, gr) => recvPay A B t.1 s gr)
    split <;> infer_instance

variable (c : Dev nD) (s : Fin 5) (g : Fin 6)

/-- The barrier has one duty for each axis. -/
theorem duties_bar : (Rd A B).duties (barCell c) 0 = Finset.univ :=
  if_pos (c := (0 : ℕ) = 0 ∧ (barCell c).1.2 = (.tc : Proc τ)) (t := (Finset.univ : Finset (Fin 3))) (e := ∅) ⟨rfl, rfl⟩
/-- A send counter has one duty. -/
theorem duties_send : (Rd A B).duties (sendCell c s g) 0 = {0} :=
  if_pos (c := (0 : ℕ) = 0 ∧ (sendCell c s g).1.2 = (.tc : Proc τ)) (t := ({0} : Finset (Fin 3))) (e := ∅) ⟨rfl, rfl⟩
/-- A receive counter has one duty. -/
theorem duties_recv : (Rd A B).duties (recvCell c s g) 0 = {0} :=
  if_pos (c := (0 : ℕ) = 0 ∧ (recvCell c s g).1.2 = (.tc : Proc τ)) (t := ({0} : Finset (Fin 3))) (e := ∅) ⟨rfl, rfl⟩
/-- No cell has duties after the first round. -/
theorem duties_later (x : GSem nD τ sig) : ∀ r, 1 ≤ r → (Rd A B).duties x r = ∅ := fun r hr => if_neg fun h => by omega

/-- A signal is one unit. -/
theorem amount_bar (d : Fin 3) : (Rd A B).amount (barCell c) 0 d = 1 := rfl
/-- A send pays the bytes of its copy. -/
theorem amount_send (d : Fin 3) : (Rd A B).amount (sendCell c s g) 0 d = amt s := by
  show (match dec (sendS s g) with | none => 1 | some (_, s, _) => amt s) = _
  rw [dec_send]
/-- A landing pays the bytes of its copy. -/
theorem amount_recv (d : Fin 3) : (Rd A B).amount (recvCell c s g) 0 d = amt s := by
  show (match dec (recvS s g) with | none => 1 | some (_, s, _) => amt s) = _
  rw [dec_recv]

/-- What a signal hands over. -/
theorem payload_bar (d : Fin 3) : (Rd A B).payload (barCell c) 0 d = barPay c d := rfl
/-- What a send hands back. -/
theorem payload_send (d : Fin 3) : (Rd A B).payload (sendCell c s g) 0 d = sendPay A B c s g := by
  show (match dec (sendS s g) with
      | none => iprop(emp)
      | some (false, s, gr) => sendPay A B c s gr
      | some (true, s, gr) => recvPay A B c s gr) = _
  rw [dec_send]
/-- What a landing hands over. -/
theorem payload_recv (d : Fin 3) : (Rd A B).payload (recvCell c s g) 0 d = recvPay A B c s g := by
  show (match dec (recvS s g) with
      | none => iprop(emp)
      | some (false, s, gr) => sendPay A B c s gr
      | some (true, s, gr) => recvPay A B c s gr) = _
  rw [dec_recv]

/-- The barrier waits for three units. -/
theorem expect_bar : (Rd A B).expect (barCell c) 0 = 3 := by
  unfold Schedule.expect Schedule.amountOf
  rw [duties_bar, Finset.sum_congr rfl fun d _ => amount_bar A B c d, Finset.sum_const, Finset.card_univ, Fintype.card_fin, smul_eq_mul]
/-- A send counter waits for its one copy. -/
theorem expect_send : (Rd A B).expect (sendCell c s g) 0 = amt s := by
  unfold Schedule.expect Schedule.amountOf; rw [duties_send, Finset.sum_singleton, amount_send]
/-- A receive counter waits for its one copy. -/
theorem expect_recv : (Rd A B).expect (recvCell c s g) 0 = amt s := by
  unfold Schedule.expect Schedule.amountOf; rw [duties_recv, Finset.sum_singleton, amount_recv]

/-- What the barrier hands over in all. -/
theorem rest_bar : bigSep ((Rd A B).duties (barCell c) 0 \ ∅) (fun d => (Rd A B).payload (barCell c) 0 d)
    = (bigSep Finset.univ fun a : Fin 3 => barPay (F := F) c a : sProp 𝕄) := by
  rw [Finset.sdiff_empty, duties_bar]; rfl
/-- What a send counter hands over in all. -/
theorem rest_send : bigSep ((Rd A B).duties (sendCell c s g) 0 \ ∅) (fun d => (Rd A B).payload (sendCell c s g) 0 d) = sendPay A B c s g := by
  rw [Finset.sdiff_empty, duties_send, bigSep_singleton, payload_send]
/-- What a receive counter hands over in all. -/
theorem rest_recv : bigSep ((Rd A B).duties (recvCell c s g) 0 \ ∅) (fun d => (Rd A B).payload (recvCell c s g) 0 d) = recvPay A B c s g := by
  rw [Finset.sdiff_empty, duties_recv, bigSep_singleton, payload_recv]

end Schedule

/-! ## What each device owes, and the levels -/

/-- The exchanges still to be sent when the first `k` are. -/
def rem (k : ℕ) : Finset (Fin 5 × Fin 6) := Finset.univ.filter fun p => k ≤ 6 * p.1.val + p.2.val

/-- What a device owes when the first `k` exchanges are sent: the landing of each other. -/
def Oat (c : Dev nD) (k : ℕ) : CellTallies nD τ sig Unit :=
  ∑ p ∈ rem k, tallyAt (recvCell (peer p.1 p.2 c) p.1 p.2) () (amt p.1)

/-- At launch it owes its three neighbours a signal each besides. -/
def Olaunch (c : Dev nD) : CellTallies nD τ sig Unit :=
  ((Oat c 0 + tallyAt (barCell (nbr 2 c)) () 1) + tallyAt (barCell (nbr 1 c)) () 1) + tallyAt (barCell (nbr 0 c)) () 1

/-- What is owed before a send is that send and what is owed after it. -/
theorem Oat_peel (c : Dev nD) (s : Fin 5) (g : Fin 6) :
    Oat c (6 * s.val + g.val) = Oat c (6 * s.val + g.val + 1) + tallyAt (recvCell (peer s g c) s g) () (amt s) := by
  have h : rem (6 * s.val + g.val) = insert (s, g) (rem (6 * s.val + g.val + 1)) := by revert s g; decide +kernel
  have hn : (s, g) ∉ rem (6 * s.val + g.val + 1) := by
    unfold rem; rw [Finset.mem_filter]; intro h; have := h.2; dsimp only at this; omega
  unfold Oat
  rw [h, Finset.sum_insert hn, add_comm]

/-- After the last send nothing is owed. -/
theorem Oat_end (c : Dev nD) : Oat c 30 = 0 := by
  have h : rem 30 = ∅ := by decide +kernel
  unfold Oat; rw [h, Finset.sum_empty]

def L (g : GSem nD τ sig) : Finset Unit := if g.1.2 = .tc then {()} else ∅
/-- A device waits for its barrier before any landing, and for the landings of an exchange before those of the next. -/
def lv (g : GSem nD τ sig) (_ : Unit) : ℕ := match g.2 with
  | .reg _ => 1
  | .dma q => match dec q with | some (true, s, _) => 2 + s.val | _ => 0

/-- Only counters of the TensorCore are in the schedule. -/
theorem L_of_ne (g : GSem nD τ sig) (h : g.1.2 ≠ .tc) : L g = ∅ := if_neg h
/-- A counter of the TensorCore is in the schedule, under its one index. -/
theorem L_tc (c : Dev nD) (sm : SemLoc sig) : L ((c : Thread nD τ), sm) = {()} := if_pos rfl

/-- The level of the barrier. -/
theorem lv_bar (c : Dev nD) : lv (barCell c) () = 1 := rfl
/-- The level of a send counter. -/
theorem lv_send (c : Dev nD) (s : Fin 5) (g : Fin 6) : lv (sendCell c s g) () = 0 := by
  show (match dec (sendS s g) with | some (true, s, _) => 2 + s.val | _ => 0) = _
  rw [dec_send]
/-- The level of a receive counter rises with the exchange. -/
theorem lv_recv (c : Dev nD) (s : Fin 5) (g : Fin 6) : lv (recvCell c s g) () = 2 + s.val := by
  show (match dec (recvS s g) with | some (true, s, _) => 2 + s.val | _ => 0) = _
  rw [dec_recv]

/-- What is owed is owed to landing cells of the exchanges still to be sent. -/
theorem Oat_pos {c : Dev nD} {k : ℕ} {x : GSem nD τ sig} {u : Unit} (h : 0 < Oat c k x u) :
    ∃ p ∈ rem k, x = recvCell (peer p.1 p.2 c) p.1 p.2 := by
  by_contra hn
  push Not at hn
  have : Oat c k x u = 0 := by
    unfold Oat
    rw [Finset.sum_apply, Finsupp.finset_sum_apply]
    refine Finset.sum_eq_zero fun p hp => ?_
    rw [tallyAt_apply]
    exact if_neg fun h => hn p hp h.1
  omega

/-- A device may wait for a cell below every exchange it still owes. -/
theorem mayWait_at (c : Dev nD) (sm : SemLoc sig) (k ℓ : ℕ) (hl : lv ((c : Thread nD τ), sm) () ≤ ℓ) (h : ∀ p ∈ rem k, ℓ < 2 + p.1.val) :
    (levAts L lv : sProp 𝕄) ⊢ MayWait (c : Thread nD τ) sm () (Oat c k) :=
  MayOwe.of_cut (L := L) (lev := lv) ℓ (fun p hp => by rw [Finset.mem_singleton.mp hp, L_tc]; exact Finset.mem_singleton_self _)
    (fun x u hx => by obtain ⟨p, -, rfl⟩ := Oat_pos hx; exact Finset.mem_singleton_self _)
    (fun p hp => by rw [Finset.mem_singleton.mp hp]; exact hl)
    (fun x u hx => by obtain ⟨p, hp, rfl⟩ := Oat_pos hx; rw [lv_recv]; exact h p hp)

end Cert.CubeProof

end
-- ==== Proof.Rules.lean ====
/-
  The rules the body is run by: waits for local copies and for exchanges, and the two ways an exchange is sent.
-/
module

public import proofs.«01_k».proof.Proof.Sched

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device carries along, and an exchange's pieces -/

section Rules

variable (A : Dev nD → S1536x768.Idx → Elt F .f32) (B : Dev nD → S768x1536.Idx → Elt F .f32) (κ : Dev nD × Cell → ℕ)

/-- Every cell's invariant is allocated, and every cell has reached its round. -/
def records : sProp 𝕄 := BI.bigSep Finset.univ fun ck : Dev nD × Cell =>
  iprop(cellInv ER (Rd (F := F) A B) (κ ck) (kcell ck) ∗ reached ER (kcell ck) 0)

instance records_persistent : BI.Persistent (records (F := F) A B κ) := by unfold records; infer_instance

/-- The record of one cell. -/
theorem records_at (ck : Dev nD × Cell) :
    records (F := F) A B κ ⊢ iprop(cellInv ER (Rd (F := F) A B) (κ ck) (kcell ck) ∗ reached ER (kcell ck) 0) :=
  BI.bigSep_elim (Finset.mem_univ ck)

/-- What device `c` owes when the first `k` exchanges are sent. -/
def owesX (c : Dev nD) (k : ℕ) : sProp 𝕄 := iprop(∃ W, owes (c : Thread nD τ) (Oat c k) W)

/-- What device `c` carries along: the records, the levels, and what it owes. -/
def Sh (c : Dev nD) (k : ℕ) : sProp 𝕄 := iprop(records (F := F) A B κ ∗ levAts L lv ∗ owesX (F := F) c k)

/-- Exchange `s` of group `g` still to be sent. -/
def Tk (c : Dev nD) (s : Fin 5) (g : Fin 6) : sProp 𝕄 :=
  iprop(atPos ER (sendCell c s g) 0 ∅ 0 ∗ atPos ER (recvCell c s g) 0 ∅ 0 ∗ dutyTok ER (sendCell c s g) 0 (0 : Fin 3)
    ∗ dutyTok ER (recvCell (peer s g c) s g) 0 (0 : Fin 3) ∗ cred (tallyAt (recvCell c s g) () (amt s)))
/-- Sent and not yet waited for. -/
def Sent (c : Dev nD) (s : Fin 5) (g : Fin 6) : sProp 𝕄 :=
  iprop((atPos ER (sendCell c s g) 0 ∅ 0 ∗ cred (tallyAt (sendCell c s g) () (amt s)))
    ∗ (atPos ER (recvCell c s g) 0 ∅ 0 ∗ cred (tallyAt (recvCell c s g) () (amt s))))
/-- Over: both counters are zero. -/
def Done (c : Dev nD) (s : Fin 5) (g : Fin 6) : sProp 𝕄 := iprop(semVal (sendCell c s g) 0 ∗ semVal (recvCell c s g) 0)

/-! ## Waits -/

/-- The counters of the loads of the left factor are at the lowest level. -/
theorem lv_a (c : Dev nD) (i : Fin 2) (g : Fin 6) : lv ((c : Thread nD τ), .dma (aS i g)) () = 0 := by
  have h : dec (aS i g) = none := by revert i g; decide +kernel
  show (match dec (aS i g) with | some (true, s, _) => 2 + s.val | _ => 0) = _
  rw [h]
/-- The counter of the load of the right factor is at the lowest level. -/
theorem lv_b (c : Dev nD) : lv ((c : Thread nD τ), .dma bS) () = 0 := by
  have h : dec bS = none := by decide +kernel
  show (match dec bS with | some (true, s, _) => 2 + s.val | _ => 0) = _
  rw [h]
/-- The counters of the stores are at the lowest level. -/
theorem lv_o (c : Dev nD) (i : Fin 3) (g : Fin 6) : lv ((c : Thread nD τ), .dma (oS i g)) () = 0 := by
  have h : dec (oS i g) = none := by revert i g; decide +kernel
  show (match dec (oS i g) with | some (true, s, _) => 2 + s.val | _ => 0) = _
  rw [h]

/-- The wait for a local copy. -/
theorem wait_fly (c : Dev nD) (k : ℕ) {α : Type} {Q : α → sProp 𝕄} {sp sp' spw : Space} {s sw : Shape} {e ew : EltTy} {sm : DmaSem sig}
    {src : Memref sig .tc sp s e} {dst : Memref sig .tc sp' s e} {srcw : Memref sig .tc spw sw ew}
    {hsrc : srcw.view.WordExact} {hdst : dst.view.WordExact} {q : PosShare TreeShare} {X : s.Idx → Elt F e}
    {kk : PUnit → Prog (TpuEff nD τ sig (Elt F) Λ₀ .tc) α} (hl : lv ((c : Thread nD τ), .dma sm) () = 0) :
    iprop(Sh A B κ c k ∗ fly c sm src dst q X)
      ⊢ iprop((iprop(Sh A B κ c k ∗ own c dst X ∗ owns (c : Thread nD τ) src q X ∗ semVal ((c : Thread nD τ), .dma sm) 0) -∗ run c (kk ⟨⟩) Q)
          -∗ run c (.op (.waitDma2 sm srcw dst hsrc hdst) kk) Q) := by
  unfold Sh owesX
  iintro ⟨⟨#Hr, #Hl, %W, HO⟩, HF⟩ Hk
  ihave #Hm := (mayWait_at (F := F) c (.dma sm) k 0 (le_of_eq hl) (fun p _ => by omega)) $$ Hl
  iapply (Transfers.wp_waitLocalO EC 𝒱₀ (c : Thread nD τ) none () (hN := rfl)) $$ [HF HO]
  · isplitl [HF]; · iexact HF
    isplitl [HO]; · iexact HO
    iexact Hm
  iintro ⟨⟨Hd, Hs⟩, Hv, HO⟩
  iapply Hk
  isplitl [HO]
  · isplitr; · iexact Hr
    isplitr; · iexact Hl
    iexists _; iexact HO
  isplitl [Hd]; · iexact Hd
  isplitl [Hs]; · iexact Hs
  iexact Hv

/-- The wait for the end of an exchange's reading. -/
theorem wait_send (c : Dev nD) (s : Fin 5) (g : Fin 6) (k : ℕ) {α : Type} {Q : α → sProp 𝕄} {sp spw : Space} {ss sw : Shape} {e ew : EltTy}
    {sm : DmaSem sig} (hsm : sm = sendS s g) {srcw : Memref sig .tc spw sw ew} {dst : Memref sig .tc sp ss e}
    {hsrc : srcw.view.WordExact} {hdst : dst.view.WordExact} {kk : PUnit → Prog (TpuEff nD τ sig (Elt F) Λ₀ .tc) α}
    (hN : dst.view.dmaCredit = amt s) :
    iprop(Sh A B κ c k ∗ atPos ER (sendCell c s g) 0 ∅ 0 ∗ cred (tallyAt (sendCell c s g) () (amt s)))
      ⊢ iprop((iprop(Sh A B κ c k ∗ semVal (sendCell c s g) 0 ∗ sendPay A B c s g) -∗ run c (kk ⟨⟩) Q)
          -∗ run c (.op (.waitDma2 sm srcw dst hsrc hdst) kk) Q) := by
  subst hsm
  unfold Sh owesX
  iintro ⟨⟨#Hr, #Hl, %W, HO⟩, Hat, Hc⟩ Hk
  ihave #Hm := (mayWait_at (F := F) c (.dma (sendS s g)) k 0 (le_of_eq (lv_send c s g)) (fun p _ => by omega)) $$ Hl
  ihave #Hx := (records_at A B κ (c, some (false, s, g))) $$ Hr
  icases Hx with ⟨#Hi, -⟩
  iapply (Rounds.wp_wait_rest_token 𝒱₀ ER (Rd A B) (c : Thread nD τ) none (κ := κ (c, some (false, s, g)))
    (wpE_waitDma2_eq 𝒱₀ (c : Thread nD τ) none Set.univ) (Set.mem_univ _) () (O := Oat c k) (W := W) (R := 0) (m := 0) (T := ∅)
    (by rw [Nat.zero_add, expect_send]; exact hN)) $$ [Hat Hc HO]
  · isplitr; · iexact Hi
    isplitl [Hc]; · rw [hN]; iexact Hc
    isplitl [HO]; · iexact HO
    isplitr; · iexact Hm
    iexact Hat
  rw [rest_send]
  iintro ⟨HO, Hat, -, Hp⟩
  imod (Rounds.cell_close ER (Rd A B) (Set.mem_univ (κ (c, some (false, s, g)))) (fun h => h) (R := 0 + 1) (duties_later A B (sendCell c s g))) $$ [Hat] with Hv
  · isplitr; · iexact Hi
    iexact Hat
  iapply Hk
  isplitl [HO]
  · isplitr; · iexact Hr
    isplitr; · iexact Hl
    iexists _; iexact HO
  isplitl [Hv]; · iexact Hv
  iexact Hp

/-- The wait for an exchange's landing. -/
theorem wait_recv (c : Dev nD) (s : Fin 5) (g : Fin 6) (k : ℕ) (hk : ∀ p ∈ rem k, s.val < p.1.val) {α : Type} {Q : α → sProp 𝕄}
    {sp spw : Space} {ss sw : Shape} {e ew : EltTy}
    {sm : DmaSem sig} (hsm : sm = recvS s g) {srcw : Memref sig .tc spw sw ew} {dst : Memref sig .tc sp ss e}
    {hsrc : srcw.view.WordExact} {hdst : dst.view.WordExact} {kk : PUnit → Prog (TpuEff nD τ sig (Elt F) Λ₀ .tc) α}
    (hN : dst.view.dmaCredit = amt s) :
    iprop(Sh A B κ c k ∗ atPos ER (recvCell c s g) 0 ∅ 0 ∗ cred (tallyAt (recvCell c s g) () (amt s)))
      ⊢ iprop((iprop(Sh A B κ c k ∗ semVal (recvCell c s g) 0 ∗ recvPay A B c s g) -∗ run c (kk ⟨⟩) Q)
          -∗ run c (.op (.waitDma2 sm srcw dst hsrc hdst) kk) Q) := by
  subst hsm
  unfold Sh owesX
  iintro ⟨⟨#Hr, #Hl, %W, HO⟩, Hat, Hc⟩ Hk
  ihave #Hm := (mayWait_at (F := F) c (.dma (recvS s g)) k (2 + s.val) (le_of_eq (lv_recv c s g)) (fun p hp => by have := hk p hp; omega)) $$ Hl
  ihave #Hx := (records_at A B κ (c, some (true, s, g))) $$ Hr
  icases Hx with ⟨#Hi, -⟩
  iapply (Rounds.wp_wait_rest_token 𝒱₀ ER (Rd A B) (c : Thread nD τ) none (κ := κ (c, some (true, s, g)))
    (wpE_waitDma2_eq 𝒱₀ (c : Thread nD τ) none Set.univ) (Set.mem_univ _) () (O := Oat c k) (W := W) (R := 0) (m := 0) (T := ∅)
    (by rw [Nat.zero_add, expect_recv]; exact hN)) $$ [Hat Hc HO]
  · isplitr; · iexact Hi
    isplitl [Hc]; · rw [hN]; iexact Hc
    isplitl [HO]; · iexact HO
    isplitr; · iexact Hm
    iexact Hat
  rw [rest_recv]
  iintro ⟨HO, Hat, -, Hp⟩
  imod (Rounds.cell_close ER (Rd A B) (Set.mem_univ (κ (c, some (true, s, g)))) (fun h => h) (R := 0 + 1) (duties_later A B (recvCell c s g))) $$ [Hat] with Hv
  · isplitr; · iexact Hi
    iexact Hat
  iapply Hk
  isplitl [HO]
  · isplitr; · iexact Hr
    isplitr; · iexact Hl
    iexists _; iexact HO
  isplitl [Hv]; · iexact Hv
  iexact Hp

/-! ## Sends -/

/-- The sending of an exchange whose source comes back when its reading ends. -/
theorem run_send (c : Dev nD) (s : Fin 5) (g : Fin 6) {α : Type} {Q : α → sProp 𝕄} {ss : Shape} {e : EltTy} {n : Dev nD} (hn : n = peer s g c)
    {sS rS : DmaSem sig} (hsS : sS = sendS s g) (hrS : rS = recvS s g)
    {src dst : Memref sig .tc .vmem ss e} {hsc : dst.view.ref.isScScratch = false} {hsrc : src.view.WordExact} {hdst : dst.view.WordExact}
    {hsem : DmaTarget.Typed .vmem (.dma rS) (.remote (n : Thread nD τ) dst (.dma sS) hsc)}
    {kk : PUnit → Prog (TpuEff nD τ sig (Elt F) Λ₀ .tc) α} (q : PosShare TreeShare) (X : ss.Idx → Elt F e)
    (hN : dst.view.amount (.dma rS) = amt s)
    (hp1 : owns (c : Thread nD τ) src q X ⊢ sendPay A B c s g)
    (hp2 : own (peer s g c) dst X ⊢ recvPay A B (peer s g c) s g) :
    iprop(Sh A B κ c (6 * s.val + g.val) ∗ owns (c : Thread nD τ) src q X ∗ any (F := F) (peer s g c) dst ∗ Tk (F := F) c s g)
      ⊢ iprop((iprop(Sh A B κ c (6 * s.val + g.val + 1) ∗ Sent (F := F) c s g) -∗ run c (kk ⟨⟩) Q)
          -∗ run c (.op (.enqueueDma src (.remote (n : Thread nD τ) dst (.dma sS) hsc) (.dma rS) hsrc hdst hsem) kk) Q) := by
  subst hn hsS hrS
  unfold Sh owesX Tk Sent any own owns
  iintro ⟨⟨#Hr, #Hl, %W, HO⟩, ⟨%fs, %hfs, Hs⟩, ⟨%Y, %fd, -, Hd⟩, Ha1, Ha2, Ht1, Ht2, Hc⟩ Hk
  ihave #Hx := (records_at A B κ (c, some (false, s, g))) $$ Hr
  ihave #Hy := (records_at A B κ (peer s g c, some (true, s, g))) $$ Hr
  icases Hx with ⟨#Hi, #Hri⟩
  icases Hy with ⟨#Hj, #Hrj⟩
  iapply (Rounds.wp_send_pointsTo 𝒱₀ ER (Rd A B) (c : Thread nD τ) none (c' := (peer s g c : Thread nD τ)) (fs := fs) (fd := fd) (r₁ := 0) (r₂ := 0) (d₁ := (0 : Fin 3)) (d₂ := (0 : Fin 3))
    (by rw [duties_send]; exact Finset.mem_singleton_self _) (by rw [duties_recv]; exact Finset.mem_singleton_self _) () () (amt s) hN
    (amount_send A B c s g 0) (amount_recv A B (peer s g c) s g 0) (Oat c (6 * s.val + g.val + 1)) (Oat_peel c s g)
    (by rw [payload_send]; refine BIBase.Entails.trans ?_ hp1; unfold owns; iintro H; iexists fs; isplitr; (· ipureintro; exact hfs); iexact H)
    (by rw [payload_recv]; refine BIBase.Entails.trans ?_ hp2; unfold own owns; iintro H; iexists _; isplitr
        · ipureintro; exact (View.read_write_univ (v := dst.view) fd _).trans hfs
        iexact H)) $$ [Hs Hd HO Ht1 Ht2]
  · isplitr; · iexact Hi
    isplitr; · iexact Hj
    isplitl [Hs]; · iexact Hs
    isplitl [Hd]; · iexact Hd
    isplitl [HO]; · iexact HO
    isplitl [Ht1]; · iexact Ht1
    isplitr; · iexact Hri
    isplitl [Ht2]; · iexact Ht2
    iexact Hrj
  iintro ⟨Hcs, HO⟩
  iapply Hk
  isplitl [HO]
  · isplitr; · iexact Hr
    isplitr; · iexact Hl
    iexists _; iexact HO
  isplitl [Ha1 Hcs]
  · isplitl [Ha1]; · iexact Ha1
    iexact Hcs
  · isplitl [Ha2]; · iexact Ha2
    iexact Hc

/-- The sending of an exchange whose source goes to the receiver with the landing. -/
theorem run_sendL (c : Dev nD) (s : Fin 5) (g : Fin 6) {α : Type} {Q : α → sProp 𝕄} {ss : Shape} {e : EltTy} {n : Dev nD} (hn : n = peer s g c)
    {sS rS : DmaSem sig} (hsS : sS = sendS s g) (hrS : rS = recvS s g)
    {src dst : Memref sig .tc .vmem ss e} {hsc : dst.view.ref.isScScratch = false} {hsrc : src.view.WordExact} {hdst : dst.view.WordExact}
    {hsem : DmaTarget.Typed .vmem (.dma rS) (.remote (n : Thread nD τ) dst (.dma sS) hsc)}
    {kk : PUnit → Prog (TpuEff nD τ sig (Elt F) Λ₀ .tc) α} (X : ss.Idx → Elt F e)
    (hN : dst.view.amount (.dma rS) = amt s)
    (hp1 : (emp : sProp 𝕄) ⊢ sendPay A B c s g)
    (hp2 : iprop(own (peer s g c) dst X ∗ any (F := F) c src) ⊢ recvPay A B (peer s g c) s g) :
    iprop(Sh A B κ c (6 * s.val + g.val) ∗ own c src X ∗ any (F := F) (peer s g c) dst ∗ Tk (F := F) c s g)
      ⊢ iprop((iprop(Sh A B κ c (6 * s.val + g.val + 1) ∗ Sent (F := F) c s g) -∗ run c (kk ⟨⟩) Q)
          -∗ run c (.op (.enqueueDma src (.remote (n : Thread nD τ) dst (.dma sS) hsc) (.dma rS) hsrc hdst hsem) kk) Q) := by
  subst hn hsS hrS
  unfold Sh owesX Tk Sent any own owns
  iintro ⟨⟨#Hr, #Hl, %W, HO⟩, ⟨%fs, %hfs, Hs⟩, ⟨%Y, %fd, -, Hd⟩, Ha1, Ha2, Ht1, Ht2, Hc⟩ Hk
  ihave #Hx := (records_at A B κ (c, some (false, s, g))) $$ Hr
  ihave #Hy := (records_at A B κ (peer s g c, some (true, s, g))) $$ Hr
  icases Hx with ⟨#Hi, #Hri⟩
  icases Hy with ⟨#Hj, #Hrj⟩
  iapply (Rounds.wp_send_landing_pointsTo 𝒱₀ ER (Rd A B) (c : Thread nD τ) none (c' := (peer s g c : Thread nD τ)) (fs := fs) (fd := fd) (r₁ := 0) (r₂ := 0) (d₁ := (0 : Fin 3)) (d₂ := (0 : Fin 3))
    (by rw [duties_send]; exact Finset.mem_singleton_self _) (by rw [duties_recv]; exact Finset.mem_singleton_self _) () () (amt s) hN
    (amount_send A B c s g 0) (amount_recv A B (peer s g c) s g 0) (Oat c (6 * s.val + g.val + 1)) (Oat_peel c s g)
    (by rw [payload_send]; exact hp1)
    (by rw [payload_recv]; refine BIBase.Entails.trans ?_ hp2; unfold any own owns; iintro ⟨H, H'⟩
        isplitl [H]
        · iexists _; isplitr
          · ipureintro; exact (View.read_write_univ (v := dst.view) fd _).trans hfs
          iexact H
        · iexists X; iexists fs; isplitr; (· ipureintro; exact hfs); iexact H')) $$ [Hs Hd HO Ht1 Ht2]
  · isplitr; · iexact Hi
    isplitr; · iexact Hj
    isplitl [Hs]; · iexact Hs
    isplitl [Hd]; · iexact Hd
    isplitl [HO]; · iexact HO
    isplitl [Ht1]; · iexact Ht1
    isplitr; · iexact Hri
    isplitl [Ht2]; · iexact Ht2
    iexact Hrj
  iintro ⟨Hcs, HO⟩
  iapply Hk
  isplitl [HO]
  · isplitr; · iexact Hr
    isplitr; · iexact Hl
    iexists _; iexact HO
  isplitl [Ha1 Hcs]
  · isplitl [Ha1]; · iexact Ha1
    iexact Hcs
  · isplitl [Ha2]; · iexact Ha2
    iexact Hc

end Rules

end Cert.CubeProof

end
-- ==== Proof.Steps.lean ====
/-
  The phases of one row group: multiplying, and what is done around the first exchange.
-/
module

public import proofs.«01_k».proof.Proof.Rules

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slices at an offset known to be a block's -/

abbrev sA {sp : Space} {e : EltTy} (M : Memref sig .tc sp S1536x768 e) (o : Fin 2 → ℕ) (i : ∀ a, o a + S128x768.size a ≤ S1536x768.size a) :
    Memref sig .tc sp S128x768 e := M.slice (Rect.unit (s := S1536x768) o S128x768.size i) (fun _ => rfl)
abbrev sH {sp : Space} {e : EltTy} (M : Memref sig .tc sp S1536x1536 e) (o : Fin 2 → ℕ) (i : ∀ a, o a + S128x1536.size a ≤ S1536x1536.size a) :
    Memref sig .tc sp S128x1536 e := M.slice (Rect.unit (s := S1536x1536) o S128x1536.size i) (fun _ => rfl)
abbrev sQ {sp : Space} {e : EltTy} (M : Memref sig .tc sp S1536x1536 e) (o : Fin 2 → ℕ) (i : ∀ a, o a + S64x1536.size a ≤ S1536x1536.size a) :
    Memref sig .tc sp S64x1536 e := M.slice (Rect.unit (s := S1536x1536) o S64x1536.size i) (fun _ => rfl)
abbrev atH (o : Fin 2 → ℕ) (i : ∀ a, o a + S128x1536.size a ≤ S1536x1536.size a) : Rect S1536x1536 := Rect.unit (s := S1536x1536) o S128x1536.size i
abbrev atQ (o : Fin 2 → ℕ) (i : ∀ a, o a + S64x1536.size a ≤ S1536x1536.size a) : Rect S1536x1536 := Rect.unit (s := S1536x1536) o S64x1536.size i
abbrev atA (o : Fin 2 → ℕ) (i : ∀ a, o a + S128x768.size a ≤ S1536x768.size a) : Rect S1536x768 := Rect.unit (s := S1536x768) o S128x768.size i
abbrev at0 (o : Fin 3 → ℕ) (i : ∀ a, o a + S1x64x1536.size a ≤ S6x128x1536.size a) : Rect S6x128x1536 := Rect.unit (s := S6x128x1536) o S1x64x1536.size i
abbrev at1 (o : Fin 3 → ℕ) (i : ∀ a, o a + S1x64x1536.size a ≤ S6x64x1536.size a) : Rect S6x64x1536 := Rect.unit (s := S6x64x1536) o S1x64x1536.size i

/-- Going to a partner twice comes back. -/
theorem peer_peer (s : Fin 5) (g : Fin 6) (c : Dev nD) : peer s g (peer s g c) = c := nbr_nbr _ c

/-- A load whose result is not used. -/
theorem run_load_any (c : Dev nD) {α : Type} {Q : α → sProp 𝕄} {cs : CoreSpace} {s : Shape} {e : EltTy} {m : Memref sig .tc cs s e} {r : Rect s}
    {hl : m.view.LoadsAt r.toLoadRect} {k : Prog (TpuEff nD τ sig (Elt F) Λ₀ .tc) α} (hr : ∀ a, r.stride a = 1) :
    any (F := F) c (m.slice r hr) ⊢ iprop((any (F := F) c (m.slice r hr) -∗ run c k Q) -∗ run c (.op (.load m r.toLoadRect hl) fun _ => k) Q) := by
  unfold any own
  iintro ⟨%X, H⟩ Hk
  iapply (run_load c hr fullShare X) $$ H
  iintro H
  iapply Hk
  iexists X
  iexact H

/-! ## The phases of one row group -/

section Phases

variable (A : Dev nD → S1536x768.Idx → Elt F .f32) (B : Dev nD → S768x1536.Idx → Elt F .f32) (κ : Dev nD × Cell → ℕ)
variable (c : Dev nD) (g : Fin 6)

/-- The copy of block `j` of the left factor under way on the semaphore `(i, g)`. -/
def flyA (i : Fin 2) (j : Fin 12) : sProp 𝕄 := fly c (aS i g) (mA aM j) (mA avM j) fullShare (aBlk A c j)
/-- That copy ended. -/
def endA (i : Fin 2) (j : Fin 12) : sProp 𝕄 :=
  iprop(own c (mA aM j) (aBlk A c j) ∗ any (F := F) c (mA avM j) ∗ semVal ((c : Thread nD τ), .dma (aS i g)) 0)

/-- Multiply the rows given away, and put the product in the mirror. -/
theorem P0 (k : ℕ) {α : Type} {Q : α → sProp 𝕄} {o1 o2 o3 : Fin 2 → ℕ} (h1 : o1 = ![128 * (hs c g).val, 0]) (h2 : o2 = ![128 * (hs c g).val, 0])
    (h3 : o3 = ![128 * (hs c g).val, 0]) {sm : DmaSem sig} (hsm : sm = aS 0 g)
    (pay : (S128x768.Idx → Elt F .f32) → (S768x1536.Idx → Elt F .f32) → S128x1536.Idx → Elt F .bf16)
    (hp : pay (aBlk A c (hs c g)) (B c) = X0 A B c g)
    {i1 : ∀ a, o1 a + S128x768.size a ≤ S1536x768.size a} {i2 : ∀ a, o2 a + S128x768.size a ≤ S1536x768.size a}
    {i3 : ∀ a, o3 a + S128x1536.size a ≤ S1536x1536.size a} {i4 : ∀ a, (![0, 0] : Fin 2 → ℕ) a + S768x1536.size a ≤ S768x1536.size a}
    {w1 : (sA aM o1 i1).view.WordExact} {w2 : (sA avM o1 i1).view.WordExact} {l1 : avM.view.LoadsAt (atA o2 i2).toLoadRect}
    {l2 : bvM.view.LoadsAt (Rect.unit (s := S768x1536) ![0, 0] S768x1536.size i4).toLoadRect} {l3 : mirM.view.LoadsAt (atH o3 i3).toLoadRect}
    {x1 : (mirM.access (atH o3 i3)).Stores Finset.univ} {x2 : Finset.univ = Finset.univ ∨ ∀ a, (atH o3 i3).stride a = 1}
    {kk : Prog (TpuEff nD τ sig (Elt F) Λ₀ .tc) α} :
    iprop(iprop(Sh A B κ c k ∗ own c bvM (B c)) ∗ flyA A c g 0 (hs c g) ∗ any (F := F) c (mH mirM (hs c g)))
      ⊢ iprop((iprop(iprop(Sh A B κ c k ∗ own c bvM (B c)) ∗ endA A c g 0 (hs c g) ∗ own c (mH mirM (hs c g)) (X0 A B c g)) -∗ run c kk Q)
          -∗ run c (.op (.waitDma2 sm (sA aM o1 i1) (sA avM o1 i1) w1 w2) fun _ =>
              .op (.load avM (atA o2 i2).toLoadRect l1) fun x =>
              .op (.load bvM (Rect.unit (s := S768x1536) ![0, 0] S768x1536.size i4).toLoadRect l2) fun y =>
              .op (.load mirM (atH o3 i3).toLoadRect l3) fun _ =>
              .op (.store mirM (atH o3 i3) (pay x y) Finset.univ x1 x2) fun _ => kk) Q) := by
  subst h1 h2 h3 hsm
  unfold flyA endA
  iintro ⟨⟨Hsh, Hb⟩, HF, Hm⟩ Hk
  iapply (wait_fly A B κ c k (lv_a c 0 g)) $$ [Hsh HF]
  · isplitl [Hsh] <;> iassumption
  iintro ⟨Hsh, Hd, Hs, Hv⟩
  iapply (run_load c (fun _ => rfl) fullShare _) $$ Hd
  iintro Hd
  iapply (run_load_bv c _) $$ Hb
  iintro Hb
  iapply (run_load_any c (fun _ => rfl)) $$ Hm
  iintro Hm
  iapply (run_store c (fun _ => rfl)) $$ Hm
  rw [hp]
  iintro Hm
  iapply Hk
  isplitl [Hsh Hb]; · isplitl [Hsh] <;> iassumption
  isplitr [Hm]; swap; · iexact Hm
  isplitl [Hs]; · iexact Hs
  isplitl [Hd]; · iapply (any_intro c (mA avM (hs c g)) _); iexact Hd
  iexact Hv

/-- Send that product to the first neighbour. -/
theorem P0s (k k' : ℕ) (hkv : k = 6 * (0 : Fin 5).val + g.val) (hkv' : k' = k + 1) {α : Type} {Q : α → sProp 𝕄} {o1 : Fin 2 → ℕ} (h1 : o1 = ![128 * (hs c g).val, 0]) {sS rS : DmaSem sig} (hsS : sS = sendS 0 g) (hrS : rS = recvS 0 g)
    {n : Dev nD} (hn : n = peer 0 g c) {dst : Memref sig .tc .vmem S128x1536 .bf16} (hdst : dst = slot0 g)
    {i1 : ∀ a, o1 a + S128x1536.size a ≤ S1536x1536.size a} {hsc : dst.view.ref.isScScratch = false} {w1 : (sH mirM o1 i1).view.WordExact}
    {w2 : dst.view.WordExact} {hsem : DmaTarget.Typed .vmem (.dma rS) (.remote (n : Thread nD τ) dst (.dma sS) hsc)}
    {kk : PUnit → Prog (TpuEff nD τ sig (Elt F) Λ₀ .tc) α} :
    iprop(Sh A B κ c k ∗ own c (mH mirM (hs c g)) (X0 A B c g) ∗ slotAny (F := F) (peer 0 g c) 0 g ∗ Tk (F := F) c 0 g)
      ⊢ iprop((iprop(Sh A B κ c k' ∗ Sent (F := F) c 0 g) -∗ run c (kk ⟨⟩) Q)
          -∗ run c (.op (.enqueueDma (sH mirM o1 i1) (.remote (n : Thread nD τ) dst (.dma sS) hsc) (.dma rS) w1 w2 hsem) kk) Q) := by
  subst hkv hkv' h1 hdst
  refine run_sendL A B κ c 0 g hn hsS hrS (X0 A B c g) rfl .rfl ?_
  show _ ⊢ iprop(own (peer 0 g c) (slot0 g) (X0 A B (peer 0 g (peer 0 g c)) g) ∗ any (F := F) (peer 0 g (peer 0 g c)) (mH mirM (hk (peer 0 g c) g)))
  rw [peer_peer, hk_peer0]

/-- Multiply the rows kept, and put the product in the accumulator. -/
theorem P1 (k : ℕ) {α : Type} {Q : α → sProp 𝕄} {o1 o2 o3 : Fin 2 → ℕ} (h1 : o1 = ![128 * (hk c g).val, 0]) (h2 : o2 = ![128 * (hk c g).val, 0])
    (h3 : o3 = ![128 * (hk c g).val, 0]) {sm : DmaSem sig} (hsm : sm = aS 1 g)
    (pay : (S128x768.Idx → Elt F .f32) → (S768x1536.Idx → Elt F .f32) → S128x1536.Idx → Elt F .f32)
    (hp : pay (aBlk A c (hk c g)) (B c) = Y0 A B c g)
    {i1 : ∀ a, o1 a + S128x768.size a ≤ S1536x768.size a} {i2 : ∀ a, o2 a + S128x768.size a ≤ S1536x768.size a}
    {i3 : ∀ a, o3 a + S128x1536.size a ≤ S1536x1536.size a} {i4 : ∀ a, (![0, 0] : Fin 2 → ℕ) a + S768x1536.size a ≤ S768x1536.size a}
    {w1 : (sA aM o1 i1).view.WordExact} {w2 : (sA avM o1 i1).view.WordExact} {l1 : avM.view.LoadsAt (atA o2 i2).toLoadRect}
    {l2 : bvM.view.LoadsAt (Rect.unit (s := S768x1536) ![0, 0] S768x1536.size i4).toLoadRect} {l3 : accM.view.LoadsAt (atH o3 i3).toLoadRect}
    {x1 : (accM.access (atH o3 i3)).Stores Finset.univ} {x2 : Finset.univ = Finset.univ ∨ ∀ a, (atH o3 i3).stride a = 1}
    {kk : Prog (TpuEff nD τ sig (Elt F) Λ₀ .tc) α} :
    iprop(iprop(Sh A B κ c k ∗ own c bvM (B c)) ∗ flyA A c g 1 (hk c g) ∗ any (F := F) c (mH accM (hk c g)))
      ⊢ iprop((iprop(iprop(Sh A B κ c k ∗ own c bvM (B c)) ∗ endA A c g 1 (hk c g) ∗ own c (mH accM (hk c g)) (Y0 A B c g)) -∗ run c kk Q)
          -∗ run c (.op (.waitDma2 sm (sA aM o1 i1) (sA avM o1 i1) w1 w2) fun _ =>
              .op (.load avM (atA o2 i2).toLoadRect l1) fun x =>
              .op (.load bvM (Rect.unit (s := S768x1536) ![0, 0] S768x1536.size i4).toLoadRect l2) fun y =>
              .op (.load accM (atH o3 i3).toLoadRect l3) fun _ =>
              .op (.store accM (atH o3 i3) (pay x y) Finset.univ x1 x2) fun _ => kk) Q) := by
  subst h1 h2 h3 hsm
  unfold flyA endA
  iintro ⟨⟨Hsh, Hb⟩, HF, Hm⟩ Hk
  iapply (wait_fly A B κ c k (lv_a c 1 g)) $$ [Hsh HF]
  · isplitl [Hsh] <;> iassumption
  iintro ⟨Hsh, Hd, Hs, Hv⟩
  iapply (run_load c (fun _ => rfl) fullShare _) $$ Hd
  iintro Hd
  iapply (run_load_bv c _) $$ Hb
  iintro Hb
  iapply (run_load_any c (fun _ => rfl)) $$ Hm
  iintro Hm
  iapply (run_store c (fun _ => rfl)) $$ Hm
  rw [hp]
  iintro Hm
  iapply Hk
  isplitl [Hsh Hb]; · isplitl [Hsh] <;> iassumption
  isplitr [Hm]; swap; · iexact Hm
  isplitl [Hs]; · iexact Hs
  isplitl [Hd]; · iapply (any_intro c (mA avM (hk c g)) _); iexact Hd
  iexact Hv

end Phases

end Cert.CubeProof

end
-- ==== Proof.Phases.lean ====
/-
  The phases of one row group between its exchanges: each ends an exchange, adds or passes on what it brought, and
  starts the next.
-/
module

public import proofs.«01_k».proof.Proof.Steps

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Phases

variable (A : Dev nD → S1536x768.Idx → Elt F .f32) (B : Dev nD → S768x1536.Idx → Elt F .f32) (κ : Dev nD × Cell → ℕ)
variable (c : Dev nD) (g : Fin 6)

/-- The quarter kept, in terms of the half kept. -/
theorem qk_val : (qk c g).val = 2 * (hk c g).val + (b2 c g).val := rfl
/-- The quarter sent, in terms of the half kept. -/
theorem qs_val : (qs c g).val = 2 * (hk c g).val + (1 - (b2 c g).val) := rfl

/-- The half kept is the quarter kept and the quarter sent. -/
theorem any_cut {sp : Space} {e : EltTy} (M : Memref sig .tc sp S1536x1536 e) :
    any (F := F) c (mH M (hk c g)) ⊢ iprop(any (F := F) c (mQ M (qk c g)) ∗ any (F := F) c (mQ M (qs c g))) := by
  unfold any own
  iintro ⟨%X, H⟩
  ihave H := (owns_cut c M (hk c g) (b2 c g) (qk c g) (qs c g) (qk_val c g) (qs_val c g) fullShare X).1 $$ H
  icases H with ⟨H, H'⟩
  isplitl [H]
  · iexists _; iexact H
  · iexists _; iexact H'

/-- The quarter kept and the quarter sent make the half kept. -/
theorem any_glue {sp : Space} {e : EltTy} (M : Memref sig .tc sp S1536x1536 e) :
    iprop(any (F := F) c (mQ M (qk c g)) ∗ any (F := F) c (mQ M (qs c g))) ⊢ any (F := F) c (mH M (hk c g)) := by
  unfold any own
  iintro ⟨⟨%U, H⟩, %V, H'⟩
  iexists _
  iapply (owns_glue c M (hk c g) (b2 c g) (qk c g) (qs c g) (qk_val c g) (qs_val c g) fullShare U V)
  isplitl [H] <;> iassumption

/-- The two waits an exchange ends with. -/
theorem wait_both (s : Fin 5) (k : ℕ) (hk : 6 * s.val + 6 ≤ k) {α : Type} {Q : α → sProp 𝕄} {ss : Shape} {e : EltTy} {sS rS : DmaSem sig} (hsS : sS = sendS s g) (hrS : rS = recvS s g)
    {src dst : Memref sig .tc .vmem ss e} (hN : src.view.dmaCredit = amt s) (hN' : dst.view.dmaCredit = amt s)
    {w1 w3 : dst.view.WordExact} {w2 w4 : src.view.WordExact} {kk : Prog (TpuEff nD τ sig (Elt F) Λ₀ .tc) α} :
    iprop(Sh A B κ c k ∗ Sent (F := F) c s g)
      ⊢ iprop((iprop(Sh A B κ c k ∗ Done (F := F) c s g ∗ sendPay A B c s g ∗ recvPay A B c s g) -∗ run c kk Q)
          -∗ run c (.op (.waitDma2 sS dst src w1 w2) fun _ => .op (.waitDma2 rS src dst w4 w3) fun _ => kk) Q) := by
  unfold Sent Done
  iintro ⟨Hsh, Hs, Hr⟩ Hk
  iapply (wait_send A B κ c s g k hsS hN) $$ [Hsh Hs]
  · isplitl [Hsh] <;> iassumption
  iintro ⟨Hsh, Hv, Hp⟩
  iapply (wait_recv A B κ c s g k (fun p hp => by
    have h := (Finset.mem_filter.mp hp).2
    have := p.2.isLt
    omega) hrS hN') $$ [Hsh Hr]
  · isplitl [Hsh] <;> iassumption
  iintro ⟨Hsh, Hv', Hp'⟩
  iapply Hk
  isplitl [Hsh]; · iexact Hsh
  isplitl [Hv Hv']
  · isplitl [Hv] <;> iassumption
  isplitl [Hp] <;> iassumption

/-- After the first exchange: add on the quarter given away and send the sum to the second neighbour, then add on the
    quarter kept. -/
theorem P2 (k k' : ℕ) (hkv : k = 6 * (1 : Fin 5).val + g.val) (hkv' : k' = k + 1) {α : Type} {Q : α → sProp 𝕄} {o1 o2 o3 o4 : Fin 2 → ℕ} {p1 p2 : Fin 3 → ℕ}
    (h1 : o1 = ![128 * (hs c g).val, 0]) (h2 : o2 = ![64 * (qs c g).val, 0]) (h3 : o3 = ![64 * (qs c g).val, 0]) (h4 : o4 = ![64 * (qk c g).val, 0])
    (e1 : p1 = ![g.val, 64 * (1 - b2 c g).val, 0]) (e2 : p2 = ![g.val, 64 * (b2 c g).val, 0])
    {sS rS sS' rS' : DmaSem sig} (hsS : sS = sendS 0 g) (hrS : rS = recvS 0 g) (hsS' : sS' = sendS 1 g) (hrS' : rS' = recvS 1 g)
    {n : Dev nD} (hn : n = peer 1 g c) {d0 : Memref sig .tc .vmem S128x1536 .bf16} (hd0 : d0 = slot0 g)
    {d1 : Memref sig .tc .vmem S64x1536 .bf16} (hd1 : d1 = slot1 g)
    (pay : (S64x1536.Idx → Elt F .f32) → (S1x64x1536.Idx → Elt F .bf16) → S64x1536.Idx → Elt F .bf16)
    (hp : pay (sub (1 - b2 c g) (Y0 A B c g)) (lift3 (sub (1 - b2 c g) (X0 A B (peer 0 g c) g))) = X1 A B c g)
    (pay' : (S64x1536.Idx → Elt F .f32) → (S1x64x1536.Idx → Elt F .bf16) → S64x1536.Idx → Elt F .f32)
    (hp' : pay' (sub (b2 c g) (Y0 A B c g)) (lift3 (sub (b2 c g) (X0 A B (peer 0 g c) g))) = Y1 A B c g)
    {i1 : ∀ a, o1 a + S128x1536.size a ≤ S1536x1536.size a} {i2 : ∀ a, o2 a + S64x1536.size a ≤ S1536x1536.size a}
    {i3 : ∀ a, o3 a + S64x1536.size a ≤ S1536x1536.size a} {i4 : ∀ a, o4 a + S64x1536.size a ≤ S1536x1536.size a}
    {j1 : ∀ a, p1 a + S1x64x1536.size a ≤ S6x128x1536.size a} {j2 : ∀ a, p2 a + S1x64x1536.size a ≤ S6x128x1536.size a}
    {w1 w3 : d0.view.WordExact} {w2 w4 : (sH mirM o1 i1).view.WordExact}
    {l1 : accM.view.LoadsAt (atQ o2 i2).toLoadRect} {l2 : rs0M.view.LoadsAt (at0 p1 j1).toLoadRect} {l3 : mirM.view.LoadsAt (atQ o2 i2).toLoadRect}
    {x1 : (mirM.access (atQ o2 i2)).Stores Finset.univ} {x2 : Finset.univ = Finset.univ ∨ ∀ a, (atQ o2 i2).stride a = 1}
    {hsc : d1.view.ref.isScScratch = false} {w5 : (sQ mirM o3 i3).view.WordExact} {w6 : d1.view.WordExact}
    {hsem : DmaTarget.Typed .vmem (.dma rS') (.remote (n : Thread nD τ) d1 (.dma sS') hsc)}
    {l4 : accM.view.LoadsAt (atQ o4 i4).toLoadRect} {l5 : rs0M.view.LoadsAt (at0 p2 j2).toLoadRect} {l6 : accM.view.LoadsAt (atQ o4 i4).toLoadRect}
    {x3 : (accM.access (atQ o4 i4)).Stores Finset.univ} {x4 : Finset.univ = Finset.univ ∨ ∀ a, (atQ o4 i4).stride a = 1}
    {kk : Prog (TpuEff nD τ sig (Elt F) Λ₀ .tc) α} :
    iprop(Sh A B κ c k ∗ Sent (F := F) c 0 g ∗ own c (mH accM (hk c g)) (Y0 A B c g) ∗ any (F := F) c (mH mirM (hk c g))
        ∗ slotAny (F := F) (peer 1 g c) 1 g ∗ Tk (F := F) c 1 g)
      ⊢ iprop((iprop(Sh A B κ c k' ∗ (Done (F := F) c 0 g ∗ any (F := F) c (slot0 g) ∗ any (F := F) c (mQ accM (qs c g)))
              ∗ any (F := F) (peer 0 g c) (mH mirM (hk c g)) ∗ any (F := F) c (mQ mirM (qk c g)) ∗ own c (mQ accM (qk c g)) (Y1 A B c g)
              ∗ Sent (F := F) c 1 g) -∗ run c kk Q)
          -∗ run c (.op (.waitDma2 sS d0 (sH mirM o1 i1) w1 w2) fun _ =>
              .op (.waitDma2 rS (sH mirM o1 i1) d0 w4 w3) fun _ =>
              .op (.load accM (atQ o2 i2).toLoadRect l1) fun x =>
              .op (.load rs0M (at0 p1 j1).toLoadRect l2) fun y =>
              .op (.load mirM (atQ o2 i2).toLoadRect l3) fun _ =>
              .op (.store mirM (atQ o2 i2) (pay x y) Finset.univ x1 x2) fun _ =>
              .op (.enqueueDma (sQ mirM o3 i3) (.remote (n : Thread nD τ) d1 (.dma sS') hsc) (.dma rS') w5 w6 hsem) fun _ =>
              .op (.load accM (atQ o4 i4).toLoadRect l4) fun x' =>
              .op (.load rs0M (at0 p2 j2).toLoadRect l5) fun y' =>
              .op (.load accM (atQ o4 i4).toLoadRect l6) fun _ =>
              .op (.store accM (atQ o4 i4) (pay' x' y') Finset.univ x3 x4) fun _ => kk) Q) := by
  subst hkv hkv' h1 h2 h3 h4 hd0 hd1
  iintro ⟨Hsh, HS, Hacc, Hm, Hsl, Ht⟩ Hk
  iapply (wait_both A B κ c g 0 (6 * (1 : Fin 5).val + g.val) (Nat.le_add_right 6 g.val) hsS hrS (src := sH mirM _ i1) (dst := slot0 g) rfl rfl) $$ [Hsh HS]
  · isplitl [Hsh] <;> iassumption
  unfold sendPay recvPay
  iintro ⟨Hsh, HD, -, Hs0, Hn1⟩
  ihave Hacc := (owns_cut c accM (hk c g) (b2 c g) (qk c g) (qs c g) (qk_val c g) (qs_val c g) fullShare _).1 $$ Hacc
  icases Hacc with ⟨HaQ, HaT⟩
  ihave Hm := (any_cut c g mirM) $$ Hm
  icases Hm with ⟨HmQ, HmT⟩
  iapply (run_load c (fun _ => rfl) fullShare _) $$ HaT
  iintro HaT
  iapply (run_load_slot0 c g (1 - b2 c g) e1 _) $$ Hs0
  iintro Hs0
  iapply (run_load_any c (fun _ => rfl)) $$ HmT
  iintro HmT
  iapply (run_store c (fun _ => rfl)) $$ HmT
  rw [hp]
  iintro HmT
  iapply (run_sendL A B κ c 1 g hn hsS' hrS' (src := sQ mirM _ i3) (dst := slot1 g) (X1 A B c g) rfl .rfl (by
    show _ ⊢ iprop(own (peer 1 g c) (slot1 g) (X1 A B (peer 1 g (peer 1 g c)) g) ∗ any (F := F) (peer 1 g (peer 1 g c)) (mQ mirM (qk (peer 1 g c) g)))
    rw [peer_peer, qk_peer1])) $$ [Hsh HmT Hsl Ht]
  · isplitl [Hsh]; · iexact Hsh
    isplitl [HmT]; · iexact HmT
    isplitl [Hsl]; · simp only [slotAny]; iexact Hsl
    iexact Ht
  iintro ⟨Hsh, HS⟩
  iapply (run_load c (fun _ => rfl) fullShare _) $$ HaQ
  iintro HaQ
  iapply (run_load_slot0 c g (b2 c g) e2 _) $$ Hs0
  iintro Hs0
  ihave HaQ := (any_intro c _ _) $$ HaQ
  iapply (run_load_any c (fun _ => rfl)) $$ HaQ
  iintro HaQ
  iapply (run_store c (fun _ => rfl)) $$ HaQ
  rw [hp']
  iintro HaQ
  iapply Hk
  isplitl [Hsh]; · iexact Hsh
  isplitl [HD Hs0 HaT]
  · isplitl [HD]; · iexact HD
    isplitl [Hs0]; · iapply (any_intro c (slot0 g) _); iexact Hs0
    iapply (any_intro c (mQ accM (qs c g)) _); iexact HaT
  isplitl [Hn1]; · iexact Hn1
  isplitl [HmQ]; · iexact HmQ
  isplitl [HaQ]; · iexact HaQ
  iexact HS

/-- After the second exchange: add on the quarter kept, and send the sum to the third neighbour. -/
theorem P3 (k k' : ℕ) (hkv : k = 6 * (2 : Fin 5).val + g.val) (hkv' : k' = k + 1) {α : Type} {Q : α → sProp 𝕄} {o1 o2 o3 : Fin 2 → ℕ} {p1 : Fin 3 → ℕ}
    (h1 : o1 = ![64 * (qs c g).val, 0]) (h2 : o2 = ![64 * (qk c g).val, 0]) (h3 : o3 = ![64 * (qk c g).val, 0])
    (e1 : p1 = ![g.val, 0, 0])
    {sS rS sS' rS' : DmaSem sig} (hsS : sS = sendS 1 g) (hrS : rS = recvS 1 g) (hsS' : sS' = sendS 2 g) (hrS' : rS' = recvS 2 g)
    {n : Dev nD} (hn : n = peer 2 g c) {d1 : Memref sig .tc .vmem S64x1536 .bf16} (hd1 : d1 = slot1 g)
    {d2 : Memref sig .tc .vmem S64x1536 .bf16} (hd2 : d2 = slot2 g)
    (pay : (S64x1536.Idx → Elt F .f32) → (S1x64x1536.Idx → Elt F .bf16) → S64x1536.Idx → Elt F .f32)
    (hp : pay (Y1 A B c g) (lift3 (X1 A B (peer 1 g c) g)) = Y2 A B c g)
    (pay' : (S64x1536.Idx → Elt F .f32) → (S1x64x1536.Idx → Elt F .bf16) → S64x1536.Idx → Elt F .bf16)
    (hp' : pay' (Y1 A B c g) (lift3 (X1 A B (peer 1 g c) g)) = X2 A B c g)
    {i1 : ∀ a, o1 a + S64x1536.size a ≤ S1536x1536.size a} {i2 : ∀ a, o2 a + S64x1536.size a ≤ S1536x1536.size a}
    {i3 : ∀ a, o3 a + S64x1536.size a ≤ S1536x1536.size a} {j1 : ∀ a, p1 a + S1x64x1536.size a ≤ S6x64x1536.size a}
    {w1 w3 : d1.view.WordExact} {w2 w4 : (sQ mirM o1 i1).view.WordExact}
    {l1 l3 : accM.view.LoadsAt (atQ o2 i2).toLoadRect} {l2 : rs1M.view.LoadsAt (at1 p1 j1).toLoadRect} {l4 : mirM.view.LoadsAt (atQ o2 i2).toLoadRect}
    {x1 : (accM.access (atQ o2 i2)).Stores Finset.univ} {x2 x4 : Finset.univ = Finset.univ ∨ ∀ a, (atQ o2 i2).stride a = 1}
    {x3 : (mirM.access (atQ o2 i2)).Stores Finset.univ}
    {hsc : d2.view.ref.isScScratch = false} {w5 : (sQ mirM o3 i3).view.WordExact} {w6 : d2.view.WordExact}
    {hsem : DmaTarget.Typed .vmem (.dma rS') (.remote (n : Thread nD τ) d2 (.dma sS') hsc)}
    {kk : Prog (TpuEff nD τ sig (Elt F) Λ₀ .tc) α} :
    iprop(Sh A B κ c k ∗ Sent (F := F) c 1 g ∗ own c (mQ accM (qk c g)) (Y1 A B c g) ∗ any (F := F) c (mQ mirM (qk c g))
        ∗ slotAny (F := F) (peer 2 g c) 2 g ∗ Tk (F := F) c 2 g)
      ⊢ iprop((iprop(Sh A B κ c k' ∗ (Done (F := F) c 1 g ∗ any (F := F) c (slot1 g))
              ∗ any (F := F) (peer 1 g c) (mQ mirM (qk c g)) ∗ own c (mQ accM (qk c g)) (Y2 A B c g) ∗ Sent (F := F) c 2 g) -∗ run c kk Q)
          -∗ run c (.op (.waitDma2 sS d1 (sQ mirM o1 i1) w1 w2) fun _ =>
              .op (.waitDma2 rS (sQ mirM o1 i1) d1 w4 w3) fun _ =>
              .op (.load accM (atQ o2 i2).toLoadRect l1) fun x =>
              .op (.load rs1M (at1 p1 j1).toLoadRect l2) fun y =>
              .op (.load accM (atQ o2 i2).toLoadRect l3) fun _ =>
              .op (.store accM (atQ o2 i2) (pay x y) Finset.univ x1 x2) fun _ =>
              .op (.load mirM (atQ o2 i2).toLoadRect l4) fun _ =>
              .op (.store mirM (atQ o2 i2) (pay' x y) Finset.univ x3 x4) fun _ =>
              .op (.enqueueDma (sQ mirM o3 i3) (.remote (n : Thread nD τ) d2 (.dma sS') hsc) (.dma rS') w5 w6 hsem) fun _ => kk) Q) := by
  subst hkv hkv' h1 h2 h3 hd1 hd2
  iintro ⟨Hsh, HS, Hacc, Hm, Hsl, Ht⟩ Hk
  iapply (wait_both A B κ c g 1 (6 * (2 : Fin 5).val + g.val) (Nat.le_add_right 12 g.val) hsS hrS (src := sQ mirM _ i1) (dst := slot1 g) rfl rfl) $$ [Hsh HS]
  · isplitl [Hsh] <;> iassumption
  unfold sendPay recvPay
  iintro ⟨Hsh, HD, -, Hs1, Hn2⟩
  iapply (run_load c (fun _ => rfl) fullShare _) $$ Hacc
  iintro Hacc
  iapply (run_load_slot1 c g e1 _) $$ Hs1
  iintro Hs1
  ihave Hacc := (any_intro c _ _) $$ Hacc
  iapply (run_load_any c (fun _ => rfl)) $$ Hacc
  iintro Hacc
  iapply (run_store c (fun _ => rfl)) $$ Hacc
  rw [hp]
  iintro Hacc
  iapply (run_load_any c (fun _ => rfl)) $$ Hm
  iintro Hm
  iapply (run_store c (fun _ => rfl)) $$ Hm
  rw [hp']
  iintro Hm
  iapply (run_send A B κ c 2 g hn hsS' hrS' (src := sQ mirM _ i3) (dst := slot2 g) fullShare (X2 A B c g) rfl .rfl (by
    show _ ⊢ own (peer 2 g c) (slot2 g) (X2 A B (peer 2 g (peer 2 g c)) g)
    rw [peer_peer])) $$ [Hsh Hm Hsl Ht]
  · isplitl [Hsh]; · iexact Hsh
    isplitl [Hm]; · iexact Hm
    isplitl [Hsl]; · simp only [slotAny]; iexact Hsl
    iexact Ht
  iintro ⟨Hsh, HS⟩
  iapply Hk
  isplitl [Hsh]; · iexact Hsh
  isplitl [HD Hs1]
  · isplitl [HD]; · iexact HD
    iapply (any_intro c (slot1 g) _); iexact Hs1
  isplitl [Hn2]; · iexact Hn2
  isplitl [Hacc]; · iexact Hacc
  iexact HS

/-- After the third exchange: finish the quarter kept, send it to the second neighbour, and start its copy out. -/
theorem P4 (k k' : ℕ) (hkv : k = 6 * (3 : Fin 5).val + g.val) (hkv' : k' = k + 1) {α : Type} {Q : α → sProp 𝕄} {o1 o2 o3 : Fin 2 → ℕ} {p1 : Fin 3 → ℕ}
    (h1 : o1 = ![64 * (qk c g).val, 0]) (h2 : o2 = ![64 * (qk c g).val, 0]) (h3 : o3 = ![64 * (qk c g).val, 0])
    (e1 : p1 = ![g.val, 0, 0])
    {sS rS sS' rS' sO : DmaSem sig} (hsS : sS = sendS 2 g) (hrS : rS = recvS 2 g) (hsS' : sS' = sendS 3 g) (hrS' : rS' = recvS 3 g) (hsO : sO = oS 0 g)
    {n : Dev nD} (hn : n = peer 3 g c) {d2 : Memref sig .tc .vmem S64x1536 .bf16} (hd2 : d2 = slot2 g)
    (pay : (S64x1536.Idx → Elt F .f32) → (S1x64x1536.Idx → Elt F .bf16) → S64x1536.Idx → Elt F .f32)
    (hp : pay (Y2 A B c g) (lift3 (X2 A B (peer 2 g c) g)) = Y3 A B c g)
    (pay' : (S64x1536.Idx → Elt F .f32) → (S1x64x1536.Idx → Elt F .bf16) → S64x1536.Idx → Elt F .bf16)
    (hp' : pay' (Y2 A B c g) (lift3 (X2 A B (peer 2 g c) g)) = X3 A B c g)
    {i1 : ∀ a, o1 a + S64x1536.size a ≤ S1536x1536.size a} {i2 : ∀ a, o2 a + S64x1536.size a ≤ S1536x1536.size a}
    {i3 : ∀ a, o3 a + S64x1536.size a ≤ S1536x1536.size a} {j1 : ∀ a, p1 a + S1x64x1536.size a ≤ S6x64x1536.size a}
    {w1 w3 : d2.view.WordExact} {w2 w4 : (sQ mirM o1 i1).view.WordExact}
    {l1 l3 : accM.view.LoadsAt (atQ o2 i2).toLoadRect} {l2 : rs2M.view.LoadsAt (at1 p1 j1).toLoadRect} {l4 : mirM.view.LoadsAt (atQ o2 i2).toLoadRect}
    {x1 : (accM.access (atQ o2 i2)).Stores Finset.univ} {x2 x4 : Finset.univ = Finset.univ ∨ ∀ a, (atQ o2 i2).stride a = 1}
    {x3 : (mirM.access (atQ o2 i2)).Stores Finset.univ}
    {hsc : (sQ mirM o3 i3).view.ref.isScScratch = false} {w5 w6 : (sQ mirM o3 i3).view.WordExact}
    {hsem : DmaTarget.Typed .vmem (.dma rS') (.remote (n : Thread nD τ) (sQ mirM o3 i3) (.dma sS') hsc)}
    {w7 : (sQ accM o3 i3).view.WordExact} {w8 : (sQ oM o3 i3).view.WordExact}
    {hsem' : DmaTarget.Typed (nD := nD) (τ := τ) (p := Proc.tc) .vmem (SemLoc.dma sO) (.here (sQ oM o3 i3))}
    {kk : Prog (TpuEff nD τ sig (Elt F) Λ₀ .tc) α} :
    iprop(Sh A B κ c k ∗ Sent (F := F) c 2 g ∗ own c (mQ accM (qk c g)) (Y2 A B c g) ∗ any (F := F) (peer 1 g c) (mQ mirM (qk c g)) ∗ Tk (F := F) c 3 g
        ∗ any (F := F) c (mQ oM (qk c g)) ∗ semVal ((c : Thread nD τ), .dma (oS 0 g)) 0)
      ⊢ iprop((iprop(Sh A B κ c k' ∗ (Done (F := F) c 2 g ∗ any (F := F) c (slot2 g)) ∗ Sent (F := F) c 3 g
              ∗ fly c (oS 0 g) (mQ accM (qk c g)) (mQ oM (qk c g)) fullShare (Y3 A B c g)) -∗ run c kk Q)
          -∗ run c (.op (.waitDma2 sS d2 (sQ mirM o1 i1) w1 w2) fun _ =>
              .op (.waitDma2 rS (sQ mirM o1 i1) d2 w4 w3) fun _ =>
              .op (.load accM (atQ o2 i2).toLoadRect l1) fun x =>
              .op (.load rs2M (at1 p1 j1).toLoadRect l2) fun y =>
              .op (.load accM (atQ o2 i2).toLoadRect l3) fun _ =>
              .op (.store accM (atQ o2 i2) (pay x y) Finset.univ x1 x2) fun _ =>
              .op (.load mirM (atQ o2 i2).toLoadRect l4) fun _ =>
              .op (.store mirM (atQ o2 i2) (pay' x y) Finset.univ x3 x4) fun _ =>
              .op (.enqueueDma (sQ mirM o3 i3) (.remote (n : Thread nD τ) (sQ mirM o3 i3) (.dma sS') hsc) (.dma rS') w5 w6 hsem) fun _ =>
              .op (.enqueueDma (sQ accM o3 i3) (.here (sQ oM o3 i3)) (.dma sO) w7 w8 hsem') fun _ => kk) Q) := by
  subst hkv hkv' h1 h2 h3 hd2 hsO
  iintro ⟨Hsh, HS, Hacc, Hn2, Ht, Ho, Hv⟩ Hk
  iapply (wait_both A B κ c g 2 (6 * (3 : Fin 5).val + g.val) (Nat.le_add_right 18 g.val) hsS hrS (src := sQ mirM _ i1) (dst := slot2 g) rfl rfl) $$ [Hsh HS]
  · isplitl [Hsh] <;> iassumption
  unfold sendPay recvPay
  iintro ⟨Hsh, HD, Hm, Hs2⟩
  iapply (run_load c (fun _ => rfl) fullShare _) $$ Hacc
  iintro Hacc
  iapply (run_load_slot2 c g e1 _) $$ Hs2
  iintro Hs2
  ihave Hacc := (any_intro c _ _) $$ Hacc
  iapply (run_load_any c (fun _ => rfl)) $$ Hacc
  iintro Hacc
  iapply (run_store c (fun _ => rfl)) $$ Hacc
  rw [hp]
  iintro Hacc
  ihave Hm := (any_intro c _ _) $$ Hm
  iapply (run_load_any c (fun _ => rfl)) $$ Hm
  iintro Hm
  iapply (run_store c (fun _ => rfl)) $$ Hm
  rw [hp']
  iintro Hm
  iapply (run_send A B κ c 3 g hn hsS' hrS' (src := sQ mirM _ i3) (dst := sQ mirM _ i3) fullShare (X3 A B c g) rfl .rfl (by
    show _ ⊢ own (peer 1 g c) (mQ mirM (qs (peer 1 g c) g)) (X3 A B (peer 1 g (peer 1 g c)) g)
    rw [peer_peer, qs_peer1]; exact .rfl)) $$ [Hsh Hm Hn2 Ht]
  · isplitl [Hsh]; · iexact Hsh
    isplitl [Hm]; · iexact Hm
    isplitl [Hn2]; · iexact Hn2
    iexact Ht
  iintro ⟨Hsh, HS⟩
  iapply (run_copy c fullShare (Y3 A B c g) (by decide)) $$ [Hacc Ho Hv]
  · isplitl [Hacc]; · iexact Hacc
    isplitl [Ho]; · iexact Ho
    iexact Hv
  iintro HF
  iapply Hk
  isplitl [Hsh]; · iexact Hsh
  isplitl [HD Hs2]
  · isplitl [HD]; · iexact HD
    iapply (any_intro c (slot2 g) _); iexact Hs2
  isplitl [HS]; · iexact HS
  iexact HF

/-- After the fourth exchange: send the finished half to the first neighbour, and start the copy out of its other quarter. -/
theorem P5 (k k' : ℕ) (hkv : k = 6 * (4 : Fin 5).val + g.val) (hkv' : k' = k + 1) {α : Type} {Q : α → sProp 𝕄} {o1 o2 o3 o4 : Fin 2 → ℕ}
    (h1 : o1 = ![64 * (qk c g).val, 0]) (h2 : o2 = ![128 * (hk c g).val, 0]) (h3 : o3 = ![64 * (qs c g).val, 0]) (h4 : o4 = ![64 * (qs c g).val, 0])
    {sS rS sS' rS' sO : DmaSem sig} (hsS : sS = sendS 3 g) (hrS : rS = recvS 3 g) (hsS' : sS' = sendS 4 g) (hrS' : rS' = recvS 4 g) (hsO : sO = oS 1 g)
    {n : Dev nD} (hn : n = peer 4 g c)
    (pay : (S64x1536.Idx → Elt F .bf16) → S64x1536.Idx → Elt F .f32) (hp : pay (X3 A B (peer 1 g c) g) = Z3 A B c g)
    {i1 : ∀ a, o1 a + S64x1536.size a ≤ S1536x1536.size a} {i2 : ∀ a, o2 a + S128x1536.size a ≤ S1536x1536.size a}
    {i3 : ∀ a, o3 a + S64x1536.size a ≤ S1536x1536.size a} {i4 : ∀ a, o4 a + S64x1536.size a ≤ S1536x1536.size a}
    {w1 w2 w3 w4 : (sQ mirM o1 i1).view.WordExact}
    {hsc : (sH mirM o2 i2).view.ref.isScScratch = false} {w5 w6 : (sH mirM o2 i2).view.WordExact}
    {hsem : DmaTarget.Typed .vmem (.dma rS') (.remote (n : Thread nD τ) (sH mirM o2 i2) (.dma sS') hsc)}
    {l1 : mirM.view.LoadsAt (atQ o3 i3).toLoadRect} {l2 : accM.view.LoadsAt (atQ o3 i3).toLoadRect}
    {x1 : (accM.access (atQ o3 i3)).Stores Finset.univ} {x2 : Finset.univ = Finset.univ ∨ ∀ a, (atQ o3 i3).stride a = 1}
    {w7 : (sQ accM o4 i4).view.WordExact} {w8 : (sQ oM o4 i4).view.WordExact}
    {hsem' : DmaTarget.Typed (nD := nD) (τ := τ) (p := Proc.tc) .vmem (SemLoc.dma sO) (.here (sQ oM o4 i4))}
    {kk : Prog (TpuEff nD τ sig (Elt F) Λ₀ .tc) α} :
    iprop(Sh A B κ c k ∗ Sent (F := F) c 3 g ∗ any (F := F) (peer 0 g c) (mH mirM (hk c g)) ∗ Tk (F := F) c 4 g ∗ any (F := F) c (mQ accM (qs c g))
        ∗ any (F := F) c (mQ oM (qs c g)) ∗ semVal ((c : Thread nD τ), .dma (oS 1 g)) 0)
      ⊢ iprop((iprop(Sh A B κ c k' ∗ Done (F := F) c 3 g ∗ owns (c : Thread nD τ) (mH mirM (hk c g)) fullShare.left (X4 A B c g) ∗ Sent (F := F) c 4 g
              ∗ fly c (oS 1 g) (mQ accM (qs c g)) (mQ oM (qs c g)) fullShare (Z3 A B c g)) -∗ run c kk Q)
          -∗ run c (.op (.waitDma2 sS (sQ mirM o1 i1) (sQ mirM o1 i1) w1 w2) fun _ =>
              .op (.waitDma2 rS (sQ mirM o1 i1) (sQ mirM o1 i1) w4 w3) fun _ =>
              .op (.enqueueDma (sH mirM o2 i2) (.remote (n : Thread nD τ) (sH mirM o2 i2) (.dma sS') hsc) (.dma rS') w5 w6 hsem) fun _ =>
              .op (.load mirM (atQ o3 i3).toLoadRect l1) fun x =>
              .op (.load accM (atQ o3 i3).toLoadRect l2) fun _ =>
              .op (.store accM (atQ o3 i3) (pay x) Finset.univ x1 x2) fun _ =>
              .op (.enqueueDma (sQ accM o4 i4) (.here (sQ oM o4 i4)) (.dma sO) w7 w8 hsem') fun _ => kk) Q) := by
  subst hkv hkv' h1 h2 h3 h4 hsO
  iintro ⟨Hsh, HS, Hn1, Ht, Hacc, Ho, Hv⟩ Hk
  iapply (wait_both A B κ c g 3 (6 * (4 : Fin 5).val + g.val) (Nat.le_add_right 24 g.val) hsS hrS (src := sQ mirM _ i1) (dst := sQ mirM _ i1) rfl rfl) $$ [Hsh HS]
  · isplitl [Hsh] <;> iassumption
  unfold sendPay recvPay
  iintro ⟨Hsh, HD, HmQ, HmT⟩
  ihave Hm := (owns_glue c mirM (hk c g) (b2 c g) (qk c g) (qs c g) (qk_val c g) (qs_val c g) fullShare _ _) $$ [HmQ HmT]
  · isplitl [HmQ] <;> iassumption
  ihave Hm := (owns_halves (c : Thread nD τ) (mH mirM (hk c g)) fullShare _).1 $$ Hm
  icases Hm with ⟨Hl, Hr⟩
  iapply (run_send A B κ c 4 g hn hsS' hrS' (src := sH mirM _ i2) (dst := sH mirM _ i2) fullShare.right (X4 A B c g) rfl .rfl (by
    show _ ⊢ own (peer 0 g c) (mH mirM (hs (peer 0 g c) g)) (X4 A B (peer 0 g (peer 0 g c)) g)
    rw [peer_peer, hs_peer0]; exact .rfl)) $$ [Hsh Hr Hn1 Ht]
  · isplitl [Hsh]; · iexact Hsh
    isplitl [Hr]; · iexact Hr
    isplitl [Hn1]; · iexact Hn1
    iexact Ht
  iintro ⟨Hsh, HS⟩
  ihave Hl := (owns_cut c mirM (hk c g) (b2 c g) (qk c g) (qs c g) (qk_val c g) (qs_val c g) fullShare.left _).1 $$ Hl
  rw [sub_glue2, sub_glue2']
  icases Hl with ⟨HlQ, HlT⟩
  iapply (run_load c (fun _ => rfl) fullShare.left _) $$ HlT
  iintro HlT
  ihave Hl := (owns_glue c mirM (hk c g) (b2 c g) (qk c g) (qs c g) (qk_val c g) (qs_val c g) fullShare.left _ _) $$ [HlQ HlT]
  · isplitl [HlQ] <;> iassumption
  iapply (run_load_any c (fun _ => rfl)) $$ Hacc
  iintro Hacc
  iapply (run_store c (fun _ => rfl)) $$ Hacc
  rw [hp]
  iintro Hacc
  iapply (run_copy c fullShare (Z3 A B c g) (by decide)) $$ [Hacc Ho Hv]
  · isplitl [Hacc]; · iexact Hacc
    isplitl [Ho]; · iexact Ho
    iexact Hv
  iintro HF
  iapply Hk
  isplitl [Hsh]; · iexact Hsh
  isplitl [HD]; · iexact HD
  isplitl [Hl]; · iexact Hl
  isplitl [HS]; · iexact HS
  iexact HF

/-- After the fifth exchange: start the copy out of the half that came. -/
theorem P6 (k : ℕ) (hkv : k = 30) {α : Type} {Q : α → sProp 𝕄} {o1 o2 o3 : Fin 2 → ℕ}
    (h1 : o1 = ![128 * (hk c g).val, 0]) (h2 : o2 = ![128 * (hs c g).val, 0]) (h3 : o3 = ![128 * (hs c g).val, 0])
    {sS rS sO : DmaSem sig} (hsS : sS = sendS 4 g) (hrS : rS = recvS 4 g) (hsO : sO = oS 2 g)
    (pay : (S128x1536.Idx → Elt F .bf16) → S128x1536.Idx → Elt F .f32) (hp : pay (X4 A B (peer 0 g c) g) = Z4 A B c g)
    {i1 : ∀ a, o1 a + S128x1536.size a ≤ S1536x1536.size a} {i2 : ∀ a, o2 a + S128x1536.size a ≤ S1536x1536.size a}
    {i3 : ∀ a, o3 a + S128x1536.size a ≤ S1536x1536.size a}
    {w1 w2 w3 w4 : (sH mirM o1 i1).view.WordExact}
    {l1 : mirM.view.LoadsAt (atH o2 i2).toLoadRect} {l2 : accM.view.LoadsAt (atH o2 i2).toLoadRect}
    {x1 : (accM.access (atH o2 i2)).Stores Finset.univ} {x2 : Finset.univ = Finset.univ ∨ ∀ a, (atH o2 i2).stride a = 1}
    {w7 : (sH accM o3 i3).view.WordExact} {w8 : (sH oM o3 i3).view.WordExact}
    {hsem' : DmaTarget.Typed (nD := nD) (τ := τ) (p := Proc.tc) .vmem (SemLoc.dma sO) (.here (sH oM o3 i3))}
    {kk : Prog (TpuEff nD τ sig (Elt F) Λ₀ .tc) α} :
    iprop(Sh A B κ c k ∗ Sent (F := F) c 4 g ∗ owns (c : Thread nD τ) (mH mirM (hk c g)) fullShare.left (X4 A B c g) ∗ any (F := F) c (mH accM (hs c g))
        ∗ any (F := F) c (mH oM (hs c g)) ∗ semVal ((c : Thread nD τ), .dma (oS 2 g)) 0)
      ⊢ iprop((iprop(Sh A B κ c k ∗ (Done (F := F) c 4 g ∗ any (F := F) c (mH mirM (hk c g)) ∗ any (F := F) c (mH mirM (hs c g)))
              ∗ fly c (oS 2 g) (mH accM (hs c g)) (mH oM (hs c g)) fullShare (Z4 A B c g)) -∗ run c kk Q)
          -∗ run c (.op (.waitDma2 sS (sH mirM o1 i1) (sH mirM o1 i1) w1 w2) fun _ =>
              .op (.waitDma2 rS (sH mirM o1 i1) (sH mirM o1 i1) w4 w3) fun _ =>
              .op (.load mirM (atH o2 i2).toLoadRect l1) fun x =>
              .op (.load accM (atH o2 i2).toLoadRect l2) fun _ =>
              .op (.store accM (atH o2 i2) (pay x) Finset.univ x1 x2) fun _ =>
              .op (.enqueueDma (sH accM o3 i3) (.here (sH oM o3 i3)) (.dma sO) w7 w8 hsem') fun _ => kk) Q) := by
  subst hkv h1 h2 h3 hsO
  iintro ⟨Hsh, HS, Hl, Hacc, Ho, Hv⟩ Hk
  iapply (wait_both A B κ c g 4 30 (le_refl 30) hsS hrS (src := sH mirM _ i1) (dst := sH mirM _ i1) rfl rfl) $$ [Hsh HS]
  · isplitl [Hsh] <;> iassumption
  unfold sendPay recvPay
  iintro ⟨Hsh, HD, Hr, Hm⟩
  ihave Hk2 := (owns_halves (c : Thread nD τ) (mH mirM (hk c g)) fullShare _).2 $$ [Hl Hr]
  · isplitl [Hl] <;> iassumption
  iapply (run_load c (fun _ => rfl) fullShare _) $$ Hm
  iintro Hm
  iapply (run_load_any c (fun _ => rfl)) $$ Hacc
  iintro Hacc
  iapply (run_store c (fun _ => rfl)) $$ Hacc
  rw [hp]
  iintro Hacc
  iapply (run_copy c fullShare (Z4 A B c g) (by decide)) $$ [Hacc Ho Hv]
  · isplitl [Hacc]; · iexact Hacc
    isplitl [Ho]; · iexact Ho
    iexact Hv
  iintro HF
  iapply Hk
  isplitl [Hsh]; · iexact Hsh
  isplitl [HD Hk2 Hm]
  · isplitl [HD]; · iexact HD
    isplitl [Hk2]; · iapply (any_intro c (mH mirM (hk c g)) _); iexact Hk2
    iapply (any_intro c (mH mirM (hs c g)) _); iexact Hm
  iexact HF

end Phases

end Cert.CubeProof

end
-- ==== Proof.States.lean ====
/-
  The states a row group goes through, from the start of the copies in to the end of the copies out, and what each
  step takes from a state and gives back.
-/
module

public import proofs.«01_k».proof.Proof.Phases

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section States

variable (A : Dev nD → S1536x768.Idx → Elt F .f32) (B : Dev nD → S768x1536.Idx → Elt F .f32) (κ : Dev nD × Cell → ℕ)
variable (c : Dev nD) (g : Fin 6)

/-- A step that turns `R` into `R'` leaves the rest of the state `S` alone and makes it `S'`. -/
def Moves (S R S' R' : sProp 𝕄) : Prop := S ⊢ iprop(R ∗ (R' -∗ S'))

/-- A rule about part of a state, as a rule about the state. -/
theorem framed {α : Type} {Q : α → sProp 𝕄} {H H' S R S' R' : sProp 𝕄} {p p' : Prog (TpuEff nD τ sig (Elt F) Λ₀ .tc) α} (hm : Moves S R S' R')
    (h : iprop(H ∗ R) ⊢ iprop((iprop(H' ∗ R') -∗ run c p' Q) -∗ run c p Q)) :
    H ⊢ iprop(S -∗ (H' -∗ S' -∗ run c p' Q) -∗ run c p Q) := by
  unfold Moves at hm
  iintro HH HS Hk
  ihave HS := hm $$ HS
  icases HS with ⟨HR, Hw⟩
  iapply h $$ [HH HR]
  · isplitl [HH] <;> iassumption
  iintro ⟨HH, HR⟩
  iapply Hk $$ HH
  iapply Hw $$ HR

/-- The same where the rule needs nothing else. -/
theorem framed0 {α : Type} {Q : α → sProp 𝕄} {S R S' R' : sProp 𝕄} {p p' : Prog (TpuEff nD τ sig (Elt F) Λ₀ .tc) α} (hm : Moves S R S' R')
    (h : R ⊢ iprop((R' -∗ run c p' Q) -∗ run c p Q)) :
    S ⊢ iprop((S' -∗ run c p' Q) -∗ run c p Q) := by
  unfold Moves at hm
  iintro HS Hk
  ihave HS := hm $$ HS
  icases HS with ⟨HR, Hw⟩
  iapply h $$ HR
  iintro HR
  iapply Hk
  iapply Hw $$ HR

/-! ## The states of a row group -/

/-- The copy of block `j` of the left factor not yet started. -/
def startA (i : Fin 2) (j : Fin 12) : sProp 𝕄 :=
  iprop(own c (mA aM j) (aBlk A c j) ∗ any (F := F) c (mA avM j) ∗ semVal ((c : Thread nD τ), .dma (aS i g)) 0)

/-- The neighbours' landing blocks of the group's first three exchanges. -/
def nbS : sProp 𝕄 := iprop(slotAny (F := F) (peer 0 g c) 0 g ∗ slotAny (F := F) (peer 1 g c) 1 g ∗ slotAny (F := F) (peer 2 g c) 2 g)

/-- Before the copies of the left factor start. -/
def St0 : sProp 𝕄 := iprop(startA A c g 0 (hs c g) ∗ startA A c g 1 (hk c g) ∗ any (F := F) c (mH mirM (hs c g)) ∗ any (F := F) c (mH mirM (hk c g)) ∗ any (F := F) c (mH accM (hs c g)) ∗ any (F := F) c (mH accM (hk c g)) ∗ Tk (F := F) c 0 g ∗ Tk (F := F) c 1 g ∗ Tk (F := F) c 2 g ∗ Tk (F := F) c 3 g ∗ Tk (F := F) c 4 g ∗ (any (F := F) c (mQ oM (qk c g)) ∗ semVal ((c : Thread nD τ), .dma (oS 0 g)) 0) ∗ (any (F := F) c (mQ oM (qs c g)) ∗ semVal ((c : Thread nD τ), .dma (oS 1 g)) 0) ∗ (any (F := F) c (mH oM (hs c g)) ∗ semVal ((c : Thread nD τ), .dma (oS 2 g)) 0))

/-- The first copy is under way. -/
def Sta : sProp 𝕄 := iprop(flyA A c g 0 (hs c g) ∗ startA A c g 1 (hk c g) ∗ any (F := F) c (mH mirM (hs c g)) ∗ any (F := F) c (mH mirM (hk c g)) ∗ any (F := F) c (mH accM (hs c g)) ∗ any (F := F) c (mH accM (hk c g)) ∗ Tk (F := F) c 0 g ∗ Tk (F := F) c 1 g ∗ Tk (F := F) c 2 g ∗ Tk (F := F) c 3 g ∗ Tk (F := F) c 4 g ∗ (any (F := F) c (mQ oM (qk c g)) ∗ semVal ((c : Thread nD τ), .dma (oS 0 g)) 0) ∗ (any (F := F) c (mQ oM (qs c g)) ∗ semVal ((c : Thread nD τ), .dma (oS 1 g)) 0) ∗ (any (F := F) c (mH oM (hs c g)) ∗ semVal ((c : Thread nD τ), .dma (oS 2 g)) 0))

/-- Both copies are under way. -/
def Stb : sProp 𝕄 := iprop(flyA A c g 0 (hs c g) ∗ flyA A c g 1 (hk c g) ∗ any (F := F) c (mH mirM (hs c g)) ∗ any (F := F) c (mH mirM (hk c g)) ∗ any (F := F) c (mH accM (hs c g)) ∗ any (F := F) c (mH accM (hk c g)) ∗ Tk (F := F) c 0 g ∗ Tk (F := F) c 1 g ∗ Tk (F := F) c 2 g ∗ Tk (F := F) c 3 g ∗ Tk (F := F) c 4 g ∗ (any (F := F) c (mQ oM (qk c g)) ∗ semVal ((c : Thread nD τ), .dma (oS 0 g)) 0) ∗ (any (F := F) c (mQ oM (qs c g)) ∗ semVal ((c : Thread nD τ), .dma (oS 1 g)) 0) ∗ (any (F := F) c (mH oM (hs c g)) ∗ semVal ((c : Thread nD τ), .dma (oS 2 g)) 0))

/-- The rows to give away are multiplied. -/
def St1 : sProp 𝕄 := iprop(endA A c g 0 (hs c g) ∗ own c (mH mirM (hs c g)) (X0 A B c g) ∗ flyA A c g 1 (hk c g) ∗ any (F := F) c (mH mirM (hk c g)) ∗ any (F := F) c (mH accM (hs c g)) ∗ any (F := F) c (mH accM (hk c g)) ∗ Tk (F := F) c 0 g ∗ Tk (F := F) c 1 g ∗ Tk (F := F) c 2 g ∗ Tk (F := F) c 3 g ∗ Tk (F := F) c 4 g ∗ (any (F := F) c (mQ oM (qk c g)) ∗ semVal ((c : Thread nD τ), .dma (oS 0 g)) 0) ∗ (any (F := F) c (mQ oM (qs c g)) ∗ semVal ((c : Thread nD τ), .dma (oS 1 g)) 0) ∗ (any (F := F) c (mH oM (hs c g)) ∗ semVal ((c : Thread nD τ), .dma (oS 2 g)) 0))

/-- The first exchange is sent. -/
def St2 : sProp 𝕄 := iprop(endA A c g 0 (hs c g) ∗ Sent (F := F) c 0 g ∗ slotAny (F := F) (peer 1 g c) 1 g ∗ slotAny (F := F) (peer 2 g c) 2 g ∗ flyA A c g 1 (hk c g) ∗ any (F := F) c (mH mirM (hk c g)) ∗ any (F := F) c (mH accM (hs c g)) ∗ any (F := F) c (mH accM (hk c g)) ∗ Tk (F := F) c 1 g ∗ Tk (F := F) c 2 g ∗ Tk (F := F) c 3 g ∗ Tk (F := F) c 4 g ∗ (any (F := F) c (mQ oM (qk c g)) ∗ semVal ((c : Thread nD τ), .dma (oS 0 g)) 0) ∗ (any (F := F) c (mQ oM (qs c g)) ∗ semVal ((c : Thread nD τ), .dma (oS 1 g)) 0) ∗ (any (F := F) c (mH oM (hs c g)) ∗ semVal ((c : Thread nD τ), .dma (oS 2 g)) 0))

/-- The rows to keep are multiplied. -/
def St3 : sProp 𝕄 := iprop(endA A c g 0 (hs c g) ∗ endA A c g 1 (hk c g) ∗ Sent (F := F) c 0 g ∗ slotAny (F := F) (peer 1 g c) 1 g ∗ slotAny (F := F) (peer 2 g c) 2 g ∗ any (F := F) c (mH mirM (hk c g)) ∗ any (F := F) c (mH accM (hs c g)) ∗ own c (mH accM (hk c g)) (Y0 A B c g) ∗ Tk (F := F) c 1 g ∗ Tk (F := F) c 2 g ∗ Tk (F := F) c 3 g ∗ Tk (F := F) c 4 g ∗ (any (F := F) c (mQ oM (qk c g)) ∗ semVal ((c : Thread nD τ), .dma (oS 0 g)) 0) ∗ (any (F := F) c (mQ oM (qs c g)) ∗ semVal ((c : Thread nD τ), .dma (oS 1 g)) 0) ∗ (any (F := F) c (mH oM (hs c g)) ∗ semVal ((c : Thread nD τ), .dma (oS 2 g)) 0))

/-- The second exchange is sent. -/
def St4 : sProp 𝕄 := iprop(endA A c g 0 (hs c g) ∗ endA A c g 1 (hk c g) ∗ Done (F := F) c 0 g ∗ any (F := F) c (slot0 g) ∗ Sent (F := F) c 1 g ∗ slotAny (F := F) (peer 2 g c) 2 g ∗ any (F := F) (peer 0 g c) (mH mirM (hk c g)) ∗ any (F := F) c (mQ mirM (qk c g)) ∗ any (F := F) c (mH accM (hs c g)) ∗ any (F := F) c (mQ accM (qs c g)) ∗ own c (mQ accM (qk c g)) (Y1 A B c g) ∗ Tk (F := F) c 2 g ∗ Tk (F := F) c 3 g ∗ Tk (F := F) c 4 g ∗ (any (F := F) c (mQ oM (qk c g)) ∗ semVal ((c : Thread nD τ), .dma (oS 0 g)) 0) ∗ (any (F := F) c (mQ oM (qs c g)) ∗ semVal ((c : Thread nD τ), .dma (oS 1 g)) 0) ∗ (any (F := F) c (mH oM (hs c g)) ∗ semVal ((c : Thread nD τ), .dma (oS 2 g)) 0))

/-- The third exchange is sent. -/
def St5 : sProp 𝕄 := iprop(endA A c g 0 (hs c g) ∗ endA A c g 1 (hk c g) ∗ Done (F := F) c 0 g ∗ any (F := F) c (slot0 g) ∗ Done (F := F) c 1 g ∗ any (F := F) c (slot1 g) ∗ Sent (F := F) c 2 g ∗ any (F := F) (peer 0 g c) (mH mirM (hk c g)) ∗ any (F := F) (peer 1 g c) (mQ mirM (qk c g)) ∗ any (F := F) c (mH accM (hs c g)) ∗ any (F := F) c (mQ accM (qs c g)) ∗ own c (mQ accM (qk c g)) (Y2 A B c g) ∗ Tk (F := F) c 3 g ∗ Tk (F := F) c 4 g ∗ (any (F := F) c (mQ oM (qk c g)) ∗ semVal ((c : Thread nD τ), .dma (oS 0 g)) 0) ∗ (any (F := F) c (mQ oM (qs c g)) ∗ semVal ((c : Thread nD τ), .dma (oS 1 g)) 0) ∗ (any (F := F) c (mH oM (hs c g)) ∗ semVal ((c : Thread nD τ), .dma (oS 2 g)) 0))

/-- The fourth exchange is sent. -/
def St6 : sProp 𝕄 := iprop(endA A c g 0 (hs c g) ∗ endA A c g 1 (hk c g) ∗ Done (F := F) c 0 g ∗ any (F := F) c (slot0 g) ∗ Done (F := F) c 1 g ∗ any (F := F) c (slot1 g) ∗ Done (F := F) c 2 g ∗ any (F := F) c (slot2 g) ∗ Sent (F := F) c 3 g ∗ any (F := F) (peer 0 g c) (mH mirM (hk c g)) ∗ any (F := F) c (mH accM (hs c g)) ∗ any (F := F) c (mQ accM (qs c g)) ∗ fly c (oS 0 g) (mQ accM (qk c g)) (mQ oM (qk c g)) fullShare (Y3 A B c g) ∗ Tk (F := F) c 4 g ∗ (any (F := F) c (mQ oM (qs c g)) ∗ semVal ((c : Thread nD τ), .dma (oS 1 g)) 0) ∗ (any (F := F) c (mH oM (hs c g)) ∗ semVal ((c : Thread nD τ), .dma (oS 2 g)) 0))

/-- The fifth exchange is sent. -/
def St7 : sProp 𝕄 := iprop(endA A c g 0 (hs c g) ∗ endA A c g 1 (hk c g) ∗ Done (F := F) c 0 g ∗ any (F := F) c (slot0 g) ∗ Done (F := F) c 1 g ∗ any (F := F) c (slot1 g) ∗ Done (F := F) c 2 g ∗ any (F := F) c (slot2 g) ∗ Done (F := F) c 3 g ∗ Sent (F := F) c 4 g ∗ owns (c : Thread nD τ) (mH mirM (hk c g)) fullShare.left (X4 A B c g) ∗ any (F := F) c (mH accM (hs c g)) ∗ fly c (oS 0 g) (mQ accM (qk c g)) (mQ oM (qk c g)) fullShare (Y3 A B c g) ∗ fly c (oS 1 g) (mQ accM (qs c g)) (mQ oM (qs c g)) fullShare (Z3 A B c g) ∗ (any (F := F) c (mH oM (hs c g)) ∗ semVal ((c : Thread nD τ), .dma (oS 2 g)) 0))

/-- Only copies out are under way. -/
def St8 : sProp 𝕄 := iprop(endA A c g 0 (hs c g) ∗ endA A c g 1 (hk c g) ∗ Done (F := F) c 0 g ∗ any (F := F) c (slot0 g) ∗ Done (F := F) c 1 g ∗ any (F := F) c (slot1 g) ∗ Done (F := F) c 2 g ∗ any (F := F) c (slot2 g) ∗ Done (F := F) c 3 g ∗ Done (F := F) c 4 g ∗ any (F := F) c (mH mirM (hk c g)) ∗ any (F := F) c (mH mirM (hs c g)) ∗ fly c (oS 0 g) (mQ accM (qk c g)) (mQ oM (qk c g)) fullShare (Y3 A B c g) ∗ fly c (oS 1 g) (mQ accM (qs c g)) (mQ oM (qs c g)) fullShare (Z3 A B c g) ∗ fly c (oS 2 g) (mH accM (hs c g)) (mH oM (hs c g)) fullShare (Z4 A B c g))

/-- One copy out is over. -/
def Stc : sProp 𝕄 := iprop(endA A c g 0 (hs c g) ∗ endA A c g 1 (hk c g) ∗ Done (F := F) c 0 g ∗ any (F := F) c (slot0 g) ∗ Done (F := F) c 1 g ∗ any (F := F) c (slot1 g) ∗ Done (F := F) c 2 g ∗ any (F := F) c (slot2 g) ∗ Done (F := F) c 3 g ∗ Done (F := F) c 4 g ∗ any (F := F) c (mH mirM (hk c g)) ∗ any (F := F) c (mH mirM (hs c g)) ∗ (own c (mQ oM (qk c g)) (Y3 A B c g) ∗ own c (mQ accM (qk c g)) (Y3 A B c g) ∗ semVal ((c : Thread nD τ), .dma (oS 0 g)) 0) ∗ fly c (oS 1 g) (mQ accM (qs c g)) (mQ oM (qs c g)) fullShare (Z3 A B c g) ∗ fly c (oS 2 g) (mH accM (hs c g)) (mH oM (hs c g)) fullShare (Z4 A B c g))

/-- Two copies out are over. -/
def Std : sProp 𝕄 := iprop(endA A c g 0 (hs c g) ∗ endA A c g 1 (hk c g) ∗ Done (F := F) c 0 g ∗ any (F := F) c (slot0 g) ∗ Done (F := F) c 1 g ∗ any (F := F) c (slot1 g) ∗ Done (F := F) c 2 g ∗ any (F := F) c (slot2 g) ∗ Done (F := F) c 3 g ∗ Done (F := F) c 4 g ∗ any (F := F) c (mH mirM (hk c g)) ∗ any (F := F) c (mH mirM (hs c g)) ∗ (own c (mQ oM (qk c g)) (Y3 A B c g) ∗ own c (mQ accM (qk c g)) (Y3 A B c g) ∗ semVal ((c : Thread nD τ), .dma (oS 0 g)) 0) ∗ (own c (mQ oM (qs c g)) (Z3 A B c g) ∗ own c (mQ accM (qs c g)) (Z3 A B c g) ∗ semVal ((c : Thread nD τ), .dma (oS 1 g)) 0) ∗ fly c (oS 2 g) (mH accM (hs c g)) (mH oM (hs c g)) fullShare (Z4 A B c g))

/-- Everything is over. -/
def St9 : sProp 𝕄 := iprop(endA A c g 0 (hs c g) ∗ endA A c g 1 (hk c g) ∗ Done (F := F) c 0 g ∗ any (F := F) c (slot0 g) ∗ Done (F := F) c 1 g ∗ any (F := F) c (slot1 g) ∗ Done (F := F) c 2 g ∗ any (F := F) c (slot2 g) ∗ Done (F := F) c 3 g ∗ Done (F := F) c 4 g ∗ any (F := F) c (mH mirM (hk c g)) ∗ any (F := F) c (mH mirM (hs c g)) ∗ (own c (mQ oM (qk c g)) (Y3 A B c g) ∗ own c (mQ accM (qk c g)) (Y3 A B c g) ∗ semVal ((c : Thread nD τ), .dma (oS 0 g)) 0) ∗ (own c (mQ oM (qs c g)) (Z3 A B c g) ∗ own c (mQ accM (qs c g)) (Z3 A B c g) ∗ semVal ((c : Thread nD τ), .dma (oS 1 g)) 0) ∗ (own c (mH oM (hs c g)) (Z4 A B c g) ∗ own c (mH accM (hs c g)) (Z4 A B c g) ∗ semVal ((c : Thread nD τ), .dma (oS 2 g)) 0))

/-! ## What each step moves -/

/-- Starting the load of the rows to send. -/
theorem c0_move : Moves (St0 A c g) iprop((own c (mA aM (hs c g)) (aBlk A c (hs c g)) ∗ any (F := F) c (mA avM (hs c g)) ∗ semVal ((c : Thread nD τ), .dma (aS 0 g)) 0)) (Sta A c g) iprop(flyA A c g 0 (hs c g)) := by
  unfold Moves St0 Sta startA
  iintro ⟨A0, A1, A2, A3, A4, A5, A6, A7, A8, A9, A10, ⟨A11, B11⟩, ⟨A12, B12⟩, ⟨A13, B13⟩⟩
  iframe
  iintro R0
  iframe
/-- Starting the load of the rows to keep. -/
theorem c1_move : Moves (Sta A c g) iprop((own c (mA aM (hk c g)) (aBlk A c (hk c g)) ∗ any (F := F) c (mA avM (hk c g)) ∗ semVal ((c : Thread nD τ), .dma (aS 1 g)) 0)) (Stb A c g) iprop(flyA A c g 1 (hk c g)) := by
  unfold Moves Sta Stb startA
  iintro ⟨A0, A1, A2, A3, A4, A5, A6, A7, A8, A9, A10, ⟨A11, B11⟩, ⟨A12, B12⟩, ⟨A13, B13⟩⟩
  iframe
  iintro R0
  iframe
/-- Waiting for the rows to send, and computing their product. -/
theorem p0_move : Moves (Stb A c g) iprop(flyA A c g 0 (hs c g) ∗ any (F := F) c (mH mirM (hs c g))) (St1 A B c g) iprop(endA A c g 0 (hs c g) ∗ own c (mH mirM (hs c g)) (X0 A B c g)) := by
  unfold Moves Stb St1
  iintro ⟨A0, A1, A2, A3, A4, A5, A6, A7, A8, A9, A10, ⟨A11, B11⟩, ⟨A12, B12⟩, ⟨A13, B13⟩⟩
  iframe
  iintro ⟨R0, R1⟩
  iframe
/-- The first send. -/
theorem p0s_move : Moves iprop(St1 A B c g ∗ nbS (F := F) c g) iprop(own c (mH mirM (hs c g)) (X0 A B c g) ∗ slotAny (F := F) (peer 0 g c) 0 g ∗ Tk (F := F) c 0 g) (St2 A c g) iprop(Sent (F := F) c 0 g) := by
  unfold Moves St1 St2 nbS
  iintro ⟨⟨A0, A1, A2, A3, A4, A5, A6, A7, A8, A9, A10, ⟨A11, B11⟩, ⟨A12, B12⟩, ⟨A13, B13⟩⟩, ⟨N0, N1, N2⟩⟩
  iframe
  iintro R0
  iframe
/-- Waiting for the rows to keep, and computing their product. -/
theorem p1_move : Moves (St2 A c g) iprop(flyA A c g 1 (hk c g) ∗ any (F := F) c (mH accM (hk c g))) (St3 A B c g) iprop(endA A c g 1 (hk c g) ∗ own c (mH accM (hk c g)) (Y0 A B c g)) := by
  unfold Moves St2 St3
  iintro ⟨A0, A1, A2, A3, A4, A5, A6, A7, A8, A9, A10, A11, ⟨A12, B12⟩, ⟨A13, B13⟩, ⟨A14, B14⟩⟩
  iframe
  iintro ⟨R0, R1⟩
  iframe
/-- After the first exchange: the two sums, and the second send. -/
theorem p2_move : Moves (St3 A B c g) iprop(Sent (F := F) c 0 g ∗ own c (mH accM (hk c g)) (Y0 A B c g) ∗ any (F := F) c (mH mirM (hk c g)) ∗ slotAny (F := F) (peer 1 g c) 1 g ∗ Tk (F := F) c 1 g) (St4 A B c g) iprop((Done (F := F) c 0 g ∗ any (F := F) c (slot0 g) ∗ any (F := F) c (mQ accM (qs c g))) ∗ any (F := F) (peer 0 g c) (mH mirM (hk c g)) ∗ any (F := F) c (mQ mirM (qk c g)) ∗ own c (mQ accM (qk c g)) (Y1 A B c g) ∗ Sent (F := F) c 1 g) := by
  unfold Moves St3 St4
  iintro ⟨A0, A1, A2, A3, A4, A5, A6, A7, A8, A9, A10, A11, ⟨A12, B12⟩, ⟨A13, B13⟩, ⟨A14, B14⟩⟩
  iframe
  iintro ⟨⟨R00, R01, R02⟩, R1, R2, R3, R4⟩
  iframe
/-- After the second exchange: the sum, and the third send. -/
theorem p3_move : Moves (St4 A B c g) iprop(Sent (F := F) c 1 g ∗ own c (mQ accM (qk c g)) (Y1 A B c g) ∗ any (F := F) c (mQ mirM (qk c g)) ∗ slotAny (F := F) (peer 2 g c) 2 g ∗ Tk (F := F) c 2 g) (St5 A B c g) iprop((Done (F := F) c 1 g ∗ any (F := F) c (slot1 g)) ∗ any (F := F) (peer 1 g c) (mQ mirM (qk c g)) ∗ own c (mQ accM (qk c g)) (Y2 A B c g) ∗ Sent (F := F) c 2 g) := by
  unfold Moves St4 St5
  iintro ⟨A0, A1, A2, A3, A4, A5, A6, A7, A8, A9, A10, A11, A12, A13, ⟨A14, B14⟩, ⟨A15, B15⟩, ⟨A16, B16⟩⟩
  iframe
  iintro ⟨⟨R00, R01⟩, R1, R2, R3⟩
  iframe
/-- After the third exchange: the finished quarter, and the fourth send. -/
theorem p4_move : Moves (St5 A B c g) iprop(Sent (F := F) c 2 g ∗ own c (mQ accM (qk c g)) (Y2 A B c g) ∗ any (F := F) (peer 1 g c) (mQ mirM (qk c g)) ∗ Tk (F := F) c 3 g ∗ any (F := F) c (mQ oM (qk c g)) ∗ semVal ((c : Thread nD τ), .dma (oS 0 g)) 0) (St6 A B c g) iprop((Done (F := F) c 2 g ∗ any (F := F) c (slot2 g)) ∗ Sent (F := F) c 3 g ∗ fly c (oS 0 g) (mQ accM (qk c g)) (mQ oM (qk c g)) fullShare (Y3 A B c g)) := by
  unfold Moves St5 St6
  iintro ⟨A0, A1, A2, A3, A4, A5, A6, A7, A8, A9, A10, A11, A12, A13, ⟨A14, B14⟩, ⟨A15, B15⟩, ⟨A16, B16⟩⟩
  iframe
  iintro ⟨⟨R00, R01⟩, R1, R2⟩
  iframe
/-- After the fourth exchange: the finished half, and the fifth send. -/
theorem p5_move : Moves (St6 A B c g) iprop(Sent (F := F) c 3 g ∗ any (F := F) (peer 0 g c) (mH mirM (hk c g)) ∗ Tk (F := F) c 4 g ∗ any (F := F) c (mQ accM (qs c g)) ∗ any (F := F) c (mQ oM (qs c g)) ∗ semVal ((c : Thread nD τ), .dma (oS 1 g)) 0) (St7 A B c g) iprop(Done (F := F) c 3 g ∗ owns (c : Thread nD τ) (mH mirM (hk c g)) fullShare.left (X4 A B c g) ∗ Sent (F := F) c 4 g ∗ fly c (oS 1 g) (mQ accM (qs c g)) (mQ oM (qs c g)) fullShare (Z3 A B c g)) := by
  unfold Moves St6 St7
  iintro ⟨A0, A1, A2, A3, A4, A5, A6, A7, A8, A9, A10, A11, A12, A13, ⟨A14, B14⟩, ⟨A15, B15⟩⟩
  iframe
  iintro ⟨R0, R1, R2, R3⟩
  iframe
/-- After the fifth exchange: the other half. -/
theorem p6_move : Moves (St7 A B c g) iprop(Sent (F := F) c 4 g ∗ owns (c : Thread nD τ) (mH mirM (hk c g)) fullShare.left (X4 A B c g) ∗ any (F := F) c (mH accM (hs c g)) ∗ any (F := F) c (mH oM (hs c g)) ∗ semVal ((c : Thread nD τ), .dma (oS 2 g)) 0) (St8 A B c g) iprop((Done (F := F) c 4 g ∗ any (F := F) c (mH mirM (hk c g)) ∗ any (F := F) c (mH mirM (hs c g))) ∗ fly c (oS 2 g) (mH accM (hs c g)) (mH oM (hs c g)) fullShare (Z4 A B c g)) := by
  unfold Moves St7 St8
  iintro ⟨A0, A1, A2, A3, A4, A5, A6, A7, A8, A9, A10, A11, A12, A13, ⟨A14, B14⟩⟩
  iframe
  iintro ⟨⟨R00, R01, R02⟩, R1⟩
  iframe
/-- Waiting for the store of the quarter kept. -/
theorem w0_move : Moves (St8 A B c g) iprop(fly c (oS 0 g) (mQ accM (qk c g)) (mQ oM (qk c g)) fullShare (Y3 A B c g)) (Stc A B c g) iprop((own c (mQ oM (qk c g)) (Y3 A B c g) ∗ own c (mQ accM (qk c g)) (Y3 A B c g) ∗ semVal ((c : Thread nD τ), .dma (oS 0 g)) 0)) := by
  unfold Moves St8 Stc
  iintro ⟨A0, A1, A2, A3, A4, A5, A6, A7, A8, A9, A10, A11, A12, A13, A14⟩
  iframe
  iintro R0
  iframe
/-- Waiting for the store of the quarter received. -/
theorem w1_move : Moves (Stc A B c g) iprop(fly c (oS 1 g) (mQ accM (qs c g)) (mQ oM (qs c g)) fullShare (Z3 A B c g)) (Std A B c g) iprop((own c (mQ oM (qs c g)) (Z3 A B c g) ∗ own c (mQ accM (qs c g)) (Z3 A B c g) ∗ semVal ((c : Thread nD τ), .dma (oS 1 g)) 0)) := by
  unfold Moves Stc Std
  iintro ⟨A0, A1, A2, A3, A4, A5, A6, A7, A8, A9, A10, A11, A12, A13, A14⟩
  iframe
  iintro R0
  iframe
/-- Waiting for the store of the half received. -/
theorem w2_move : Moves (Std A B c g) iprop(fly c (oS 2 g) (mH accM (hs c g)) (mH oM (hs c g)) fullShare (Z4 A B c g)) (St9 A B c g) iprop((own c (mH oM (hs c g)) (Z4 A B c g) ∗ own c (mH accM (hs c g)) (Z4 A B c g) ∗ semVal ((c : Thread nD τ), .dma (oS 2 g)) 0)) := by
  unfold Moves Std St9
  iintro ⟨A0, A1, A2, A3, A4, A5, A6, A7, A8, A9, A10, A11, A12, A13, A14⟩
  iframe
  iintro R0
  iframe

end States

end Cert.CubeProof

end
-- ==== Proof.Handshake.lean ====
/-
  The handshake the devices begin with: each signals its three neighbours, handing them its landing blocks, and waits
  for theirs.
-/
module

public import proofs.«01_k».proof.Proof.States

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Which exchange crosses which axis -/

/-- The exchange at which a group crosses an axis crosses that axis. -/
theorem axis_pos (a : Fin 3) (g : Fin 6) : axis ⟨(pos a g).val, by omega⟩ g = a := by revert a g; decide +kernel

/-- The two orders of a double product. -/
theorem bigSep_swap {I J : Type} [Fintype I] [Fintype J] (Φ : I → J → sProp 𝕄) :
    (BI.bigSep Finset.univ fun i => BI.bigSep Finset.univ fun j => Φ i j) = BI.bigSep Finset.univ fun j => BI.bigSep Finset.univ fun i => Φ i j := by
  rw [← BI.bigSep_univ_prod (fun p : I × J => Φ p.1 p.2), BI.bigSep_univ_equiv (Equiv.prodComm J I), BI.bigSep_univ_prod]
  rfl

/-- A conjunction over three is its three members. -/
theorem bigSep_three (Φ : Fin 3 → sProp 𝕄) : BI.bigSep Finset.univ Φ = iprop(Φ 0 ∗ Φ 1 ∗ Φ 2) := by
  rw [show (Finset.univ : Finset (Fin 3)) = insert 0 (insert 1 {2}) from rfl, BI.bigSep_insert (by decide), BI.bigSep_insert (by decide), BI.bigSep_singleton]
  rfl

/-- Something for each of three exchanges is something for each axis. -/
theorem by_axis (g : Fin 6) (Φ : Fin 3 → sProp 𝕄) :
    iprop(Φ 0 ∗ Φ 1 ∗ Φ 2) ⊣⊢ BI.bigSep Finset.univ fun a : Fin 3 => Φ (pos a g) := by
  have hb : Function.Bijective fun a : Fin 3 => pos a g := by revert g; decide +kernel
  have h := BI.bigSep_univ_equiv (Equiv.ofBijective _ hb) Φ
  have h2 : (BI.bigSep Finset.univ fun a : Fin 3 => Φ (pos a g)) = BI.bigSep Finset.univ Φ := h.symm
  rw [h2, bigSep_three]

/-- What a device hands over at its signal across axis `a`. -/
def ownS (c : Dev nD) (a : Fin 3) : sProp 𝕄 := BI.bigSep Finset.univ fun g : Fin 6 => slotAny (F := F) c (pos a g) g

/-- A device's landing blocks, by the axis of their exchange. -/
theorem slots_axes (c : Dev nD) :
    iprop(any (F := F) c rs0M ∗ any (F := F) c rs1M ∗ any (F := F) c rs2M) ⊢ BI.bigSep Finset.univ fun a : Fin 3 => ownS (F := F) c a := by
  unfold ownS
  rw [bigSep_swap]
  refine .trans (Laws.sep_mono (any_slots0 c).1 (Laws.sep_mono (any_slots1 c).1 (any_slots2 c).1)) ?_
  rw [← BI.bigSep_sep', ← BI.bigSep_sep']
  exact BI.bigSep_mono fun g _ => (by_axis g (fun p => slotAny (F := F) c p g)).1

/-- What the three signals bring, by row group. -/
theorem axes_groups (c : Dev nD) :
    (BI.bigSep Finset.univ fun a : Fin 3 => barPay (F := F) c a) ⊢ BI.bigSep Finset.univ fun g : Fin 6 => nbS (F := F) c g := by
  unfold barPay
  rw [bigSep_swap]
  refine BI.bigSep_mono fun g _ => ?_
  have h : (fun a : Fin 3 => slotAny (F := F) (nbr a c) (pos a g) g)
      = fun a : Fin 3 => (fun p : Fin 3 => slotAny (F := F) (nbr (axis ⟨p.val, by omega⟩ g) c) p g) (pos a g) := by
    funext a
    show _ = slotAny (F := F) (nbr (axis ⟨(pos a g).val, _⟩ g) c) (pos a g) g
    rw [axis_pos]
  rw [h]
  exact (by_axis g (fun p : Fin 3 => slotAny (F := F) (nbr (axis ⟨p.val, by omega⟩ g) c) p g)).2

section Barrier

variable (A : Dev nD → S1536x768.Idx → Elt F .f32) (B : Dev nD → S768x1536.Idx → Elt F .f32) (κ : Dev nD × Cell → ℕ)
variable (c : Dev nD)

/-- The signal across axis `a`. -/
theorem run_signal (a : Fin 3) (O : CellTallies nD τ sig Unit) {α : Type} {Q : α → sProp 𝕄} {n : Dev nD} (hn : n = nbr a c) {k' : ℕ} (hk : 1 = k')
    {kk : PUnit → Prog (TpuEff nD τ sig (Elt F) Λ₀ .tc) α} :
    iprop(records A B κ ∗ iprop(∃ W, owes (c : Thread nD τ) (O + tallyAt (barCell (nbr a c)) () 1) W) ∗ dutyTok ER (barCell (nbr a c)) 0 a ∗ ownS (F := F) c a)
      ⊢ iprop((iprop(∃ W, owes (c : Thread nD τ) O W) -∗ run c (kk ⟨⟩) Q)
          -∗ run c (.op (.semSignal (n : Thread nD τ) barS k') kk) Q) := by
  subst hn hk
  iintro ⟨#Hr, ⟨%W, HO⟩, Ht, Hs⟩ Hk
  ihave #Hx := (records_at A B κ (nbr a c, none)) $$ Hr
  icases Hx with ⟨#Hi, #Hri⟩
  iapply (Rounds.wp_signal 𝒱₀ ER (Rd A B) (c : Thread nD τ) none (dst := (nbr a c : Thread nD τ)) (κ := κ (nbr a c, none))
    (d := a) (r := 0) (by rw [duties_bar]; exact Finset.mem_univ _) (amount_bar A B (nbr a c) a) () O rfl) $$ [HO Ht Hs]
  · isplitr; · iexact Hi
    isplitl [HO]; · iexact HO
    isplitl [Ht]; · iexact Ht
    isplitl [Hs]
    · rw [payload_bar]; unfold barPay ownS; rw [nbr_nbr]; iexact Hs
    iexact Hri
  iintro HO
  iapply Hk
  iexists _; iexact HO

/-- The wait for the three neighbours. -/
theorem run_barwait {α : Type} {Q : α → sProp 𝕄} {k' : ℕ} (hk : 3 = k') {kk : PUnit → Prog (TpuEff nD τ sig (Elt F) Λ₀ .tc) α} :
    iprop(iprop(Sh A B κ c 0 ∗ own c bvM (B c)) ∗ atPos ER (barCell c) 0 ∅ 0 ∗ cred (tallyAt (barCell c) () 3))
      ⊢ iprop((iprop(iprop(Sh A B κ c 0 ∗ own c bvM (B c)) ∗ semVal (barCell c) 0 ∗ BI.bigSep Finset.univ fun g : Fin 6 => nbS (F := F) c g) -∗ run c (kk ⟨⟩) Q)
          -∗ run c (.op (.semWait barS k') kk) Q) := by
  subst hk
  unfold Sh owesX
  iintro ⟨⟨⟨#Hr, #Hl, %W, HO⟩, Hb⟩, Hat, Hc⟩ Hk
  ihave #Hm := (mayWait_at (F := F) c (.reg barS) 0 1 (le_refl _) (fun p _ => by omega)) $$ Hl
  ihave #Hx := (records_at A B κ (c, none)) $$ Hr
  icases Hx with ⟨#Hi, -⟩
  iapply (Rounds.wp_wait_rest_token 𝒱₀ ER (Rd A B) (c : Thread nD τ) none (κ := κ (c, none))
    (wpE_semWait_eq 𝒱₀ (c : Thread nD τ) none Set.univ) (Set.mem_univ _) () (O := Oat c 0) (W := W) (R := 0) (m := 0) (T := ∅)
    (by rw [Nat.zero_add, expect_bar])) $$ [Hat Hc HO]
  · isplitr; · iexact Hi
    isplitl [Hc]; · iexact Hc
    isplitl [HO]; · iexact HO
    isplitr; · iexact Hm
    iexact Hat
  rw [rest_bar]
  iintro ⟨HO, Hat, -, Hp⟩
  imod (Rounds.cell_close ER (Rd A B) (Set.mem_univ (κ (c, none))) (fun h => h) (R := 0 + 1) (duties_later A B (barCell c))) $$ [Hat] with Hv
  · isplitr; · iexact Hi
    iexact Hat
  iapply Hk
  isplitl [HO Hb]
  · isplitl [HO]
    · isplitr; · iexact Hr
      isplitr; · iexact Hl
      iexists _; iexact HO
    iexact Hb
  isplitl [Hv]; · iexact Hv
  iapply (axes_groups c) $$ Hp

end Barrier

end Cert.CubeProof

end
-- ==== Proof.Table.lean ====
/-
  The row offsets and the devices the kernel computes, as the blocks and the neighbours they are.
-/
module

public import proofs.«01_k».proof.Proof.Handshake

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Offsets -/

/-- Where the half that the device sends of groups 0 and 3 starts. -/
theorem off1 (c : Dev nD) : k0_off1 c 0#32 = ![128 * (hs c 0).val, 0] ∧ k0_off1 c 768#32 = ![128 * (hs c 3).val, 0] := by revert c; decide +kernel
/-- Where the half that the device sends of groups 1 and 4 starts. -/
theorem off2 (c : Dev nD) : k0_off2 c 256#32 = ![128 * (hs c 1).val, 0] ∧ k0_off2 c 1024#32 = ![128 * (hs c 4).val, 0] := by revert c; decide +kernel
/-- Where the half that the device sends of groups 2 and 5 starts. -/
theorem off3 (c : Dev nD) : k0_off3 c 512#32 = ![128 * (hs c 2).val, 0] ∧ k0_off3 c 1280#32 = ![128 * (hs c 5).val, 0] := by revert c; decide +kernel
/-- Where the half that the device keeps of groups 0 and 3 starts. -/
theorem off4 (c : Dev nD) : k0_off4 c 0#32 = ![128 * (hk c 0).val, 0] ∧ k0_off4 c 768#32 = ![128 * (hk c 3).val, 0] := by revert c; decide +kernel
/-- Where the half that the device keeps of groups 1 and 4 starts. -/
theorem off5 (c : Dev nD) : k0_off5 c 256#32 = ![128 * (hk c 1).val, 0] ∧ k0_off5 c 1024#32 = ![128 * (hk c 4).val, 0] := by revert c; decide +kernel
/-- Where the half that the device keeps of groups 2 and 5 starts. -/
theorem off6 (c : Dev nD) : k0_off6 c 512#32 = ![128 * (hk c 2).val, 0] ∧ k0_off6 c 1280#32 = ![128 * (hk c 5).val, 0] := by revert c; decide +kernel
/-- Where the half that the device sends of groups 0 and 3 starts. -/
theorem off7 (c : Dev nD) : k0_off7 c 0#32 = ![128 * (hs c 0).val, 0] ∧ k0_off7 c 768#32 = ![128 * (hs c 3).val, 0] := by revert c; decide +kernel
/-- Where the half that the device sends of groups 0 and 3 starts. -/
theorem off8 (c : Dev nD) : k0_off8 c 0#32 = ![128 * (hs c 0).val, 0] ∧ k0_off8 c 768#32 = ![128 * (hs c 3).val, 0] := by revert c; decide +kernel
/-- Where the half that the device sends of groups 0 and 3 starts. -/
theorem off9 (c : Dev nD) : k0_off9 c 0#32 = ![128 * (hs c 0).val, 0] ∧ k0_off9 c 768#32 = ![128 * (hs c 3).val, 0] := by revert c; decide +kernel
/-- Where the half that the device sends of groups 1 and 4 starts. -/
theorem off10 (c : Dev nD) : k0_off10 c 256#32 = ![128 * (hs c 1).val, 0] ∧ k0_off10 c 1024#32 = ![128 * (hs c 4).val, 0] := by revert c; decide +kernel
/-- Where the half that the device sends of groups 1 and 4 starts. -/
theorem off11 (c : Dev nD) : k0_off11 c 256#32 = ![128 * (hs c 1).val, 0] ∧ k0_off11 c 1024#32 = ![128 * (hs c 4).val, 0] := by revert c; decide +kernel
/-- Where the half that the device sends of groups 1 and 4 starts. -/
theorem off12 (c : Dev nD) : k0_off12 c 256#32 = ![128 * (hs c 1).val, 0] ∧ k0_off12 c 1024#32 = ![128 * (hs c 4).val, 0] := by revert c; decide +kernel
/-- Where the half that the device sends of groups 2 and 5 starts. -/
theorem off13 (c : Dev nD) : k0_off13 c 512#32 = ![128 * (hs c 2).val, 0] ∧ k0_off13 c 1280#32 = ![128 * (hs c 5).val, 0] := by revert c; decide +kernel
/-- Where the half that the device sends of groups 2 and 5 starts. -/
theorem off14 (c : Dev nD) : k0_off14 c 512#32 = ![128 * (hs c 2).val, 0] ∧ k0_off14 c 1280#32 = ![128 * (hs c 5).val, 0] := by revert c; decide +kernel
/-- Where the half that the device sends of groups 2 and 5 starts. -/
theorem off15 (c : Dev nD) : k0_off15 c 512#32 = ![128 * (hs c 2).val, 0] ∧ k0_off15 c 1280#32 = ![128 * (hs c 5).val, 0] := by revert c; decide +kernel
/-- Where the half that the device keeps of groups 0 and 3 starts. -/
theorem off16 (c : Dev nD) : k0_off16 c 0#32 = ![128 * (hk c 0).val, 0] ∧ k0_off16 c 768#32 = ![128 * (hk c 3).val, 0] := by revert c; decide +kernel
/-- Where the half that the device keeps of groups 0 and 3 starts. -/
theorem off17 (c : Dev nD) : k0_off17 c 0#32 = ![128 * (hk c 0).val, 0] ∧ k0_off17 c 768#32 = ![128 * (hk c 3).val, 0] := by revert c; decide +kernel
/-- Where the half that the device keeps of groups 1 and 4 starts. -/
theorem off18 (c : Dev nD) : k0_off18 c 256#32 = ![128 * (hk c 1).val, 0] ∧ k0_off18 c 1024#32 = ![128 * (hk c 4).val, 0] := by revert c; decide +kernel
/-- Where the half that the device keeps of groups 1 and 4 starts. -/
theorem off19 (c : Dev nD) : k0_off19 c 256#32 = ![128 * (hk c 1).val, 0] ∧ k0_off19 c 1024#32 = ![128 * (hk c 4).val, 0] := by revert c; decide +kernel
/-- Where the half that the device keeps of groups 2 and 5 starts. -/
theorem off20 (c : Dev nD) : k0_off20 c 512#32 = ![128 * (hk c 2).val, 0] ∧ k0_off20 c 1280#32 = ![128 * (hk c 5).val, 0] := by revert c; decide +kernel
/-- Where the half that the device keeps of groups 2 and 5 starts. -/
theorem off21 (c : Dev nD) : k0_off21 c 512#32 = ![128 * (hk c 2).val, 0] ∧ k0_off21 c 1280#32 = ![128 * (hk c 5).val, 0] := by revert c; decide +kernel
/-- Where the quarter that the device sends of groups 0 and 3 starts. -/
theorem off22 (c : Dev nD) : k0_off22 c 0#32 = ![64 * (qs c 0).val, 0] ∧ k0_off22 c 768#32 = ![64 * (qs c 3).val, 0] := by revert c; decide +kernel
/-- Where the quarter that the device sends of groups 0 and 3 starts. -/
theorem off24 (c : Dev nD) : k0_off24 c 0#32 = ![64 * (qs c 0).val, 0] ∧ k0_off24 c 768#32 = ![64 * (qs c 3).val, 0] := by revert c; decide +kernel
/-- Where the quarter that the device keeps of groups 0 and 3 starts. -/
theorem off25 (c : Dev nD) : k0_off25 c 0#32 = ![64 * (qk c 0).val, 0] ∧ k0_off25 c 768#32 = ![64 * (qk c 3).val, 0] := by revert c; decide +kernel
/-- Where the quarter that the device sends of groups 1 and 4 starts. -/
theorem off27 (c : Dev nD) : k0_off27 c 256#32 = ![64 * (qs c 1).val, 0] ∧ k0_off27 c 1024#32 = ![64 * (qs c 4).val, 0] := by revert c; decide +kernel
/-- Where the quarter that the device sends of groups 1 and 4 starts. -/
theorem off29 (c : Dev nD) : k0_off29 c 256#32 = ![64 * (qs c 1).val, 0] ∧ k0_off29 c 1024#32 = ![64 * (qs c 4).val, 0] := by revert c; decide +kernel
/-- Where the quarter that the device keeps of groups 1 and 4 starts. -/
theorem off30 (c : Dev nD) : k0_off30 c 256#32 = ![64 * (qk c 1).val, 0] ∧ k0_off30 c 1024#32 = ![64 * (qk c 4).val, 0] := by revert c; decide +kernel
/-- Where the quarter that the device sends of groups 2 and 5 starts. -/
theorem off32 (c : Dev nD) : k0_off32 c 512#32 = ![64 * (qs c 2).val, 0] ∧ k0_off32 c 1280#32 = ![64 * (qs c 5).val, 0] := by revert c; decide +kernel
/-- Where the quarter that the device sends of groups 2 and 5 starts. -/
theorem off34 (c : Dev nD) : k0_off34 c 512#32 = ![64 * (qs c 2).val, 0] ∧ k0_off34 c 1280#32 = ![64 * (qs c 5).val, 0] := by revert c; decide +kernel
/-- Where the quarter that the device keeps of groups 2 and 5 starts. -/
theorem off35 (c : Dev nD) : k0_off35 c 512#32 = ![64 * (qk c 2).val, 0] ∧ k0_off35 c 1280#32 = ![64 * (qk c 5).val, 0] := by revert c; decide +kernel
/-- Where the quarter that the device keeps of groups 0 and 3 starts. -/
theorem off43 (c : Dev nD) : k0_off43 c 0#32 = ![64 * (qk c 0).val, 0] ∧ k0_off43 c 768#32 = ![64 * (qk c 3).val, 0] := by revert c; decide +kernel
/-- Where the quarter that the device keeps of groups 0 and 3 starts. -/
theorem off44 (c : Dev nD) : k0_off44 c 0#32 = ![64 * (qk c 0).val, 0] ∧ k0_off44 c 768#32 = ![64 * (qk c 3).val, 0] := by revert c; decide +kernel
/-- Where the quarter that the device keeps of groups 1 and 4 starts. -/
theorem off45 (c : Dev nD) : k0_off45 c 256#32 = ![64 * (qk c 1).val, 0] ∧ k0_off45 c 1024#32 = ![64 * (qk c 4).val, 0] := by revert c; decide +kernel
/-- Where the quarter that the device keeps of groups 1 and 4 starts. -/
theorem off46 (c : Dev nD) : k0_off46 c 256#32 = ![64 * (qk c 1).val, 0] ∧ k0_off46 c 1024#32 = ![64 * (qk c 4).val, 0] := by revert c; decide +kernel
/-- Where the quarter that the device keeps of groups 2 and 5 starts. -/
theorem off47 (c : Dev nD) : k0_off47 c 512#32 = ![64 * (qk c 2).val, 0] ∧ k0_off47 c 1280#32 = ![64 * (qk c 5).val, 0] := by revert c; decide +kernel
/-- Where the quarter that the device keeps of groups 2 and 5 starts. -/
theorem off48 (c : Dev nD) : k0_off48 c 512#32 = ![64 * (qk c 2).val, 0] ∧ k0_off48 c 1280#32 = ![64 * (qk c 5).val, 0] := by revert c; decide +kernel
/-- Where the half that the device keeps of groups 0 and 3 starts. -/
theorem off49 (c : Dev nD) : k0_off49 c 0#32 = ![128 * (hk c 0).val, 0] ∧ k0_off49 c 768#32 = ![128 * (hk c 3).val, 0] := by revert c; decide +kernel
/-- Where the quarter that the device sends of groups 0 and 3 starts. -/
theorem off50 (c : Dev nD) : k0_off50 c 0#32 = ![64 * (qs c 0).val, 0] ∧ k0_off50 c 768#32 = ![64 * (qs c 3).val, 0] := by revert c; decide +kernel
/-- Where the quarter that the device sends of groups 0 and 3 starts. -/
theorem off51 (c : Dev nD) : k0_off51 c 0#32 = ![64 * (qs c 0).val, 0] ∧ k0_off51 c 768#32 = ![64 * (qs c 3).val, 0] := by revert c; decide +kernel
/-- Where the half that the device keeps of groups 1 and 4 starts. -/
theorem off52 (c : Dev nD) : k0_off52 c 256#32 = ![128 * (hk c 1).val, 0] ∧ k0_off52 c 1024#32 = ![128 * (hk c 4).val, 0] := by revert c; decide +kernel
/-- Where the quarter that the device sends of groups 1 and 4 starts. -/
theorem off53 (c : Dev nD) : k0_off53 c 256#32 = ![64 * (qs c 1).val, 0] ∧ k0_off53 c 1024#32 = ![64 * (qs c 4).val, 0] := by revert c; decide +kernel
/-- Where the quarter that the device sends of groups 1 and 4 starts. -/
theorem off54 (c : Dev nD) : k0_off54 c 256#32 = ![64 * (qs c 1).val, 0] ∧ k0_off54 c 1024#32 = ![64 * (qs c 4).val, 0] := by revert c; decide +kernel
/-- Where the half that the device keeps of groups 2 and 5 starts. -/
theorem off55 (c : Dev nD) : k0_off55 c 512#32 = ![128 * (hk c 2).val, 0] ∧ k0_off55 c 1280#32 = ![128 * (hk c 5).val, 0] := by revert c; decide +kernel
/-- Where the quarter that the device sends of groups 2 and 5 starts. -/
theorem off56 (c : Dev nD) : k0_off56 c 512#32 = ![64 * (qs c 2).val, 0] ∧ k0_off56 c 1280#32 = ![64 * (qs c 5).val, 0] := by revert c; decide +kernel
/-- Where the quarter that the device sends of groups 2 and 5 starts. -/
theorem off57 (c : Dev nD) : k0_off57 c 512#32 = ![64 * (qs c 2).val, 0] ∧ k0_off57 c 1280#32 = ![64 * (qs c 5).val, 0] := by revert c; decide +kernel
/-- Where the half that the device sends of groups 0 and 3 starts. -/
theorem off58 (c : Dev nD) : k0_off58 c 0#32 = ![128 * (hs c 0).val, 0] ∧ k0_off58 c 768#32 = ![128 * (hs c 3).val, 0] := by revert c; decide +kernel
/-- Where the half that the device sends of groups 0 and 3 starts. -/
theorem off59 (c : Dev nD) : k0_off59 c 0#32 = ![128 * (hs c 0).val, 0] ∧ k0_off59 c 768#32 = ![128 * (hs c 3).val, 0] := by revert c; decide +kernel
/-- Where the half that the device sends of groups 1 and 4 starts. -/
theorem off60 (c : Dev nD) : k0_off60 c 256#32 = ![128 * (hs c 1).val, 0] ∧ k0_off60 c 1024#32 = ![128 * (hs c 4).val, 0] := by revert c; decide +kernel
/-- Where the half that the device sends of groups 1 and 4 starts. -/
theorem off61 (c : Dev nD) : k0_off61 c 256#32 = ![128 * (hs c 1).val, 0] ∧ k0_off61 c 1024#32 = ![128 * (hs c 4).val, 0] := by revert c; decide +kernel
/-- Where the half that the device sends of groups 2 and 5 starts. -/
theorem off62 (c : Dev nD) : k0_off62 c 512#32 = ![128 * (hs c 2).val, 0] ∧ k0_off62 c 1280#32 = ![128 * (hs c 5).val, 0] := by revert c; decide +kernel
/-- Where the half that the device sends of groups 2 and 5 starts. -/
theorem off63 (c : Dev nD) : k0_off63 c 512#32 = ![128 * (hs c 2).val, 0] ∧ k0_off63 c 1280#32 = ![128 * (hs c 5).val, 0] := by revert c; decide +kernel
/-- Where the quarter that the device gives away starts in block 0 of the first landing buffer. -/
theorem off23 (c : Dev nD) : k0_off23 c = ![((0 : Fin 6)).val, 64 * (1 - b2 c 0).val, 0] := by revert c; decide +kernel
/-- Where the quarter that the device keeps starts in block 0 of the first landing buffer. -/
theorem off26 (c : Dev nD) : k0_off26 c = ![((0 : Fin 6)).val, 64 * (b2 c 0).val, 0] := by revert c; decide +kernel
/-- Where the quarter that the device gives away starts in block 1 of the first landing buffer. -/
theorem off28 (c : Dev nD) : k0_off28 c = ![((1 : Fin 6)).val, 64 * (1 - b2 c 1).val, 0] := by revert c; decide +kernel
/-- Where the quarter that the device keeps starts in block 1 of the first landing buffer. -/
theorem off31 (c : Dev nD) : k0_off31 c = ![((1 : Fin 6)).val, 64 * (b2 c 1).val, 0] := by revert c; decide +kernel
/-- Where the quarter that the device gives away starts in block 2 of the first landing buffer. -/
theorem off33 (c : Dev nD) : k0_off33 c = ![((2 : Fin 6)).val, 64 * (1 - b2 c 2).val, 0] := by revert c; decide +kernel
/-- Where the quarter that the device keeps starts in block 2 of the first landing buffer. -/
theorem off36 (c : Dev nD) : k0_off36 c = ![((2 : Fin 6)).val, 64 * (b2 c 2).val, 0] := by revert c; decide +kernel
/-- Where the quarter that the device gives away starts in block 3 of the first landing buffer. -/
theorem off37 (c : Dev nD) : k0_off37 c = ![((3 : Fin 6)).val, 64 * (1 - b2 c 3).val, 0] := by revert c; decide +kernel
/-- Where the quarter that the device keeps starts in block 3 of the first landing buffer. -/
theorem off38 (c : Dev nD) : k0_off38 c = ![((3 : Fin 6)).val, 64 * (b2 c 3).val, 0] := by revert c; decide +kernel
/-- Where the quarter that the device gives away starts in block 4 of the first landing buffer. -/
theorem off39 (c : Dev nD) : k0_off39 c = ![((4 : Fin 6)).val, 64 * (1 - b2 c 4).val, 0] := by revert c; decide +kernel
/-- Where the quarter that the device keeps starts in block 4 of the first landing buffer. -/
theorem off40 (c : Dev nD) : k0_off40 c = ![((4 : Fin 6)).val, 64 * (b2 c 4).val, 0] := by revert c; decide +kernel
/-- Where the quarter that the device gives away starts in block 5 of the first landing buffer. -/
theorem off41 (c : Dev nD) : k0_off41 c = ![((5 : Fin 6)).val, 64 * (1 - b2 c 5).val, 0] := by revert c; decide +kernel
/-- Where the quarter that the device keeps starts in block 5 of the first landing buffer. -/
theorem off42 (c : Dev nD) : k0_off42 c = ![((5 : Fin 6)).val, 64 * (b2 c 5).val, 0] := by revert c; decide +kernel

/-! ## Devices -/

/-- The signalled neighbour across axis 0. -/
theorem dev1 (c : Dev nD) : (⟨k0_dev1 c, k0_dev1_lt c⟩ : Dev nD) = nbr 0 c := Fin.ext (by revert c; decide +kernel)
/-- The signalled neighbour across axis 1. -/
theorem dev2 (c : Dev nD) : (⟨k0_dev2 c, k0_dev2_lt c⟩ : Dev nD) = nbr 1 c := Fin.ext (by revert c; decide +kernel)
/-- The signalled neighbour across axis 2. -/
theorem dev3 (c : Dev nD) : (⟨k0_dev3 c, k0_dev3_lt c⟩ : Dev nD) = nbr 2 c := Fin.ext (by revert c; decide +kernel)
/-- The target of exchange 0 of group 0. -/
theorem dev4 (c : Dev nD) : (⟨k0_dev4 c, k0_dev4_lt c⟩ : Dev nD) = peer 0 0 c := Fin.ext (by revert c; decide +kernel)
/-- The target of exchange 0 of group 1. -/
theorem dev5 (c : Dev nD) : (⟨k0_dev5 c, k0_dev5_lt c⟩ : Dev nD) = peer 0 1 c := Fin.ext (by revert c; decide +kernel)
/-- The target of exchange 0 of group 2. -/
theorem dev6 (c : Dev nD) : (⟨k0_dev6 c, k0_dev6_lt c⟩ : Dev nD) = peer 0 2 c := Fin.ext (by revert c; decide +kernel)
/-- The target of exchange 0 of group 3. -/
theorem dev7 (c : Dev nD) : (⟨k0_dev7 c, k0_dev7_lt c⟩ : Dev nD) = peer 0 3 c := Fin.ext (by revert c; decide +kernel)
/-- The target of exchange 0 of group 4. -/
theorem dev8 (c : Dev nD) : (⟨k0_dev8 c, k0_dev8_lt c⟩ : Dev nD) = peer 0 4 c := Fin.ext (by revert c; decide +kernel)
/-- The target of exchange 0 of group 5. -/
theorem dev9 (c : Dev nD) : (⟨k0_dev9 c, k0_dev9_lt c⟩ : Dev nD) = peer 0 5 c := Fin.ext (by revert c; decide +kernel)
/-- The target of exchange 1 of group 0. -/
theorem dev10 (c : Dev nD) : (⟨k0_dev10 c, k0_dev10_lt c⟩ : Dev nD) = peer 1 0 c := Fin.ext (by revert c; decide +kernel)
/-- The target of exchange 1 of group 1. -/
theorem dev11 (c : Dev nD) : (⟨k0_dev11 c, k0_dev11_lt c⟩ : Dev nD) = peer 1 1 c := Fin.ext (by revert c; decide +kernel)
/-- The target of exchange 1 of group 2. -/
theorem dev12 (c : Dev nD) : (⟨k0_dev12 c, k0_dev12_lt c⟩ : Dev nD) = peer 1 2 c := Fin.ext (by revert c; decide +kernel)
/-- The target of exchange 1 of group 3. -/
theorem dev13 (c : Dev nD) : (⟨k0_dev13 c, k0_dev13_lt c⟩ : Dev nD) = peer 1 3 c := Fin.ext (by revert c; decide +kernel)
/-- The target of exchange 1 of group 4. -/
theorem dev14 (c : Dev nD) : (⟨k0_dev14 c, k0_dev14_lt c⟩ : Dev nD) = peer 1 4 c := Fin.ext (by revert c; decide +kernel)
/-- The target of exchange 1 of group 5. -/
theorem dev15 (c : Dev nD) : (⟨k0_dev15 c, k0_dev15_lt c⟩ : Dev nD) = peer 1 5 c := Fin.ext (by revert c; decide +kernel)
/-- The target of exchange 2 of group 0. -/
theorem dev16 (c : Dev nD) : (⟨k0_dev16 c, k0_dev16_lt c⟩ : Dev nD) = peer 2 0 c := Fin.ext (by revert c; decide +kernel)
/-- The target of exchange 2 of group 1. -/
theorem dev17 (c : Dev nD) : (⟨k0_dev17 c, k0_dev17_lt c⟩ : Dev nD) = peer 2 1 c := Fin.ext (by revert c; decide +kernel)
/-- The target of exchange 2 of group 2. -/
theorem dev18 (c : Dev nD) : (⟨k0_dev18 c, k0_dev18_lt c⟩ : Dev nD) = peer 2 2 c := Fin.ext (by revert c; decide +kernel)
/-- The target of exchange 2 of group 3. -/
theorem dev19 (c : Dev nD) : (⟨k0_dev19 c, k0_dev19_lt c⟩ : Dev nD) = peer 2 3 c := Fin.ext (by revert c; decide +kernel)
/-- The target of exchange 2 of group 4. -/
theorem dev20 (c : Dev nD) : (⟨k0_dev20 c, k0_dev20_lt c⟩ : Dev nD) = peer 2 4 c := Fin.ext (by revert c; decide +kernel)
/-- The target of exchange 2 of group 5. -/
theorem dev21 (c : Dev nD) : (⟨k0_dev21 c, k0_dev21_lt c⟩ : Dev nD) = peer 2 5 c := Fin.ext (by revert c; decide +kernel)
/-- The target of exchange 3 of group 0. -/
theorem dev22 (c : Dev nD) : (⟨k0_dev22 c, k0_dev22_lt c⟩ : Dev nD) = peer 3 0 c := Fin.ext (by revert c; decide +kernel)
/-- The target of exchange 3 of group 1. -/
theorem dev23 (c : Dev nD) : (⟨k0_dev23 c, k0_dev23_lt c⟩ : Dev nD) = peer 3 1 c := Fin.ext (by revert c; decide +kernel)
/-- The target of exchange 3 of group 2. -/
theorem dev24 (c : Dev nD) : (⟨k0_dev24 c, k0_dev24_lt c⟩ : Dev nD) = peer 3 2 c := Fin.ext (by revert c; decide +kernel)
/-- The target of exchange 3 of group 3. -/
theorem dev25 (c : Dev nD) : (⟨k0_dev25 c, k0_dev25_lt c⟩ : Dev nD) = peer 3 3 c := Fin.ext (by revert c; decide +kernel)
/-- The target of exchange 3 of group 4. -/
theorem dev26 (c : Dev nD) : (⟨k0_dev26 c, k0_dev26_lt c⟩ : Dev nD) = peer 3 4 c := Fin.ext (by revert c; decide +kernel)
/-- The target of exchange 3 of group 5. -/
theorem dev27 (c : Dev nD) : (⟨k0_dev27 c, k0_dev27_lt c⟩ : Dev nD) = peer 3 5 c := Fin.ext (by revert c; decide +kernel)
/-- The target of exchange 4 of group 0. -/
theorem dev28 (c : Dev nD) : (⟨k0_dev28 c, k0_dev28_lt c⟩ : Dev nD) = peer 4 0 c := Fin.ext (by revert c; decide +kernel)
/-- The target of exchange 4 of group 1. -/
theorem dev29 (c : Dev nD) : (⟨k0_dev29 c, k0_dev29_lt c⟩ : Dev nD) = peer 4 1 c := Fin.ext (by revert c; decide +kernel)
/-- The target of exchange 4 of group 2. -/
theorem dev30 (c : Dev nD) : (⟨k0_dev30 c, k0_dev30_lt c⟩ : Dev nD) = peer 4 2 c := Fin.ext (by revert c; decide +kernel)
/-- The target of exchange 4 of group 3. -/
theorem dev31 (c : Dev nD) : (⟨k0_dev31 c, k0_dev31_lt c⟩ : Dev nD) = peer 4 3 c := Fin.ext (by revert c; decide +kernel)
/-- The target of exchange 4 of group 4. -/
theorem dev32 (c : Dev nD) : (⟨k0_dev32 c, k0_dev32_lt c⟩ : Dev nD) = peer 4 4 c := Fin.ext (by revert c; decide +kernel)
/-- The target of exchange 4 of group 5. -/
theorem dev33 (c : Dev nD) : (⟨k0_dev33 c, k0_dev33_lt c⟩ : Dev nD) = peer 4 5 c := Fin.ext (by revert c; decide +kernel)

end Cert.CubeProof

end
-- ==== Proof.Body.lean ====
/-
  The kernel's body on one device, step by step.
-/
module

public import proofs.«01_k».proof.Proof.Table

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A product over the six row groups. -/
theorem bigSep_six (Φ : Fin 6 → sProp 𝕄) : BI.bigSep Finset.univ Φ = iprop(Φ 0 ∗ Φ 1 ∗ Φ 2 ∗ Φ 3 ∗ Φ 4 ∗ Φ 5) := by
  rw [show (Finset.univ : Finset (Fin 6)) = insert 0 (insert 1 (insert 2 (insert 3 (insert 4 {5})))) from rfl, BI.bigSep_insert (by decide),
    BI.bigSep_insert (by decide), BI.bigSep_insert (by decide), BI.bigSep_insert (by decide), BI.bigSep_insert (by decide), BI.bigSep_singleton]
  rfl

section Body

variable (A : Dev nD → S1536x768.Idx → Elt F .f32) (B : Dev nD → S768x1536.Idx → Elt F .f32) (κ : Dev nD × Cell → ℕ)
variable (c : Dev nD)

/-- The start of the copy of a block of the left factor. -/
theorem copyA (g : Fin 6) (i : Fin 2) (j : Fin 12) {α : Type} {Q : α → sProp 𝕄} {o1 : Fin 2 → ℕ} (h1 : o1 = ![128 * j.val, 0]) {sm : DmaSem sig} (hsm : sm = aS i g)
    {i1 : ∀ a, o1 a + S128x768.size a ≤ S1536x768.size a} {w1 : (sA aM o1 i1).view.WordExact} {w2 : (sA avM o1 i1).view.WordExact}
    {hsem : DmaTarget.Typed (nD := nD) (τ := τ) (p := Proc.tc) .hbm (SemLoc.dma sm) (.here (sA avM o1 i1))} {kk : Prog (TpuEff nD τ sig (Elt F) Λ₀ .tc) α} :
    iprop(iprop(own c (mA aM j) (aBlk A c j) ∗ any (F := F) c (mA avM j) ∗ semVal ((c : Thread nD τ), .dma (aS i g)) 0))
      ⊢ iprop((flyA A c g i j -∗ run c kk Q) -∗ run c (.op (.enqueueDma (sA aM o1 i1) (.here (sA avM o1 i1)) (.dma sm) w1 w2 hsem) fun _ => kk) Q) := by
  subst h1 hsm
  unfold flyA
  exact run_copy c (src := mA aM j) (dst := mA avM j) (k := fun _ => kk) fullShare (aBlk A c j) (show 0 < S128x768.numel by decide)

/-- The wait for a copy out of 64 rows. -/
theorem waitQ (g : Fin 6) (i : Fin 3) (j : Fin 24) (X : S64x1536.Idx → Elt F .f32) {α : Type} {Q : α → sProp 𝕄} {o1 : Fin 2 → ℕ} (h1 : o1 = ![64 * j.val, 0]) {sm : DmaSem sig}
    (hsm : sm = oS i g) {i1 : ∀ a, o1 a + S64x1536.size a ≤ S1536x1536.size a} {w1 : (sQ accM o1 i1).view.WordExact} {w2 : (sQ oM o1 i1).view.WordExact}
    {kk : Prog (TpuEff nD τ sig (Elt F) Λ₀ .tc) α} :
    iprop(Sh A B κ c 30 ∗ fly c (oS i g) (mQ accM j) (mQ oM j) fullShare X)
      ⊢ iprop((iprop(Sh A B κ c 30 ∗ iprop(own c (mQ oM j) X ∗ own c (mQ accM j) X ∗ semVal ((c : Thread nD τ), .dma (oS i g)) 0)) -∗ run c kk Q)
          -∗ run c (.op (.waitDma2 sm (sQ accM o1 i1) (sQ oM o1 i1) w1 w2) fun _ => kk) Q) := by
  subst h1 hsm
  exact wait_fly A B κ c 30 (src := mQ accM j) (dst := mQ oM j) (srcw := mQ accM j) (kk := fun _ => kk) (lv_o c i g)

/-- The wait for a copy out of 128 rows. -/
theorem waitH (g : Fin 6) (i : Fin 3) (j : Fin 12) (X : S128x1536.Idx → Elt F .f32) {α : Type} {Q : α → sProp 𝕄} {o1 : Fin 2 → ℕ} (h1 : o1 = ![128 * j.val, 0]) {sm : DmaSem sig}
    (hsm : sm = oS i g) {i1 : ∀ a, o1 a + S128x1536.size a ≤ S1536x1536.size a} {w1 : (sH accM o1 i1).view.WordExact} {w2 : (sH oM o1 i1).view.WordExact}
    {kk : Prog (TpuEff nD τ sig (Elt F) Λ₀ .tc) α} :
    iprop(Sh A B κ c 30 ∗ fly c (oS i g) (mH accM j) (mH oM j) fullShare X)
      ⊢ iprop((iprop(Sh A B κ c 30 ∗ iprop(own c (mH oM j) X ∗ own c (mH accM j) X ∗ semVal ((c : Thread nD τ), .dma (oS i g)) 0)) -∗ run c kk Q)
          -∗ run c (.op (.waitDma2 sm (sH accM o1 i1) (sH oM o1 i1) w1 w2) fun _ => kk) Q) := by
  subst h1 hsm
  exact wait_fly A B κ c 30 (src := mH accM j) (dst := mH oM j) (srcw := mH accM j) (kk := fun _ => kk) (lv_o c i g)

/-- What device `c` starts with. -/
def Start : sProp 𝕄 :=
  iprop(records A B κ ∗ levAts L lv ∗ iprop(∃ W, owes (c : Thread nD τ) (Olaunch c) W)
    ∗ iprop(dutyTok ER (barCell (nbr 0 c)) 0 (0 : Fin 3) ∗ dutyTok ER (barCell (nbr 1 c)) 0 (1 : Fin 3) ∗ dutyTok ER (barCell (nbr 2 c)) 0 (2 : Fin 3))
    ∗ iprop(atPos ER (barCell c) 0 ∅ 0 ∗ cred (tallyAt (barCell c) () 3))
    ∗ iprop(ownS (F := F) c 0 ∗ ownS (F := F) c 1 ∗ ownS (F := F) c 2)
    ∗ iprop(own c bM (B c) ∗ any (F := F) c bvM ∗ semVal ((c : Thread nD τ), .dma bS) 0)
    ∗ BI.bigSep Finset.univ fun g : Fin 6 => St0 A c g)

/-- What device `c` ends with. -/
def End : sProp 𝕄 :=
  iprop(Sh A B κ c 30 ∗ own c bvM (B c) ∗ own c bM (B c) ∗ semVal ((c : Thread nD τ), .dma bS) 0 ∗ semVal (barCell c) 0
    ∗ BI.bigSep Finset.univ fun g : Fin 6 => St9 A B c g)

/-- The kernel, from its start to its end on one device. -/
theorem run_body (Q : PUnit → sProp 𝕄) :
    Start A B κ c ⊢ iprop((End A B κ c -∗ Q ⟨⟩) -∗ run c (bodyAt0 t0_0) Q) := by
  unfold Start End Olaunch
  rw [bigSep_six]
  iintro ⟨#Hr, #Hl, HO, ⟨Ht0, Ht1, Ht2⟩, ⟨Hat, Hc⟩, ⟨Ho0, Ho1, Ho2⟩, ⟨Hbm, Hbv, Hbs⟩, S0, S1, S2, S3, S4, S5⟩ Hk
  unfold bodyAt0
  simp only [cc0_body_eq_skeleton, cc0_body_skel, k0_part52_eq_skeleton, k0_part52_skel, k0_part1_eq_skeleton, k0_part1_skel, k0_part2_eq_skeleton, k0_part2_skel, k0_part3_eq_skeleton, k0_part3_skel, k0_part4_eq_skeleton, k0_part4_skel, Prog.lift, Prog.bind_op, Prog.bind_ret, Prog.pure_eq_ret, semSignalWord, semWaitWord, wp_deviceId]
  iapply (run_copy c fullShare (B c) (show 0 < S768x1536.numel by decide)) $$ [Hbm Hbv Hbs]
  · isplitl [Hbm]; · iexact Hbm
    isplitl [Hbv] <;> iassumption
  iintro HFb
  iapply (framed0 c (c0_move A c 0) (copyA A c 0 0 (hs c 0) (off1 c).1 rfl)) $$ S0
  iintro S0
  iapply (framed0 c (c0_move A c 1) (copyA A c 1 0 (hs c 1) (off2 c).1 rfl)) $$ S1
  iintro S1
  iapply (framed0 c (c0_move A c 2) (copyA A c 2 0 (hs c 2) (off3 c).1 rfl)) $$ S2
  iintro S2
  iapply (framed0 c (c0_move A c 3) (copyA A c 3 0 (hs c 3) (off1 c).2 rfl)) $$ S3
  iintro S3
  iapply (framed0 c (c0_move A c 4) (copyA A c 4 0 (hs c 4) (off2 c).2 rfl)) $$ S4
  iintro S4
  iapply (framed0 c (c0_move A c 5) (copyA A c 5 0 (hs c 5) (off3 c).2 rfl)) $$ S5
  iintro S5
  iapply (framed0 c (c1_move A c 0) (copyA A c 0 1 (hk c 0) (off4 c).1 rfl)) $$ S0
  iintro S0
  iapply (framed0 c (c1_move A c 1) (copyA A c 1 1 (hk c 1) (off5 c).1 rfl)) $$ S1
  iintro S1
  iapply (framed0 c (c1_move A c 2) (copyA A c 2 1 (hk c 2) (off6 c).1 rfl)) $$ S2
  iintro S2
  iapply (framed0 c (c1_move A c 3) (copyA A c 3 1 (hk c 3) (off4 c).2 rfl)) $$ S3
  iintro S3
  iapply (framed0 c (c1_move A c 4) (copyA A c 4 1 (hk c 4) (off5 c).2 rfl)) $$ S4
  iintro S4
  iapply (framed0 c (c1_move A c 5) (copyA A c 5 1 (hk c 5) (off6 c).2 rfl)) $$ S5
  iintro S5
  iapply (run_signal A B κ c 0 ((Oat c 0 + tallyAt (barCell (nbr 2 c)) () 1) + tallyAt (barCell (nbr 1 c)) () 1) (dev1 c) rfl) $$ [HO Ht0 Ho0]
  · isplitr; · iexact Hr
    isplitl [HO]; · iexact HO
    isplitl [Ht0] <;> iassumption
  iintro HO
  iapply (run_signal A B κ c 1 (Oat c 0 + tallyAt (barCell (nbr 2 c)) () 1) (dev2 c) rfl) $$ [HO Ht1 Ho1]
  · isplitr; · iexact Hr
    isplitl [HO]; · iexact HO
    isplitl [Ht1] <;> iassumption
  iintro HO
  iapply (run_signal A B κ c 2 (Oat c 0) (dev3 c) rfl) $$ [HO Ht2 Ho2]
  · isplitr; · iexact Hr
    isplitl [HO]; · iexact HO
    isplitl [Ht2] <;> iassumption
  iintro HO
  ihave Hsh : (Sh A B κ c 0) $$ [HO]
  · unfold Sh owesX
    isplitr; · iexact Hr
    isplitr; · iexact Hl
    iexact HO
  iapply (wait_fly A B κ c 0 (lv_b c)) $$ [Hsh HFb]
  · isplitl [Hsh] <;> iassumption
  iintro ⟨Hsh, Hbv, Hbm, Hbs⟩
  ihave HB : (iprop(Sh A B κ c 0 ∗ own c bvM (B c))) $$ [Hsh Hbv]
  · isplitl [Hsh] <;> iassumption
  simp only [k0_part5_eq_skeleton, k0_part5_skel, k0_part6_eq_skeleton, k0_part6_skel, k0_part7_eq_skeleton, k0_part7_skel, k0_part8_eq_skeleton, k0_part8_skel, k0_part9_eq_skeleton, k0_part9_skel, Prog.lift, Prog.bind_op, Prog.bind_ret, Prog.pure_eq_ret, semSignalWord, semWaitWord]
  iapply (framed c (p0_move A B c 0) (P0 A B κ c 0 0 (off1 c).1 (off7 c).1 (off8 c).1 rfl (fun x y => k0_pay2 (k0_pay1 x y)) rfl)) $$ HB S0
  iintro HB S0
  iapply (run_barwait A B κ c rfl) $$ [HB Hat Hc]
  · isplitl [HB]; · iexact HB
    isplitl [Hat] <;> iassumption
  iintro ⟨HB, Hbar, HN⟩
  ihave HN := (BIBase.Entails.of_eq (bigSep_six (fun g : Fin 6 => nbS (F := F) c g))) $$ HN
  icases HN with ⟨N0, N1, N2, N3, N4, N5⟩
  icases HB with ⟨Hsh, Hbv⟩
  iapply (framed c (p0s_move A B c 0) (P0s A B κ c 0 0 1 rfl rfl (off9 c).1 rfl rfl (dev4 c) rfl)) $$ Hsh [S0 N0]
  · isplitl [S0] <;> iassumption
  iintro Hsh S0
  ihave HB : (iprop(Sh A B κ c 1 ∗ own c bvM (B c))) $$ [Hsh Hbv]
  · isplitl [Hsh] <;> iassumption
  iapply (framed c (p0_move A B c 1) (P0 A B κ c 1 1 (off2 c).1 (off10 c).1 (off11 c).1 rfl (k0_pay3) rfl)) $$ HB S1
  iintro HB S1
  icases HB with ⟨Hsh, Hbv⟩
  iapply (framed c (p0s_move A B c 1) (P0s A B κ c 1 1 2 rfl rfl (off12 c).1 rfl rfl (dev5 c) rfl)) $$ Hsh [S1 N1]
  · isplitl [S1] <;> iassumption
  iintro Hsh S1
  ihave HB : (iprop(Sh A B κ c 2 ∗ own c bvM (B c))) $$ [Hsh Hbv]
  · isplitl [Hsh] <;> iassumption
  iapply (framed c (p0_move A B c 2) (P0 A B κ c 2 2 (off3 c).1 (off13 c).1 (off14 c).1 rfl (k0_pay4) rfl)) $$ HB S2
  iintro HB S2
  icases HB with ⟨Hsh, Hbv⟩
  iapply (framed c (p0s_move A B c 2) (P0s A B κ c 2 2 3 rfl rfl (off15 c).1 rfl rfl (dev6 c) rfl)) $$ Hsh [S2 N2]
  · isplitl [S2] <;> iassumption
  iintro Hsh S2
  ihave HB : (iprop(Sh A B κ c 3 ∗ own c bvM (B c))) $$ [Hsh Hbv]
  · isplitl [Hsh] <;> iassumption
  iapply (framed c (p0_move A B c 3) (P0 A B κ c 3 3 (off1 c).2 (off7 c).2 (off8 c).2 rfl (k0_pay5) rfl)) $$ HB S3
  iintro HB S3
  icases HB with ⟨Hsh, Hbv⟩
  iapply (framed c (p0s_move A B c 3) (P0s A B κ c 3 3 4 rfl rfl (off9 c).2 rfl rfl (dev7 c) rfl)) $$ Hsh [S3 N3]
  · isplitl [S3] <;> iassumption
  iintro Hsh S3
  ihave HB : (iprop(Sh A B κ c 4 ∗ own c bvM (B c))) $$ [Hsh Hbv]
  · isplitl [Hsh] <;> iassumption
  iapply (framed c (p0_move A B c 4) (P0 A B κ c 4 4 (off2 c).2 (off10 c).2 (off11 c).2 rfl (fun x y => k0_pay7 (k0_pay6 x y)) rfl)) $$ HB S4
  iintro HB S4
  icases HB with ⟨Hsh, Hbv⟩
  iapply (framed c (p0s_move A B c 4) (P0s A B κ c 4 4 5 rfl rfl (off12 c).2 rfl rfl (dev8 c) rfl)) $$ Hsh [S4 N4]
  · isplitl [S4] <;> iassumption
  iintro Hsh S4
  ihave HB : (iprop(Sh A B κ c 5 ∗ own c bvM (B c))) $$ [Hsh Hbv]
  · isplitl [Hsh] <;> iassumption
  iapply (framed c (p0_move A B c 5) (P0 A B κ c 5 5 (off3 c).2 (off13 c).2 (off14 c).2 rfl (k0_pay8) rfl)) $$ HB S5
  iintro HB S5
  icases HB with ⟨Hsh, Hbv⟩
  iapply (framed c (p0s_move A B c 5) (P0s A B κ c 5 5 6 rfl rfl (off15 c).2 rfl rfl (dev9 c) rfl)) $$ Hsh [S5 N5]
  · isplitl [S5] <;> iassumption
  iintro Hsh S5
  ihave HB : (iprop(Sh A B κ c 6 ∗ own c bvM (B c))) $$ [Hsh Hbv]
  · isplitl [Hsh] <;> iassumption

  simp only [k0_part10_eq_skeleton, k0_part10_skel, k0_part11_eq_skeleton, k0_part11_skel, Prog.lift, Prog.bind_op, Prog.bind_ret, Prog.pure_eq_ret, semSignalWord, semWaitWord]
  iapply (framed c (p1_move A B c 0) (P1 A B κ c 0 6 (off4 c).1 (off16 c).1 (off17 c).1 rfl (k0_pay9) rfl)) $$ HB S0
  iintro HB S0
  iapply (framed c (p1_move A B c 1) (P1 A B κ c 1 6 (off5 c).1 (off18 c).1 (off19 c).1 rfl (k0_pay10) rfl)) $$ HB S1
  iintro HB S1
  iapply (framed c (p1_move A B c 2) (P1 A B κ c 2 6 (off6 c).1 (off20 c).1 (off21 c).1 rfl (k0_pay11) rfl)) $$ HB S2
  iintro HB S2
  iapply (framed c (p1_move A B c 3) (P1 A B κ c 3 6 (off4 c).2 (off16 c).2 (off17 c).2 rfl (k0_pay12) rfl)) $$ HB S3
  iintro HB S3
  iapply (framed c (p1_move A B c 4) (P1 A B κ c 4 6 (off5 c).2 (off18 c).2 (off19 c).2 rfl (fun x y => k0_pay14 (k0_pay13 x y)) rfl)) $$ HB S4
  iintro HB S4
  iapply (framed c (p1_move A B c 5) (P1 A B κ c 5 6 (off6 c).2 (off20 c).2 (off21 c).2 rfl (k0_pay15) rfl)) $$ HB S5
  iintro HB S5
  icases HB with ⟨Hsh, Hbv⟩
  simp only [k0_part12_eq_skeleton, k0_part12_skel, k0_part13_eq_skeleton, k0_part13_skel, Prog.lift, Prog.bind_op, Prog.bind_ret, Prog.pure_eq_ret, semSignalWord, semWaitWord]
  iapply (framed c (p2_move A B c 0) (P2 A B κ c 0 6 7 rfl rfl (off9 c).1 (off22 c).1 (off24 c).1 (off25 c).1 (off23 c) (off26 c) rfl rfl rfl rfl (dev10 c) rfl rfl (k0_pay16) rfl (fun x y => k0_pay18 (k0_pay17 x y)) rfl)) $$ Hsh S0
  iintro Hsh S0
  simp only [k0_part14_eq_skeleton, k0_part14_skel, Prog.lift, Prog.bind_op, Prog.bind_ret, Prog.pure_eq_ret, semSignalWord, semWaitWord]
  iapply (framed c (p2_move A B c 1) (P2 A B κ c 1 7 8 rfl rfl (off12 c).1 (off27 c).1 (off29 c).1 (off30 c).1 (off28 c) (off31 c) rfl rfl rfl rfl (dev11 c) rfl rfl (fun x y => k0_pay20 (k0_pay19 x y)) rfl (k0_pay21) rfl)) $$ Hsh S1
  iintro Hsh S1
  simp only [k0_part15_eq_skeleton, k0_part15_skel, k0_part16_eq_skeleton, k0_part16_skel, Prog.lift, Prog.bind_op, Prog.bind_ret, Prog.pure_eq_ret, semSignalWord, semWaitWord]
  iapply (framed c (p2_move A B c 2) (P2 A B κ c 2 8 9 rfl rfl (off15 c).1 (off32 c).1 (off34 c).1 (off35 c).1 (off33 c) (off36 c) rfl rfl rfl rfl (dev12 c) rfl rfl (k0_pay22) rfl (k0_pay23) rfl)) $$ Hsh S2
  iintro Hsh S2
  simp only [k0_part17_eq_skeleton, k0_part17_skel, Prog.lift, Prog.bind_op, Prog.bind_ret, Prog.pure_eq_ret, semSignalWord, semWaitWord]
  iapply (framed c (p2_move A B c 3) (P2 A B κ c 3 9 10 rfl rfl (off9 c).2 (off22 c).2 (off24 c).2 (off25 c).2 (off37 c) (off38 c) rfl rfl rfl rfl (dev13 c) rfl rfl (k0_pay24) rfl (k0_pay25) rfl)) $$ Hsh S3
  iintro Hsh S3
  simp only [k0_part18_eq_skeleton, k0_part18_skel, k0_part19_eq_skeleton, k0_part19_skel, Prog.lift, Prog.bind_op, Prog.bind_ret, Prog.pure_eq_ret, semSignalWord, semWaitWord]
  iapply (framed c (p2_move A B c 4) (P2 A B κ c 4 10 11 rfl rfl (off12 c).2 (off27 c).2 (off29 c).2 (off30 c).2 (off39 c) (off40 c) rfl rfl rfl rfl (dev14 c) rfl rfl (k0_pay26) rfl (k0_pay27) rfl)) $$ Hsh S4
  iintro Hsh S4
  simp only [k0_part20_eq_skeleton, k0_part20_skel, k0_part21_eq_skeleton, k0_part21_skel, Prog.lift, Prog.bind_op, Prog.bind_ret, Prog.pure_eq_ret, semSignalWord, semWaitWord]
  iapply (framed c (p2_move A B c 5) (P2 A B κ c 5 11 12 rfl rfl (off15 c).2 (off32 c).2 (off34 c).2 (off35 c).2 (off41 c) (off42 c) rfl rfl rfl rfl (dev15 c) rfl rfl (k0_pay28) rfl (k0_pay29) rfl)) $$ Hsh S5
  iintro Hsh S5
  simp only [k0_part22_eq_skeleton, k0_part22_skel, Prog.lift, Prog.bind_op, Prog.bind_ret, Prog.pure_eq_ret, semSignalWord, semWaitWord]
  iapply (framed c (p3_move A B c 0) (P3 A B κ c 0 12 13 rfl rfl (off24 c).1 (off43 c).1 (off44 c).1 rfl rfl rfl rfl rfl (dev16 c) rfl rfl (k0_pay31) rfl (k0_pay32) rfl)) $$ Hsh S0
  iintro Hsh S0
  simp only [k0_part23_eq_skeleton, k0_part23_skel, Prog.lift, Prog.bind_op, Prog.bind_ret, Prog.pure_eq_ret, semSignalWord, semWaitWord]
  iapply (framed c (p3_move A B c 1) (P3 A B κ c 1 13 14 rfl rfl (off29 c).1 (off45 c).1 (off46 c).1 rfl rfl rfl rfl rfl (dev17 c) rfl rfl (k0_pay34) rfl (k0_pay35) rfl)) $$ Hsh S1
  iintro Hsh S1
  simp only [k0_part24_eq_skeleton, k0_part24_skel, k0_part25_eq_skeleton, k0_part25_skel, Prog.lift, Prog.bind_op, Prog.bind_ret, Prog.pure_eq_ret, semSignalWord, semWaitWord]
  iapply (framed c (p3_move A B c 2) (P3 A B κ c 2 14 15 rfl rfl (off34 c).1 (off47 c).1 (off48 c).1 rfl rfl rfl rfl rfl (dev18 c) rfl rfl (k0_pay37) rfl (k0_pay38) rfl)) $$ Hsh S2
  iintro Hsh S2
  simp only [k0_part26_eq_skeleton, k0_part26_skel, Prog.lift, Prog.bind_op, Prog.bind_ret, Prog.pure_eq_ret, semSignalWord, semWaitWord]
  iapply (framed c (p3_move A B c 3) (P3 A B κ c 3 15 16 rfl rfl (off24 c).2 (off43 c).2 (off44 c).2 rfl rfl rfl rfl rfl (dev19 c) rfl rfl (k0_pay40) rfl (fun x y => k0_pay42 (k0_pay41 x y)) rfl)) $$ Hsh S3
  iintro Hsh S3
  simp only [k0_part27_eq_skeleton, k0_part27_skel, Prog.lift, Prog.bind_op, Prog.bind_ret, Prog.pure_eq_ret, semSignalWord, semWaitWord]
  iapply (framed c (p3_move A B c 4) (P3 A B κ c 4 16 17 rfl rfl (off29 c).2 (off45 c).2 (off46 c).2 rfl rfl rfl rfl rfl (dev20 c) rfl rfl (k0_pay44) rfl (k0_pay45) rfl)) $$ Hsh S4
  iintro Hsh S4
  simp only [k0_part28_eq_skeleton, k0_part28_skel, Prog.lift, Prog.bind_op, Prog.bind_ret, Prog.pure_eq_ret, semSignalWord, semWaitWord]
  iapply (framed c (p3_move A B c 5) (P3 A B κ c 5 17 18 rfl rfl (off34 c).2 (off47 c).2 (off48 c).2 rfl rfl rfl rfl rfl (dev21 c) rfl rfl (k0_pay47) rfl (k0_pay48) rfl)) $$ Hsh S5
  iintro Hsh S5
  simp only [k0_part29_eq_skeleton, k0_part29_skel, k0_part30_eq_skeleton, k0_part30_skel, Prog.lift, Prog.bind_op, Prog.bind_ret, Prog.pure_eq_ret, semSignalWord, semWaitWord]
  iapply (framed c (p4_move A B c 0) (P4 A B κ c 0 18 19 rfl rfl (off44 c).1 (off43 c).1 (off44 c).1 rfl rfl rfl rfl rfl rfl (dev22 c) rfl k0_pay50 rfl k0_pay51 rfl)) $$ Hsh S0
  iintro Hsh S0
  simp only [k0_part31_eq_skeleton, k0_part31_skel, Prog.lift, Prog.bind_op, Prog.bind_ret, Prog.pure_eq_ret, semSignalWord, semWaitWord]
  iapply (framed c (p4_move A B c 1) (P4 A B κ c 1 19 20 rfl rfl (off46 c).1 (off45 c).1 (off46 c).1 rfl rfl rfl rfl rfl rfl (dev23 c) rfl k0_pay53 rfl k0_pay54 rfl)) $$ Hsh S1
  iintro Hsh S1
  simp only [k0_part32_eq_skeleton, k0_part32_skel, k0_part33_eq_skeleton, k0_part33_skel, Prog.lift, Prog.bind_op, Prog.bind_ret, Prog.pure_eq_ret, semSignalWord, semWaitWord]
  iapply (framed c (p4_move A B c 2) (P4 A B κ c 2 20 21 rfl rfl (off48 c).1 (off47 c).1 (off48 c).1 rfl rfl rfl rfl rfl rfl (dev24 c) rfl k0_pay56 rfl k0_pay57 rfl)) $$ Hsh S2
  iintro Hsh S2
  simp only [k0_part34_eq_skeleton, k0_part34_skel, Prog.lift, Prog.bind_op, Prog.bind_ret, Prog.pure_eq_ret, semSignalWord, semWaitWord]
  iapply (framed c (p4_move A B c 3) (P4 A B κ c 3 21 22 rfl rfl (off44 c).2 (off43 c).2 (off44 c).2 rfl rfl rfl rfl rfl rfl (dev25 c) rfl k0_pay59 rfl k0_pay60 rfl)) $$ Hsh S3
  iintro Hsh S3
  simp only [k0_part35_eq_skeleton, k0_part35_skel, k0_part36_eq_skeleton, k0_part36_skel, Prog.lift, Prog.bind_op, Prog.bind_ret, Prog.pure_eq_ret, semSignalWord, semWaitWord]
  iapply (framed c (p4_move A B c 4) (P4 A B κ c 4 22 23 rfl rfl (off46 c).2 (off45 c).2 (off46 c).2 rfl rfl rfl rfl rfl rfl (dev26 c) rfl k0_pay62 rfl k0_pay63 rfl)) $$ Hsh S4
  iintro Hsh S4
  simp only [k0_part37_eq_skeleton, k0_part37_skel, Prog.lift, Prog.bind_op, Prog.bind_ret, Prog.pure_eq_ret, semSignalWord, semWaitWord]
  iapply (framed c (p4_move A B c 5) (P4 A B κ c 5 23 24 rfl rfl (off48 c).2 (off47 c).2 (off48 c).2 rfl rfl rfl rfl rfl rfl (dev27 c) rfl k0_pay65 rfl k0_pay66 rfl)) $$ Hsh S5
  iintro Hsh S5
  simp only [k0_part38_eq_skeleton, k0_part38_skel, k0_part39_eq_skeleton, k0_part39_skel, Prog.lift, Prog.bind_op, Prog.bind_ret, Prog.pure_eq_ret, semSignalWord, semWaitWord]
  iapply (framed c (p5_move A B c 0) (P5 A B κ c 0 24 25 rfl rfl (off44 c).1 (off49 c).1 (off50 c).1 (off51 c).1 rfl rfl rfl rfl rfl (dev28 c) k0_pay67 rfl)) $$ Hsh S0
  iintro Hsh S0
  simp only [k0_part40_eq_skeleton, k0_part40_skel, Prog.lift, Prog.bind_op, Prog.bind_ret, Prog.pure_eq_ret, semSignalWord, semWaitWord]
  iapply (framed c (p5_move A B c 1) (P5 A B κ c 1 25 26 rfl rfl (off46 c).1 (off52 c).1 (off53 c).1 (off54 c).1 rfl rfl rfl rfl rfl (dev29 c) k0_pay68 rfl)) $$ Hsh S1
  iintro Hsh S1
  simp only [k0_part41_eq_skeleton, k0_part41_skel, Prog.lift, Prog.bind_op, Prog.bind_ret, Prog.pure_eq_ret, semSignalWord, semWaitWord]
  iapply (framed c (p5_move A B c 2) (P5 A B κ c 2 26 27 rfl rfl (off48 c).1 (off55 c).1 (off56 c).1 (off57 c).1 rfl rfl rfl rfl rfl (dev30 c) k0_pay69 rfl)) $$ Hsh S2
  iintro Hsh S2
  simp only [k0_part42_eq_skeleton, k0_part42_skel, Prog.lift, Prog.bind_op, Prog.bind_ret, Prog.pure_eq_ret, semSignalWord, semWaitWord]
  iapply (framed c (p5_move A B c 3) (P5 A B κ c 3 27 28 rfl rfl (off44 c).2 (off49 c).2 (off50 c).2 (off51 c).2 rfl rfl rfl rfl rfl (dev31 c) k0_pay70 rfl)) $$ Hsh S3
  iintro Hsh S3
  simp only [k0_part43_eq_skeleton, k0_part43_skel, Prog.lift, Prog.bind_op, Prog.bind_ret, Prog.pure_eq_ret, semSignalWord, semWaitWord]
  iapply (framed c (p5_move A B c 4) (P5 A B κ c 4 28 29 rfl rfl (off46 c).2 (off52 c).2 (off53 c).2 (off54 c).2 rfl rfl rfl rfl rfl (dev32 c) k0_pay71 rfl)) $$ Hsh S4
  iintro Hsh S4
  simp only [k0_part44_eq_skeleton, k0_part44_skel, k0_part45_eq_skeleton, k0_part45_skel, Prog.lift, Prog.bind_op, Prog.bind_ret, Prog.pure_eq_ret, semSignalWord, semWaitWord]
  iapply (framed c (p5_move A B c 5) (P5 A B κ c 5 29 30 rfl rfl (off48 c).2 (off55 c).2 (off56 c).2 (off57 c).2 rfl rfl rfl rfl rfl (dev33 c) k0_pay72 rfl)) $$ Hsh S5
  iintro Hsh S5
  iapply (framed c (p6_move A B c 0) (P6 A B κ c 0 30 rfl (off49 c).1 (off58 c).1 (off59 c).1 rfl rfl rfl k0_pay73 rfl)) $$ Hsh S0
  iintro Hsh S0
  simp only [k0_part46_eq_skeleton, k0_part46_skel, Prog.lift, Prog.bind_op, Prog.bind_ret, Prog.pure_eq_ret, semSignalWord, semWaitWord]
  iapply (framed c (p6_move A B c 1) (P6 A B κ c 1 30 rfl (off52 c).1 (off60 c).1 (off61 c).1 rfl rfl rfl k0_pay74 rfl)) $$ Hsh S1
  iintro Hsh S1
  simp only [k0_part47_eq_skeleton, k0_part47_skel, Prog.lift, Prog.bind_op, Prog.bind_ret, Prog.pure_eq_ret, semSignalWord, semWaitWord]
  iapply (framed c (p6_move A B c 2) (P6 A B κ c 2 30 rfl (off55 c).1 (off62 c).1 (off63 c).1 rfl rfl rfl k0_pay75 rfl)) $$ Hsh S2
  iintro Hsh S2
  simp only [k0_part48_eq_skeleton, k0_part48_skel, Prog.lift, Prog.bind_op, Prog.bind_ret, Prog.pure_eq_ret, semSignalWord, semWaitWord]
  iapply (framed c (p6_move A B c 3) (P6 A B κ c 3 30 rfl (off49 c).2 (off58 c).2 (off59 c).2 rfl rfl rfl (fun x => k0_pay77 (k0_pay76 x)) rfl)) $$ Hsh S3
  iintro Hsh S3
  iapply (framed c (p6_move A B c 4) (P6 A B κ c 4 30 rfl (off52 c).2 (off60 c).2 (off61 c).2 rfl rfl rfl k0_pay78 rfl)) $$ Hsh S4
  iintro Hsh S4
  simp only [k0_part49_eq_skeleton, k0_part49_skel, Prog.lift, Prog.bind_op, Prog.bind_ret, Prog.pure_eq_ret, semSignalWord, semWaitWord]
  iapply (framed c (p6_move A B c 5) (P6 A B κ c 5 30 rfl (off55 c).2 (off62 c).2 (off63 c).2 rfl rfl rfl k0_pay79 rfl)) $$ Hsh S5
  iintro Hsh S5
  simp only [k0_part50_eq_skeleton, k0_part50_skel, k0_part51_eq_skeleton, k0_part51_skel, Prog.lift, Prog.bind_op, Prog.bind_ret, Prog.pure_eq_ret, semSignalWord, semWaitWord]
  iapply (framed c (w0_move A B c 0) (waitQ A B κ c 0 0 (qk c 0) (Y3 A B c 0) (off44 c).1 rfl)) $$ Hsh S0
  iintro Hsh S0
  iapply (framed c (w0_move A B c 1) (waitQ A B κ c 1 0 (qk c 1) (Y3 A B c 1) (off46 c).1 rfl)) $$ Hsh S1
  iintro Hsh S1
  iapply (framed c (w0_move A B c 2) (waitQ A B κ c 2 0 (qk c 2) (Y3 A B c 2) (off48 c).1 rfl)) $$ Hsh S2
  iintro Hsh S2
  iapply (framed c (w0_move A B c 3) (waitQ A B κ c 3 0 (qk c 3) (Y3 A B c 3) (off44 c).2 rfl)) $$ Hsh S3
  iintro Hsh S3
  iapply (framed c (w0_move A B c 4) (waitQ A B κ c 4 0 (qk c 4) (Y3 A B c 4) (off46 c).2 rfl)) $$ Hsh S4
  iintro Hsh S4
  iapply (framed c (w0_move A B c 5) (waitQ A B κ c 5 0 (qk c 5) (Y3 A B c 5) (off48 c).2 rfl)) $$ Hsh S5
  iintro Hsh S5
  iapply (framed c (w1_move A B c 0) (waitQ A B κ c 0 1 (qs c 0) (Z3 A B c 0) (off51 c).1 rfl)) $$ Hsh S0
  iintro Hsh S0
  iapply (framed c (w1_move A B c 1) (waitQ A B κ c 1 1 (qs c 1) (Z3 A B c 1) (off54 c).1 rfl)) $$ Hsh S1
  iintro Hsh S1
  iapply (framed c (w1_move A B c 2) (waitQ A B κ c 2 1 (qs c 2) (Z3 A B c 2) (off57 c).1 rfl)) $$ Hsh S2
  iintro Hsh S2
  iapply (framed c (w1_move A B c 3) (waitQ A B κ c 3 1 (qs c 3) (Z3 A B c 3) (off51 c).2 rfl)) $$ Hsh S3
  iintro Hsh S3
  iapply (framed c (w1_move A B c 4) (waitQ A B κ c 4 1 (qs c 4) (Z3 A B c 4) (off54 c).2 rfl)) $$ Hsh S4
  iintro Hsh S4
  iapply (framed c (w1_move A B c 5) (waitQ A B κ c 5 1 (qs c 5) (Z3 A B c 5) (off57 c).2 rfl)) $$ Hsh S5
  iintro Hsh S5
  iapply (framed c (w2_move A B c 0) (waitH A B κ c 0 2 (hs c 0) (Z4 A B c 0) (off59 c).1 rfl)) $$ Hsh S0
  iintro Hsh S0
  iapply (framed c (w2_move A B c 1) (waitH A B κ c 1 2 (hs c 1) (Z4 A B c 1) (off61 c).1 rfl)) $$ Hsh S1
  iintro Hsh S1
  iapply (framed c (w2_move A B c 2) (waitH A B κ c 2 2 (hs c 2) (Z4 A B c 2) (off63 c).1 rfl)) $$ Hsh S2
  iintro Hsh S2
  iapply (framed c (w2_move A B c 3) (waitH A B κ c 3 2 (hs c 3) (Z4 A B c 3) (off59 c).2 rfl)) $$ Hsh S3
  iintro Hsh S3
  iapply (framed c (w2_move A B c 4) (waitH A B κ c 4 2 (hs c 4) (Z4 A B c 4) (off61 c).2 rfl)) $$ Hsh S4
  iintro Hsh S4
  iapply (framed c (w2_move A B c 5) (waitH A B κ c 5 2 (hs c 5) (Z4 A B c 5) (off63 c).2 rfl)) $$ Hsh S5
  iintro Hsh S5
  simp only [run, wp_ret]
  imodintro
  iapply Hk
  isplitl [Hsh]; · iexact Hsh
  isplitl [Hbv]; · iexact Hbv
  isplitl [Hbm]; · iexact Hbm
  isplitl [Hbs]; · iexact Hbs
  isplitl [Hbar]; · iexact Hbar
  rw [bigSep_six]
  iframe

end Body

end Cert.CubeProof

end
-- ==== Proof.Memory.lean ====
/-
  The buffers and counters of a device, taken apart by row group and put together again.
-/
module

public import proofs.«01_k».proof.Proof.Body

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's semaphores -/

/-- The kernel's own semaphores: of the exchanges, of the copies in of the left factor, of the copies out, and of the copy in of
    the right factor. -/
abbrev KSem : Type := (Bool × Fin 5 × Fin 6) ⊕ ((Fin 2 × Fin 6) ⊕ ((Fin 3 × Fin 6) ⊕ Unit))

def osem : KSem → SemLoc sig
  | .inl (b, s, g) => csem (some (b, s, g))
  | .inr (.inl (i, g)) => .dma (aS i g)
  | .inr (.inr (.inl (i, g))) => .dma (oS i g)
  | .inr (.inr (.inr ())) => .dma bS

/-- The counters that the kernel declares are the ones listed. -/
theorem ownSemFacts : Pipeline.OwnSemFacts cfg0.spec osem where
  isScoped := by decide +kernel
  inj := by decide +kernel
  disj := fun _ w => w.elim0

/-- A group's counters of the copies in and out, at zero. -/
def semG (c : Dev nD) (g : Fin 6) : sProp 𝕄 :=
  iprop((semVal ((c : Thread nD τ), .dma (aS 0 g)) 0 ∗ semVal ((c : Thread nD τ), .dma (aS 1 g)) 0)
    ∗ semVal ((c : Thread nD τ), .dma (oS 0 g)) 0 ∗ semVal ((c : Thread nD τ), .dma (oS 1 g)) 0 ∗ semVal ((c : Thread nD τ), .dma (oS 2 g)) 0)

/-- The order of two conjuncts does not matter. -/
theorem comm_eq (P Q : sProp 𝕄) : iprop(P ∗ Q) = iprop(Q ∗ P) := BI.equiv_iff.mp ⟨(Laws.sep_comm (P := P) (Q := Q)).1, (Laws.sep_comm (P := P) (Q := Q)).2⟩
/-- The bracketing of three conjuncts does not matter. -/
theorem assoc_eq (P Q R : sProp 𝕄) : iprop(P ∗ Q ∗ R) = iprop((P ∗ Q) ∗ R) :=
  BI.equiv_iff.mp ⟨(Laws.sep_assoc (P := P) (Q := Q) (R := R)).2, (Laws.sep_assoc (P := P) (Q := Q) (R := R)).1⟩

/-- A product over five exchanges. -/
theorem bigSep_five (Φ : Fin 5 → sProp 𝕄) : BI.bigSep Finset.univ Φ = iprop(Φ 0 ∗ Φ 1 ∗ Φ 2 ∗ Φ 3 ∗ Φ 4) := by
  rw [show (Finset.univ : Finset (Fin 5)) = insert 0 (insert 1 (insert 2 (insert 3 {4}))) from rfl, BI.bigSep_insert (by decide),
    BI.bigSep_insert (by decide), BI.bigSep_insert (by decide), BI.bigSep_insert (by decide), BI.bigSep_singleton]
  rfl

/-- A product over the exchanges' cells, by row group. -/
theorem bigSep_pairs (Φ : Bool × Fin 5 × Fin 6 → sProp 𝕄) :
    BI.bigSep Finset.univ Φ
      = BI.bigSep Finset.univ fun g : Fin 6 => BI.bigSep Finset.univ fun s : Fin 5 => iprop(Φ (false, s, g) ∗ Φ (true, s, g)) := by
  rw [BI.bigSep_univ_prod, show (Finset.univ : Finset Bool) = insert false {true} from by decide, BI.bigSep_insert (by decide), BI.bigSep_singleton]
  simp only [BI.bigSep_sep']
  rw [BI.bigSep_univ_prod, BI.bigSep_univ_prod, bigSep_swap, bigSep_swap (fun (s : Fin 5) (g : Fin 6) => Φ (true, s, g))]
  rfl

/-- A product over the cells: the barrier's part, and the rest by row group. -/
theorem bigSep_cells (Φ : Cell → sProp 𝕄) :
    BI.bigSep Finset.univ Φ
      = iprop(Φ none ∗ BI.bigSep Finset.univ fun g : Fin 6 => BI.bigSep Finset.univ fun s : Fin 5 => iprop(Φ (some (false, s, g)) ∗ Φ (some (true, s, g)))) := by
  rw [BI.bigSep_univ_equiv (Equiv.optionEquivSumPUnit (Bool × Fin 5 × Fin 6)).symm, BI.bigSep_univ_sum, bigSep_pairs]
  rw [show (Finset.univ : Finset PUnit.{1}) = {PUnit.unit} from rfl, BI.bigSep_singleton]
  exact comm_eq _ _

/-- The kernel's own counters, at zero, by kind. -/
theorem ownSems0_eq (c : Dev nD) : (Pipeline.ownSems0 (Ix := Unit) (Name := ℕ) (U := UU) (Lvl := ℕ) (Val := Elt F) (τ := τ) osem c : sProp 𝕄)
    = iprop((BI.bigSep Finset.univ fun g : Fin 6 => BI.bigSep Finset.univ fun s : Fin 5 => Done (F := F) c s g)
      ∗ (BI.bigSep Finset.univ fun g : Fin 6 => semG (F := F) c g) ∗ semVal ((c : Thread nD τ), .dma bS) 0) := by
  unfold Pipeline.ownSems0 semG Done
  rw [BI.bigSep_univ_sum, BI.bigSep_univ_sum, BI.bigSep_univ_sum, bigSep_pairs]
  rw [show (Finset.univ : Finset Unit) = {()} from rfl, BI.bigSep_singleton, BI.bigSep_univ_prod, BI.bigSep_univ_prod, BI.bigSep_fin_two, bigSep_three]
  simp only [BI.bigSep_sep']
  exact congrArg _ (assoc_eq _ _ _)

/-- The barrier counter is the one counter the launch does not count as the kernel's own. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-! ## The buffers, by row group -/

section Memory

variable (c : Dev nD)

/-- A buffer of 1536 rows is, group by group, the half kept and the half sent. -/
theorem anyH_blocks {sp : Space} {e : EltTy} (M : Memref sig .tc sp S1536x1536 e) :
    any (F := F) c M ⊣⊢ BI.bigSep Finset.univ fun g : Fin 6 => iprop(any (F := F) c (mH M (hk c g)) ∗ any (F := F) c (mH M (hs c g))) :=
  (any_rects c M rH (fun _ _ => rfl) rH_disj rH_cov).trans (bigSep_blocks c _)
/-- The same of a buffer shaped like the left factor. -/
theorem anyA_blocks {sp : Space} {e : EltTy} (M : Memref sig .tc sp S1536x768 e) :
    any (F := F) c M ⊣⊢ BI.bigSep Finset.univ fun g : Fin 6 => iprop(any (F := F) c (mA M (hk c g)) ∗ any (F := F) c (mA M (hs c g))) :=
  (any_rects c M rA (fun _ _ => rfl) rA_disj rA_cov).trans (bigSep_blocks c _)
/-- The left factor is, group by group, the rows of the half kept and of the half sent. -/
theorem ownA_blocks (A : Dev nD → S1536x768.Idx → Elt F .f32) :
    own c aM (A c) ⊣⊢ BI.bigSep Finset.univ fun g : Fin 6 => iprop(own c (mA aM (hk c g)) (aBlk A c (hk c g)) ∗ own c (mA aM (hs c g)) (aBlk A c (hs c g))) :=
  .trans ⟨owns_rects (c : Thread nD τ) aM fullShare rA (fun _ _ => rfl) rA_disj rA_cov (A c),
    owns_of_rects (c : Thread nD τ) aM fullShare rA (fun _ _ => rfl) rA_disj rA_cov (A c)⟩ (bigSep_blocks c (fun j => own c (mA aM j) (aBlk A c j)))
/-- Before the kernel, each group's blocks of the arrays and of the scratch buffers. -/
theorem groups_in (A : Dev nD → S1536x768.Idx → Elt F .f32) :
    iprop(own c aM (A c) ∗ any (F := F) c oM ∗ any (F := F) c avM ∗ any (F := F) c accM ∗ any (F := F) c mirM
      ∗ (BI.bigSep Finset.univ fun g : Fin 6 => semG (F := F) c g)
      ∗ BI.bigSep Finset.univ fun g : Fin 6 => BI.bigSep Finset.univ fun s : Fin 5 => Tk (F := F) c s g)
    ⊢ BI.bigSep Finset.univ fun g : Fin 6 => St0 A c g := by
  refine .trans (Laws.sep_mono (ownA_blocks c A).1 (Laws.sep_mono (anyH_blocks c oM).1 (Laws.sep_mono (anyA_blocks c avM).1
    (Laws.sep_mono (anyH_blocks c accM).1 (Laws.sep_mono (anyH_blocks c mirM).1 .rfl))))) ?_
  simp only [← BI.bigSep_sep']
  refine BI.bigSep_mono fun g _ => ?_
  unfold semG St0 startA
  rw [bigSep_five]
  change @BIBase.Entails (sProp 𝕄) _ _ _
  iintro ⟨⟨a0, a1⟩, ⟨o0, o1⟩, ⟨v0, v1⟩, ⟨c0, c1⟩, ⟨m0, m1⟩, ⟨⟨s0, s1⟩, s2, s3, s4⟩, t0, t1, t2, t3, t4⟩
  ihave o0 := (any_cut c g oM) $$ o0
  icases o0 with ⟨o0, o2⟩
  iframe

section Out

variable (A : Dev nD → S1536x768.Idx → Elt F .f32) (B : Dev nD → S768x1536.Idx → Elt F .f32)

/-- Block `j` of the result. -/
def oBlk (j : Fin 12) : S128x1536.Idx → Elt F .f32 :=
  if j = hk c ⟨j.val / 2, by omega⟩ then glue2 (b2 c ⟨j.val / 2, by omega⟩) (Y3 A B c ⟨j.val / 2, by omega⟩) (Z3 A B c ⟨j.val / 2, by omega⟩)
  else Z4 A B c ⟨j.val / 2, by omega⟩

/-- What the kernel leaves in the result. -/
def Out : S1536x1536.Idx → Elt F .f32 := fun i =>
  oBlk c A B ⟨(i 0).val / 128, by have := (i 0).isLt; change (i 0).val < 1536 at this; omega⟩
    (ValueIdx.ix2 (⟨(i 0).val % 128, Nat.mod_lt _ (by omega)⟩ : Fin 128) (i 1 : Fin 1536))

/-- The result on a block of 128 rows. -/
theorem Out_blk (j : Fin 12) : (fun i => Out c A B ((rH j).emb i)) = oBlk c A B j := by
  funext i
  have h0 : (i 0).val < 128 := (i 0).isLt
  have e0 : ((rH j).emb i 0).val = 128 * j.val + 1 * (i 0).val := rfl
  have e1 : ((rH j).emb i 1).val = 0 + 1 * (i 1).val := rfl
  unfold Out
  congr 1
  · congr 1
    show ((rH j).emb i 0).val / 128 = j.val
    rw [e0]; omega
  · funext a; fin_cases a
    · apply Fin.ext; show ((rH j).emb i 0).val % 128 = (i 0).val; rw [e0]; omega
    · apply Fin.ext; show ((rH j).emb i 1).val = (i 1).val; rw [e1]; omega

/-- The result on the half a device keeps. -/
theorem oBlk_hk (g : Fin 6) : oBlk c A B (hk c g) = glue2 (b2 c g) (Y3 A B c g) (Z3 A B c g) := by
  have h : ∀ h, (⟨(hk c g).val / 2, h⟩ : Fin 6) = g := by revert c g; decide +kernel
  unfold oBlk
  rw [h, if_pos rfl]
/-- The result on the half a device sends. -/
theorem oBlk_hs (g : Fin 6) : oBlk c A B (hs c g) = Z4 A B c g := by
  have h : ∀ h, (⟨(hs c g).val / 2, h⟩ : Fin 6) = g := by revert c g; decide +kernel
  have hn : hs c g ≠ hk c g := by revert c g; decide +kernel
  unfold oBlk
  rw [h, if_neg hn]

/-- The result is, group by group, the half kept and the half sent. -/
theorem ownO_blocks :
    own c oM (Out c A B) ⊣⊢ BI.bigSep Finset.univ fun g : Fin 6 =>
      iprop(own c (mH oM (hk c g)) (glue2 (b2 c g) (Y3 A B c g) (Z3 A B c g)) ∗ own c (mH oM (hs c g)) (Z4 A B c g)) := by
  have h : BI.bigSep Finset.univ (fun j => (own c (mH oM j) (fun i => Out c A B ((rH j).emb i)) : sProp 𝕄)) ⊣⊢ BI.bigSep Finset.univ fun g : Fin 6 =>
      iprop(own c (mH oM (hk c g)) (glue2 (b2 c g) (Y3 A B c g) (Z3 A B c g)) ∗ own c (mH oM (hs c g)) (Z4 A B c g)) := by
    rw [show (fun j => (own c (mH oM j) (fun i => Out c A B ((rH j).emb i)) : sProp 𝕄)) = fun j => own c (mH oM j) (oBlk c A B j) from
      funext fun j => congrArg (own c (mH oM j)) (Out_blk c A B j)]
    refine (bigSep_blocks c (fun j => own c (mH oM j) (oBlk c A B j))).trans ?_
    simp only [oBlk_hk, oBlk_hs]
    exact BiEntails.rfl
  exact .trans ⟨owns_rects (c : Thread nD τ) oM fullShare rH (fun _ _ => rfl) rH_disj rH_cov (Out c A B),
    owns_of_rects (c : Thread nD τ) oM fullShare rH (fun _ _ => rfl) rH_disj rH_cov (Out c A B)⟩ h

/-- After the kernel, the arrays and the scratch buffers whole again. -/
theorem groups_out :
    (BI.bigSep Finset.univ fun g : Fin 6 => St9 A B c g)
    ⊢ iprop(own c aM (A c) ∗ own c oM (Out c A B) ∗ any (F := F) c avM ∗ any (F := F) c accM ∗ any (F := F) c mirM
      ∗ any (F := F) c rs0M ∗ any (F := F) c rs1M ∗ any (F := F) c rs2M
      ∗ (BI.bigSep Finset.univ fun g : Fin 6 => semG (F := F) c g)
      ∗ BI.bigSep Finset.univ fun g : Fin 6 => BI.bigSep Finset.univ fun s : Fin 5 => Done (F := F) c s g) := by
  refine .trans ?_ (Laws.sep_mono (ownA_blocks c A).2 (Laws.sep_mono (ownO_blocks c A B).2 (Laws.sep_mono (anyA_blocks c avM).2
    (Laws.sep_mono (anyH_blocks c accM).2 (Laws.sep_mono (anyH_blocks c mirM).2 (Laws.sep_mono (any_slots0 c).2
    (Laws.sep_mono (any_slots1 c).2 (Laws.sep_mono (any_slots2 c).2 .rfl))))))))
  simp only [← BI.bigSep_sep']
  refine BI.bigSep_mono fun g _ => ?_
  rw [bigSep_five]
  unfold St9 endA semG
  change @BIBase.Entails (sProp 𝕄) _ _ _
  iintro ⟨⟨a1, v1, s0⟩, ⟨a0, v0, s1⟩, d0, l0, d1, l1, d2, l2, d3, d4, m0, m1, ⟨o0, c0, s2⟩, ⟨o2, c2, s3⟩, o1, c1, s4⟩
  ihave o0 := (owns_glue c oM (hk c g) (b2 c g) (qk c g) (qs c g) (qk_val c g) (qs_val c g) fullShare (Y3 A B c g) (Z3 A B c g)) $$ [o0 o2]
  · isplitl [o0] <;> iassumption
  ihave c0 := (any_intro c (mQ accM (qk c g)) _) $$ c0
  ihave c2 := (any_intro c (mQ accM (qs c g)) _) $$ c2
  ihave c1 := (any_intro c (mH accM (hs c g)) _) $$ c1
  ihave c0 := (any_glue c g accM) $$ [c0 c2]
  · isplitl [c0] <;> iassumption
  iframe

end Out

end Memory

end Cert.CubeProof

end
-- ==== Proof.Deal.lean ====
/-
  How the launch deals the cells, their tokens and the credit to the devices.
-/
module

public import proofs.«01_k».proof.Proof.Memory

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Dealing the cells out at launch -/

section Deal

variable (A : Dev nD → S1536x768.Idx → Elt F .f32) (B : Dev nD → S768x1536.Idx → Elt F .f32)

/-- The protocol's cells. -/
def cells : Finset (GSem nD τ sig) := Finset.univ.map ⟨kcell, kcell_injective⟩
/-- A cell's token of each axis. -/
abbrev tokOf (x : (Dev nD × Cell) × Fin 3) : GSem nD τ sig × ℕ × Fin 3 := (kcell x.1, 0, x.2)
/-- Different duties have different tokens. -/
theorem tokOf_injective : Function.Injective tokOf := fun a b h =>
  Prod.ext (kcell_injective (congrArg Prod.fst h)) (congrArg (fun x : GSem nD τ sig × ℕ × Fin 3 => x.2.2) h)
/-- The tokens made at launch: one per cell and axis (a transfer cell uses the first one). -/
def toks : Finset (GSem nD τ sig × ℕ × Fin 3) := Finset.univ.map ⟨tokOf, tokOf_injective⟩

/-- What the launch makes for device `c`'s cells. -/
def G (c : Dev nD) : sProp 𝕄 :=
  iprop((BI.bigSep Finset.univ fun k : Cell => roundState ER (Rd A B) (kcell (c, k)) 0)
    ∗ (BI.bigSep Finset.univ fun k : Cell => iprop(atPos ER (kcell (c, k)) 0 ∅ 0 ∗ reached ER (kcell (c, k)) 0))
    ∗ BI.bigSep Finset.univ fun k : Cell => BI.bigSep Finset.univ fun d : Fin 3 => dutyTok ER (kcell (c, k)) 0 d)

/-- The launch element makes every device's part. -/
theorem fund_cells : BI.own (ER (initOf cells toks)) ⊢ (|==> BI.bigSep Finset.univ (G A B) : sProp 𝕄) := by
  have hX (Φ : GSem nD τ sig → sProp 𝕄) : BI.bigSep cells Φ = BI.bigSep Finset.univ fun c : Dev nD => BI.bigSep Finset.univ fun k : Cell => Φ (kcell (c, k)) := by
    unfold cells; rw [bigSep_map, BI.bigSep_univ_prod]; rfl
  have hT : BI.bigSep toks (fun x => (dutyTok ER x.1 x.2.1 x.2.2 : sProp 𝕄))
      = BI.bigSep Finset.univ fun c : Dev nD => BI.bigSep Finset.univ fun k : Cell => BI.bigSep Finset.univ fun d : Fin 3 => dutyTok ER (kcell (c, k)) 0 d := by
    unfold toks; rw [bigSep_map, BI.bigSep_univ_prod, BI.bigSep_univ_prod]; rfl
  iintro HX
  imod (Rounds.fund ER (Rd A B) cells toks) $$ HX with ⟨Hst, Hr, Hat, Htok⟩
  imodintro
  ihave Hst := (BIBase.Entails.of_eq (hX fun g => roundState ER (Rd A B) g 0)) $$ Hst
  ihave Hat := (BIBase.Entails.of_eq (hX fun g => atPos ER g 0 ∅ 0)) $$ Hat
  ihave Hr := (BIBase.Entails.of_eq (hX fun g => reached ER g 0)) $$ Hr
  ihave Htok := (BIBase.Entails.of_eq hT) $$ Htok
  unfold G; simp only [BI.bigSep_sep']
  isplitl [Hst]; · iexact Hst
  isplitl [Hat Hr]
  · isplitl [Hat] <;> iassumption
  iexact Htok

/-- Device `c`'s counters of the local copies, at zero. -/
def locals (c : Dev nD) : sProp 𝕄 :=
  iprop((BI.bigSep Finset.univ fun g : Fin 6 => semG (F := F) c g) ∗ semVal ((c : Thread nD τ), .dma bS) 0)

/-- The counters, all at zero: the cells' and the local copies'. -/
theorem counters_split (c : Dev nD) :
    iprop(Pipeline.ownSems0 (Ix := Unit) (Name := ℕ) (U := UU) (Lvl := ℕ) (Val := Elt F) (τ := τ) osem c ∗ unscopedSems0 c)
      ⊢ (iprop((BI.bigSep Finset.univ fun k : Cell => semVal (kcell (c, k)) 0) ∗ locals (F := F) c) : sProp 𝕄) := by
  rw [ownSems0_eq, unscopedSems0_eq, bigSep_cells]
  unfold locals Done
  iintro ⟨⟨H, Hg, Hb⟩, HB⟩
  isplitl [H HB]
  · isplitl [HB]; · iexact HB
    iexact H
  isplitl [Hg] <;> iassumption

/-- Device `c`'s cells' invariants, allocated. -/
theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((BI.bigSep Finset.univ fun k : Cell => iprop(∃ κ : ℕ, cellInv ER (Rd A B) κ (kcell (c, k))))
          ∗ (BI.bigSep Finset.univ fun k : Cell => iprop(atPos ER (kcell (c, k)) 0 ∅ 0 ∗ reached ER (kcell (c, k)) 0))
          ∗ (BI.bigSep Finset.univ fun k : Cell => BI.bigSep Finset.univ fun d : Fin 3 => dutyTok ER (kcell (c, k)) 0 d)
          ∗ locals (F := F) c) := by
  unfold G
  iintro ⟨Hos, Hus, Hst, Hat, Htok⟩
  ihave Hv := (counters_split (F := F) c) $$ [Hos Hus]
  · isplitl [Hos] <;> iassumption
  icases Hv with ⟨Hv, Hl⟩
  imod (show iprop((BI.bigSep Finset.univ fun k : Cell => semVal (kcell (c, k)) 0) ∗ BI.bigSep Finset.univ fun k : Cell => roundState ER (Rd A B) (kcell (c, k)) 0)
      ⊢ (|={Set.univ}=> BI.bigSep Finset.univ fun k : Cell => iprop(∃ κ : ℕ, cellInv ER (Rd A B) κ (kcell (c, k))) : sProp 𝕄) from by
        rw [← BI.bigSep_sep']
        exact (BI.bigSep_mono fun k _ => (Rounds.body_intro ER (Rd A B) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-! ## The tokens go to the devices that pay -/

/-- The tokens device `c` pays with: at its neighbours' barriers, -/
def payBar (c : Dev nD) : sProp 𝕄 := BI.bigSep Finset.univ fun d : Fin 3 => dutyTok ER (barCell (nbr d c)) 0 d
/-- and for its exchanges. -/
def payX (c : Dev nD) : sProp 𝕄 := BI.bigSep Finset.univ fun g : Fin 6 => BI.bigSep Finset.univ fun s : Fin 5 =>
  iprop(dutyTok ER (sendCell c s g) 0 (0 : Fin 3) ∗ dutyTok ER (recvCell (peer s g c) s g) 0 (0 : Fin 3))

/-- A product over the devices and something else, each device's factor moved across an axis. -/
theorem move_across {I : Type} [Fintype I] (a : I → Fin 3) (Φ : Dev nD → I → sProp 𝕄) :
    (BI.bigSep Finset.univ fun c => BI.bigSep Finset.univ fun i => Φ c i) = BI.bigSep Finset.univ fun c => BI.bigSep Finset.univ fun i => Φ (nbr (a i) c) i := by
  rw [bigSep_swap, bigSep_swap (fun c i => Φ (nbr (a i) c) i)]
  exact BI.bigSep_congr fun i _ => BI.bigSep_univ_equiv (across (a i)) fun c => Φ c i

/-- The barrier's tokens. -/
theorem bars_around :
    (BI.bigSep Finset.univ fun c : Dev nD => BI.bigSep Finset.univ fun d : Fin 3 => (dutyTok ER (barCell c) 0 d : sProp 𝕄))
      = BI.bigSep Finset.univ fun c : Dev nD => payBar (F := F) c :=
  move_across (fun d => d) fun c d => dutyTok ER (barCell c) 0 d

/-- The landing tokens. -/
theorem lands_around :
    (BI.bigSep Finset.univ fun c : Dev nD => BI.bigSep Finset.univ fun g : Fin 6 => BI.bigSep Finset.univ fun s : Fin 5 => (dutyTok ER (recvCell c s g) 0 (0 : Fin 3) : sProp 𝕄))
      = BI.bigSep Finset.univ fun c : Dev nD => BI.bigSep Finset.univ fun g : Fin 6 => BI.bigSep Finset.univ fun s : Fin 5 => dutyTok ER (recvCell (peer s g c) s g) 0 (0 : Fin 3) := by
  have h (Φ : Dev nD → Fin 6 × Fin 5 → sProp 𝕄) : (BI.bigSep Finset.univ fun c => BI.bigSep Finset.univ fun p => Φ c p)
      = BI.bigSep Finset.univ fun c : Dev nD => BI.bigSep Finset.univ fun g : Fin 6 => BI.bigSep Finset.univ fun s : Fin 5 => Φ c (g, s) :=
    BI.bigSep_congr fun c _ => BI.bigSep_univ_prod _
  have e := move_across (fun p : Fin 6 × Fin 5 => axis p.2 p.1) fun c p => (dutyTok ER (recvCell c p.2 p.1) 0 (0 : Fin 3) : sProp 𝕄)
  rw [h, h (fun c p => dutyTok ER (recvCell (nbr (axis p.2 p.1) c) p.2 p.1) 0 (0 : Fin 3))] at e
  exact e

/-- All tokens. -/
theorem toks_around :
    (BI.bigSep Finset.univ fun c : Dev nD => BI.bigSep Finset.univ fun k : Cell => BI.bigSep Finset.univ fun d : Fin 3 => (dutyTok ER (kcell (c, k)) 0 d : sProp 𝕄))
      ⊢ BI.bigSep Finset.univ fun c : Dev nD => iprop(payBar (F := F) c ∗ payX (F := F) c) := by
  rw [BI.bigSep_congr fun (c : Dev nD) _ => bigSep_cells fun k : Cell => BI.bigSep Finset.univ fun d : Fin 3 => (dutyTok ER (kcell (c, k)) 0 d : sProp 𝕄)]
  rw [BI.bigSep_sep', BI.bigSep_sep']
  refine Laws.sep_mono (BIBase.Entails.of_eq bars_around) ?_
  unfold payX
  have hp (c : Dev nD) (g : Fin 6) (s : Fin 5) :
      iprop((BI.bigSep Finset.univ fun d : Fin 3 => (dutyTok ER (sendCell c s g) 0 d : sProp 𝕄)) ∗ BI.bigSep Finset.univ fun d : Fin 3 => dutyTok ER (recvCell c s g) 0 d)
        ⊢ iprop(dutyTok ER (sendCell c s g) 0 (0 : Fin 3) ∗ dutyTok ER (recvCell c s g) 0 (0 : Fin 3)) :=
    Laws.sep_mono (BI.bigSep_elim (Finset.mem_univ (0 : Fin 3))) (BI.bigSep_elim (Finset.mem_univ (0 : Fin 3)))
  refine .trans (BI.bigSep_mono fun c _ => BI.bigSep_mono fun g _ => BI.bigSep_mono fun s _ => hp c g s) ?_
  simp only [BI.bigSep_sep']
  exact Laws.sep_mono .rfl (BIBase.Entails.of_eq lands_around)

/-- What stays with device `c`. -/
def linear (c : Dev nD) : sProp 𝕄 :=
  iprop((BI.bigSep Finset.univ fun k : Cell => atPos ER (kcell (c, k)) 0 ∅ 0) ∗ iprop(payBar (F := F) c ∗ payX (F := F) c) ∗ locals (F := F) c)
/-- What device `c` has once the cells are dealt out. -/
def G' (c : Dev nD) : sProp 𝕄 := iprop(∃ κ, records A B κ ∗ linear (F := F) c)

/-- Every device gets a copy of what can be copied. -/
theorem with_copies {I : Type} [DecidableEq I] {S : Finset I} {R : sProp 𝕄} [BI.Persistent R] {Φ Ψ : I → sProp 𝕄}
    (h : ∀ i ∈ S, iprop(R ∗ Φ i) ⊢ Ψ i) : iprop(R ∗ BI.bigSep S Φ) ⊢ BI.bigSep S Ψ :=
  (sep_mono_left (BI.bigSep_of_persistent S R)).trans (by rw [← BI.bigSep_sep']; exact BI.bigSep_mono h)

/-- The devices' positions in the rounds, their duties and their own counters, joined device by device. -/
theorem linear_intro :
    iprop((BI.bigSep Finset.univ fun c : Dev nD => BI.bigSep Finset.univ fun k : Cell => (atPos ER (kcell (c, k)) 0 ∅ 0 : sProp 𝕄))
      ∗ (BI.bigSep Finset.univ fun c : Dev nD => iprop(payBar (F := F) c ∗ payX (F := F) c)) ∗ BI.bigSep Finset.univ fun c : Dev nD => locals (F := F) c)
    ⊢ BI.bigSep Finset.univ fun c : Dev nD => linear (F := F) c := by
  unfold linear
  rw [← BI.bigSep_sep', ← BI.bigSep_sep']

/-- The launch's shares, dealt to the devices. -/
theorem regroup :
    (BI.bigSep Finset.univ fun c : Dev nD => iprop((BI.bigSep Finset.univ fun k : Cell => iprop(∃ κ : ℕ, cellInv ER (Rd A B) κ (kcell (c, k))))
          ∗ (BI.bigSep Finset.univ fun k : Cell => iprop(atPos ER (kcell (c, k)) 0 ∅ 0 ∗ reached ER (kcell (c, k)) 0))
          ∗ (BI.bigSep Finset.univ fun k : Cell => BI.bigSep Finset.univ fun d : Fin 3 => dutyTok ER (kcell (c, k)) 0 d)
          ∗ locals (F := F) c) : sProp 𝕄)
      ⊢ BI.bigSep Finset.univ (G' A B) := by
  rw [BI.bigSep_sep', BI.bigSep_sep', BI.bigSep_sep', ← BI.bigSep_univ_prod (fun ck : Dev nD × Cell => iprop(∃ κ : ℕ, cellInv ER (Rd A B) κ (kcell ck))),
    BI.bigSep_congr (s := Finset.univ) (fun (c : Dev nD) _ => BI.bigSep_sep' Finset.univ (fun k : Cell => (atPos ER (kcell (c, k)) 0 ∅ 0 : sProp 𝕄)) (fun k => reached ER (kcell (c, k)) 0)),
    BI.bigSep_sep', ← BI.bigSep_univ_prod (fun ck : Dev nD × Cell => (reached ER (kcell ck) 0 : sProp 𝕄))]
  iintro ⟨HI, ⟨Hat, #HR⟩, Htok, Hloc⟩
  ihave HK := (BI.bigSep_exists_pi Finset.univ (fun (ck : Dev nD × Cell) (κ : ℕ) => (cellInv ER (Rd A B) κ (kcell ck) : sProp 𝕄))) $$ HI
  icases HK with ⟨%κ, #HI⟩
  ihave Htk := (toks_around (F := F)) $$ Htok
  ihave Hlin := (linear_intro (F := F)) $$ [Hat Htk Hloc]
  · isplitl [Hat]; · iexact Hat
    isplitl [Htk] <;> iassumption
  iapply (with_copies (R := records A B κ) (Φ := fun c => linear (F := F) c) fun c _ => by
    unfold G'; iintro ⟨H1, H2⟩; iexists κ; isplitl [H1] <;> iassumption)
  isplitr [Hlin]
  · unfold records
    rw [BI.bigSep_sep']
    isplitr; · iexact HI
    iexact HR
  iexact Hlin

/-- The step all devices take together at launch. -/
theorem glob : (BI.bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> BI.bigSep Finset.univ (G' A B) :=
  ((BI.bigSep_mono fun c _ => core_alloc A B c).trans (bigSep_fupd _ _)).trans (BI.fupd_mono (regroup A B))

end Deal

/-! ## The credit each device has at launch -/

section Credit

/-- What is owed to one cell, read at another. -/
theorem tally_k (x y : Dev nD × Cell) (n : ℕ) : (tallyAt (kcell x) () n : CellTallies nD τ sig Unit) (kcell y) () = if y = x then n else 0 := by
  rw [tallyAt_apply]
  by_cases h : y = x
  · rw [h, if_pos ⟨rfl, rfl⟩, if_pos rfl]
  · rw [if_neg (fun h' => h (kcell_injective h'.1)), if_neg h]

/-- What all devices together owe one cell, each owing its own across an axis. -/
theorem sum_k (a : Fin 3) (k k' : Cell) (c : Dev nD) (n : ℕ) :
    ∑ d : Dev nD, (tallyAt (kcell (nbr a d, k)) () n : CellTallies nD τ sig Unit) (kcell (c, k')) () = if k' = k then n else 0 := by
  simp only [tally_k]
  by_cases h : k' = k
  · subst h
    rw [if_pos rfl, Finset.sum_eq_single (nbr a c)]
    · rw [nbr_nbr, if_pos rfl]
    · intro d _ hd
      rw [if_neg]
      intro h'
      exact hd (by rw [show c = nbr a d from congrArg Prod.fst h', nbr_nbr])
    · exact fun h => absurd (Finset.mem_univ _) h
  · rw [if_neg h]
    exact Finset.sum_eq_zero fun d _ => if_neg fun h' => h (congrArg Prod.snd h')

/-- What the sends of all the devices owe a cell: one landing, where the cell is a receive counter. -/
theorem sum_Oat (k : Cell) (c : Dev nD) :
    ∑ d : Dev nD, Oat d 0 (kcell (c, k)) () = ∑ p : Fin 5 × Fin 6, if k = some (true, p.1, p.2) then amt p.1 else 0 := by
  have h0 : rem 0 = Finset.univ := by decide +kernel
  have h (d : Dev nD) : Oat d 0 (kcell (c, k)) () = ∑ p : Fin 5 × Fin 6, (tallyAt (kcell (nbr (axis p.1 p.2) d, some (true, p.1, p.2))) () (amt p.1) : CellTallies nD τ sig Unit) (kcell (c, k)) () := by
    unfold Oat
    rw [h0, Finset.sum_apply, Finsupp.finsetSum_apply]
    rfl
  rw [Finset.sum_congr rfl fun d _ => h d, Finset.sum_comm]
  exact Finset.sum_congr rfl fun p _ => sum_k _ _ _ _ _

/-- What all devices together owe one cell at launch. -/
theorem sum_Olaunch (k : Cell) (c : Dev nD) :
    ∑ d : Dev nD, Olaunch d (kcell (c, k)) () = (∑ p : Fin 5 × Fin 6, if k = some (true, p.1, p.2) then amt p.1 else 0) + (if k = none then 3 else 0) := by
  have h (d : Dev nD) : Olaunch d (kcell (c, k)) () = Oat d 0 (kcell (c, k)) () + (tallyAt (kcell (nbr 2 d, none)) () 1 : CellTallies nD τ sig Unit) (kcell (c, k)) ()
      + (tallyAt (kcell (nbr 1 d, none)) () 1 : CellTallies nD τ sig Unit) (kcell (c, k)) () + (tallyAt (kcell (nbr 0 d, none)) () 1 : CellTallies nD τ sig Unit) (kcell (c, k)) () := rfl
  rw [Finset.sum_congr rfl fun d _ => h d, Finset.sum_add_distrib, Finset.sum_add_distrib, Finset.sum_add_distrib, sum_k, sum_k, sum_k, sum_Oat]
  by_cases hk : k = none
  · simp only [if_pos hk]
  · simp only [if_neg hk]

/-- The launch credits a cell with all that the devices owe it. -/
theorem launch_k (k : Cell) (c : Dev nD) (n : ℕ) (h : (∑ p : Fin 5 × Fin 6, if k = some (true, p.1, p.2) then amt p.1 else 0) + (if k = none then 3 else 0) = n) :
    tallyOn (kcell (c, k)) (launchCredit (Pipeline.owing Olaunch) 0 (kcell (c, k))) = (tallyAt (kcell (c, k)) () n : CellTallies nD τ sig Unit) := by
  unfold tallyAt; refine congrArg _ (Finsupp.ext fun u => ?_); cases u
  rw [Pipeline.launchCredit_owing, Finsupp.single_eq_same, sum_Olaunch, h]

/-- The barrier cell is owed three units. -/
theorem launch_bar (c : Dev nD) :
    tallyOn (kcell (c, none)) (launchCredit (Pipeline.owing Olaunch) 0 (kcell (c, none))) = (tallyAt (barCell c) () 3 : CellTallies nD τ sig Unit) :=
  launch_k none c 3 (by
    rw [if_pos rfl, Finset.sum_eq_zero fun p _ => if_neg (by simp)])
/-- A receive cell is owed one landing. -/
theorem launch_recv (c : Dev nD) (s : Fin 5) (g : Fin 6) :
    tallyOn (kcell (c, some (true, s, g))) (launchCredit (Pipeline.owing Olaunch) 0 (kcell (c, some (true, s, g)))) = (tallyAt (recvCell c s g) () (amt s) : CellTallies nD τ sig Unit) :=
  launch_k (some (true, s, g)) c (amt s) (by
    rw [if_neg (by simp), Nat.add_zero, Finset.sum_eq_single (s, g)]
    · rw [if_pos rfl]
    · intro p _ hp
      rw [if_neg]
      intro h
      simp only [Option.some.injEq, Prod.mk.injEq, true_and] at h
      exact hp (Prod.ext h.1.symm h.2.symm)
    · exact fun h => absurd (Finset.mem_univ _) h)

/-- The credit device `c` has at launch: three at its barrier, and each exchange's landing. -/
theorem creds (c : Dev nD) :
    (Pipeline.launchCred Olaunch c : sProp 𝕄) ⊢ iprop(cred (tallyAt (barCell c) () 3)
      ∗ BI.bigSep Finset.univ fun g : Fin 6 => BI.bigSep Finset.univ fun s : Fin 5 => cred (tallyAt (recvCell c s g) () (amt s))) := by
  unfold Pipeline.launchCred
  refine (BI.bigSep_subset (Finset.subset_univ (Finset.univ.map ⟨csem, csem_injective⟩))).trans ?_
  rw [bigSep_map, bigSep_cells]
  refine Laws.sep_mono (BIBase.Entails.of_eq (congrArg cred (launch_bar c))) ?_
  refine BI.bigSep_mono fun g _ => BI.bigSep_mono fun s _ => ?_
  rw [← launch_recv]
  change @BIBase.Entails (sProp 𝕄) _ _ _
  iintro ⟨-, H⟩
  iexact H
end Credit

end Cert.CubeProof

end
-- ==== Proof.Launch.lean ====
/-
  The launch, and what every run of the eight devices ends in.
-/
module

public import proofs.«01_k».proof.Proof.Deal
public import proofs.«01_k».proof.Proof.Body
public import Idealize.ShloMosaic.Lib.Pipeline.CollectiveSegs

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## From the launch to the body's start, and from its end to the exit -/

section Ends

variable (A : Dev nD → S1536x768.Idx → Elt F .f32) (B : Dev nD → S768x1536.Idx → Elt F .f32) (κ : Dev nD × Cell → ℕ)
variable (c : Dev nD)

/-- The scratch buffers, whatever they hold. -/
theorem scratch_eq : (Pipeline.scopedRest (Ix := Unit) (Name := ℕ) (U := UU) (Lvl := ℕ) (Val := Elt F) cfg0.spec c : sProp 𝕄)
    = iprop(any (F := F) c avM ∗ any (F := F) c bvM ∗ any (F := F) c accM ∗ any (F := F) c mirM ∗ any (F := F) c rs0M ∗ any (F := F) c rs1M ∗ any (F := F) c rs2M) := by
  rw [scopedRest0_eq]
  unfold any own
  simp only [owns_whole]
  rfl

/-- The credit device `c` has at launch. -/
def crX : sProp 𝕄 := iprop(cred (tallyAt (barCell c) () 3)
  ∗ BI.bigSep Finset.univ fun g : Fin 6 => BI.bigSep Finset.univ fun s : Fin 5 => cred (tallyAt (recvCell c s g) () (amt s)))

/-- What device `c` has at launch, the scratch buffers apart. -/
def X : sProp 𝕄 := iprop(G' A B c ∗ levAts L lv ∗ crX (F := F) c ∗ own c aM (A c) ∗ own c bM (B c) ∗ any (F := F) c oM)

/-- What it has at the exit. -/
def Φ₁ : sProp 𝕄 := iprop(iprop(own c aM (A c) ∗ own c bM (B c) ∗ own c oM (Out c A B)) ∗ unscopedSems0 c
  ∗ Pipeline.ownSems0 (Ix := Unit) (Name := ℕ) (U := UU) (Lvl := ℕ) (Val := Elt F) (τ := τ) osem c ∗ Pipeline.scopedRest cfg0.spec c)

/-- Every exchange's pieces put together. -/
theorem tks_intro :
    iprop((BI.bigSep Finset.univ fun g : Fin 6 => BI.bigSep Finset.univ fun s : Fin 5 => (iprop(atPos ER (sendCell c s g) 0 ∅ 0 ∗ atPos ER (recvCell c s g) 0 ∅ 0) : sProp 𝕄))
      ∗ payX (F := F) c ∗ BI.bigSep Finset.univ fun g : Fin 6 => BI.bigSep Finset.univ fun s : Fin 5 => cred (tallyAt (recvCell c s g) () (amt s)))
    ⊢ BI.bigSep Finset.univ fun g : Fin 6 => BI.bigSep Finset.univ fun s : Fin 5 => Tk (F := F) c s g := by
  unfold payX
  simp only [← BI.bigSep_sep']
  refine BI.bigSep_mono fun g _ => BI.bigSep_mono fun s _ => ?_
  unfold Tk
  change @BIBase.Entails (sProp 𝕄) _ _ _
  iintro ⟨⟨h1, h2⟩, ⟨h3, h4⟩, h5⟩
  iframe

/-- What the body starts from. -/
theorem start_intro :
    iprop(iprop(records A B κ ∗ linear (F := F) c) ∗ levAts L lv ∗ crX (F := F) c ∗ own c aM (A c) ∗ own c bM (B c) ∗ any (F := F) c oM
      ∗ iprop(any (F := F) c avM ∗ any (F := F) c bvM ∗ any (F := F) c accM ∗ any (F := F) c mirM ∗ any (F := F) c rs0M ∗ any (F := F) c rs1M ∗ any (F := F) c rs2M)
      ∗ iprop(∃ W, owes (c : Thread nD τ) (Olaunch c) W))
    ⊢ Start A B κ c := by
  unfold Start linear payBar locals crX
  rw [bigSep_cells, bigSep_three (fun d => dutyTok ER (barCell (nbr d c)) 0 d)]
  iintro ⟨⟨Hr, ⟨Hbar, Hat⟩, ⟨Hpb, Hpx⟩, Hg, Hbs⟩, Hl, ⟨Hcb, Hcx⟩, Ha, Hb, Ho, ⟨Hav, Hbv, Hacc, Hmir, H0, H1, H2⟩, HW⟩
  isplitl [Hr]; · iexact Hr
  isplitl [Hl]; · iexact Hl
  isplitl [HW]; · iexact HW
  isplitl [Hpb]; · iexact Hpb
  isplitl [Hbar Hcb]
  · isplitl [Hbar]; · iexact Hbar
    iexact Hcb
  isplitl [H0 H1 H2]
  · ihave H := (slots_axes (F := F) c) $$ [H0 H1 H2]
    · isplitl [H0]; · iexact H0
      isplitl [H1] <;> iassumption
    ihave H := (BIBase.Entails.of_eq (bigSep_three fun a => ownS (F := F) c a)) $$ H
    iexact H
  isplitl [Hb Hbv Hbs]
  · isplitl [Hb]; · iexact Hb
    isplitl [Hbv] <;> iassumption
  ihave Ht := (tks_intro (F := F) c) $$ [Hat Hpx Hcx]
  · isplitl [Hat]; · iexact Hat
    isplitl [Hpx] <;> iassumption
  iapply (groups_in c A)
  isplitl [Ha]; · iexact Ha
  isplitl [Ho]; · iexact Ho
  isplitl [Hav]; · iexact Hav
  isplitl [Hacc]; · iexact Hacc
  isplitl [Hmir]; · iexact Hmir
  isplitl [Hg] <;> iassumption

/-- What the body ends with. -/
theorem end_elim : End A B κ c ⊢ iprop(Φ₁ A B c ∗ ∃ W, owes (c : Thread nD τ) 0 W) := by
  unfold End Φ₁ Sh owesX
  rw [ownSems0_eq, unscopedSems0_eq, scratch_eq, Oat_end]
  iintro ⟨⟨-, -, HW⟩, Hbv, Hb, Hbs, Hbar, HS⟩
  ihave HS := (groups_out c A B) $$ HS
  icases HS with ⟨Ha, Ho, Hav, Hacc, Hmir, H0, H1, H2, Hg, Hd⟩
  ihave Hbv := (any_intro c bvM _) $$ Hbv
  isplitr [HW]
  · isplitl [Ha Hb Ho]
    · isplitl [Ha]; · iexact Ha
      isplitl [Hb] <;> iassumption
    isplitl [Hbar]; · iexact Hbar
    isplitl [Hd Hg Hbs]
    · isplitl [Hd]; · iexact Hd
      isplitl [Hg] <;> iassumption
    iframe
  iexact HW

end Ends

/-! ## The launch -/

section Launch

variable (m : (ℓ : Loc nD τ sig) → Buf (Elt F) ℓ) (ρ : Dev nD → PrngReg)

/-- What each device's block of the left factor holds at launch, and of the right. -/
def inA (c : Dev nD) : S1536x768.Idx → Elt F .f32 := m ((c : Thread nD τ).loc main_arg0)
def inB (c : Dev nD) : S768x1536.Idx → Elt F .f32 := m ((c : Thread nD τ).loc main_arg1)

/-- The one point's start and end. -/
def dats (_ : Fin 1) (c : Dev nD) : Pipeline.Dat τ (Elt F) Unit ℕ UU ℕ cfg0 c where
  A w := w.elim0
  after w _ := w.elim0
  Φ t := match t with
    | ⟨0, _⟩ => iprop(X (inA m) (inB m) c ∗ Pipeline.scopedRest cfg0.spec c)
    | ⟨_ + 1, _⟩ => Φ₁ (inA m) (inB m) c
  q _ := fullShare
  owed t := match t with
    | ⟨0, _⟩ => Olaunch c
    | ⟨_ + 1, _⟩ => 0

/-- A conjunction over none is empty. -/
theorem bigSep_none (Φ : Fin 0 → sProp 𝕄) : BI.bigSep Finset.univ Φ = (BI.emp : sProp 𝕄) := by
  rw [show (Finset.univ : Finset (Fin 0)) = ∅ from rfl, BI.bigSep_empty]

set_option maxRecDepth 20000 in
/-- The body at its one point. -/
theorem body_obligation (c : Dev nD) : Pipeline.BodyObligation (dats (F := F) m 0 c) (defs₀ (F := F)) 𝒱₀ () Set.univ := fun t => by
  rw [fin_N0 t, bigSep_none, bigSep_none]
  unfold Pipeline.Dat.owesAt Pipeline.owesWithin
  show iprop(iprop(X (inA m) (inB m) c ∗ Pipeline.scopedRest cfg0.spec c)
      ∗ iprop(∃ W, ⌜↑W ⊆ (dats m 0 c).bound () t0_0.castSucc⌝ ∗ owes (c : Thread nD τ) (Olaunch c) W) ∗ BI.emp)
    ⊢ run c (bodyAt0 t0_0) fun _ => iprop(Φ₁ (inA m) (inB m) c
      ∗ iprop(∃ W, ⌜↑W ⊆ (dats m 0 c).bound () t0_0.succ⌝ ∗ owes (c : Thread nD τ) 0 W) ∗ BI.emp)
  rw [scratch_eq]
  unfold X G'
  iintro ⟨⟨⟨⟨%κ, Hg⟩, Hl, Hcr, Ha, Hb, Ho⟩, Hs⟩, ⟨%W, -, HW⟩, -⟩
  iapply (run_body (inA m) (inB m) κ c) $$ [Hg Hl Hcr Ha Hb Ho Hs HW]
  · iapply (start_intro (inA m) (inB m) κ c)
    isplitl [Hg]; · iexact Hg
    isplitl [Hl]; · iexact Hl
    isplitl [Hcr]; · iexact Hcr
    isplitl [Ha]; · iexact Ha
    isplitl [Hb]; · iexact Hb
    isplitl [Ho]; · iexact Ho
    isplitl [Hs]; · iexact Hs
    iexists W; iexact HW
  iintro HE
  ihave HE := (end_elim (inA m) (inB m) κ c) $$ HE
  icases HE with ⟨H, ⟨%W', HW⟩⟩
  isplitl [H]; · iexact H
  isplitl [HW]
  · iexists W'
    isplitr; · ipureintro; exact fun _ _ => Or.inl trivial
    iexact HW
  iempintro

/-- The element the launch starts from. -/
def u₀ : UU := (initOf (Pipeline.cells cfgs cellOf_inj) (Pipeline.launchToks cfgs cellOf_inj), (initOf cells toks, 1))

/-- The ghost state at launch. -/
theorem u₀_split : (ownU u₀ : sProp 𝕄)
    ⊢ iprop(BI.own (EP (initOf (Pipeline.cells cfgs cellOf_inj) (Pipeline.launchToks cfgs cellOf_inj))) ∗ BI.own (ER (initOf cells toks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op ((initOf cells toks, (1 : Counters)) : UB × Counters))))

/-- What the launch gives a device is what its body starts from. -/
theorem X_intro (c : Dev nD) :
    iprop(Pipeline.unscopedRestP Pipeline.Prefetch.none cfg0.spec c (fun b => m ((c : Thread nD τ).loc b)) ∗ levAts L lv
        ∗ Pipeline.launchCred Olaunch c ∗ prngReg c (ρ c) ∗ G' (inA m) (inB m) c)
      ⊢ |={Set.univ}=> iprop(X (inA m) (inB m) c ∗ emp) := by
  rw [Pipeline.unscopedRestP_none, unscopedRest0_eq]
  unfold X
  iintro ⟨⟨Ha, Hb, Ho⟩, Hl, Hcr, -, HG⟩
  ihave Hc := (creds (F := F) c) $$ Hcr
  imodintro
  isplitl
  · isplitl [HG]; · iexact HG
    isplitl [Hl]; · iexact Hl
    isplitl [Hc]; · unfold crX; iexact Hc
    isplitl [Ha]; · unfold own; rw [owns_whole]; iexact Ha
    isplitl [Hb]; · unfold own; rw [owns_whole]; iexact Hb
    iapply (any_intro c oM (m ((c : Thread nD τ).loc main_v1)))
    unfold own; rw [owns_whole]; iexact Ho
  · iempintro

/-- The invariant before the body. -/
theorem phi0_intro (c : Dev nD) :
    iprop(X (inA m) (inB m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(X (inA m) (inB m) c ∗ Pipeline.scopedRest cfg0.spec c) from rfl]
  iintro ⟨Hs, -, Hr⟩
  isplitl [Hs] <;> iassumption

/-- What is read off at the exit: the three arrays and the counters. -/
def Y (c : Dev nD) : sProp 𝕄 := iprop(iprop(own c aM (inA m c) ∗ own c bM (inB m c) ∗ own c oM (Out c (inA m) (inB m))) ∗ unscopedSems0 c)

/-- The invariant after the body gives up the device's end. -/
theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ (inA m) (inB m) c from rfl]
  unfold Φ₁ Y
  iintro ⟨Hr, HzB, Hz, Hs⟩
  isplitl [Hr HzB]
  · isplitl [Hr] <;> iassumption
  isplitl [Hz] <;> iassumption

/-- What a final memory holds on device `c`. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = Out c (inA m) (inB m)

/-- A device's end, read of the final memory and counters. -/
theorem Y_read (c : Dev nD) (s' : Phys nD τ sig (Elt F)) :
    iprop(Y m c ∗ emp ∗ SI s') ⊢ |={Set.univ}=> iprop(⌜Ends m c s'.mem ∧ ∀ sm : SemLoc sig, sm.isScoped .tc = false → s'.mem.sem ((c.tc : Thread nD τ), sm) = 0⌝ ∗ SI s') := by
  unfold Y own
  rw [owns_whole, owns_whole, owns_whole]
  iintro ⟨⟨⟨Ha, Hb, Ho⟩, Hu⟩, -, HSI⟩
  icombine HSI Ha gives %ha
  icombine HSI Hb gives %hb
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨⟨funext fun i => ha i (Finset.mem_univ i), funext fun i => hb i (Finset.mem_univ i), funext fun i => ho i (Finset.mem_univ i)⟩, hs⟩
  iexact HSI

set_option maxRecDepth 20000 in
/-- From any memory, at any float values: every fair run of the eight devices ends, each device's two factors unchanged, its
    result at `Out`, and every counter at zero. -/
theorem run_main : θ_run defs (onTc (τ := τ) (main (F := F))) ⟨m, fun _ => 0, ρ⟩ (fun r => (∀ c : Dev nD, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := Olaunch) (howed₀ := fun _ => rfl) (howedN := fun _ => rfl)
    (L := L) (lv := lv) (hL := L_of_ne) (hwaits := fun c => Pipeline.cellsWaits_intro cfgs (dats m) () 0 c fun w _ _ => w.elim0)
    (G := G (inA m) (inB m)) (G' := G' (inA m) (inB m)) (u₀ := u₀)
    (hu₀ := by
      iintro Hu
      ihave H := (u₀_split (F := F)) $$ Hu
      icases H with ⟨HP, HX⟩
      imod (fund_cells (inA m) (inB m)) $$ HX with HG
      imodintro
      isplitl [HP] <;> iassumption)
    (hglob := glob (inA m) (inB m))
    (hA := fun _ w => w.elim0) (hpf := fun _ k => k.elim0)
    (X := X (inA m) (inB m)) (Y := Y m) (Z := fun _ => iprop(emp))
    (hX := X_intro m ρ) (hin := phi0_intro m) (hout := phi1_exit m)
    (QY := fun c s => Ends m c s ∧ ∀ sm : SemLoc sig, sm.isScoped .tc = false → s.sem ((c.tc : Thread nD τ), sm) = 0)
    (hY := Y_read m)
    (hQ := fun _ h hs => ⟨fun c => (h c).2.2.1, sem_eq_zero hs fun c => (h c).2.2.2⟩)

end Launch

end Cert.CubeProof

end
-- ==== Proof.Bridge.lean ====
/-
  The kernel at machine words is the text of the idealized one read at machine words.
-/
module

public import proofs.«01_k».proof.Proof.Launch
public import proofs.«01_k».proof.Proof.Gen.Kernel
public import proofs.«01_k».proof.Defs

@[expose] public section

noncomputable section

namespace Cert.CubeProof

open Idealize.ShloMosaic Idealize.SL.Sem

/-- Over the extended reals the kernel terminates, keeps its arguments and leaves every counter at zero. -/
theorem frame_KernelIdeal : Cert.quiescent_KernelIdeal := fun m ρ _ =>
  (θ_run (Cert.KernelIdeal.defs (F := Ideal)) _ _).mono (fun _ h => ⟨fun c => ⟨(h.1 c).1, (h.1 c).2.1⟩, h.2⟩) (run_main (F := Ideal) m ρ)

/-- The same at machine words, of the text read over the extended reals. -/
theorem frame_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := Bits)) _ _).mono (fun _ h => ⟨fun c => ⟨(h.1 c).1, (h.1 c).2.1⟩, h.2⟩) (run_main (F := Bits) m ρ)

/-- At machine words the kernel terminates, keeps its arguments and leaves every counter at zero. -/
theorem frame_Kernel : Cert.quiescent_Kernel := fun m ρ _ => frame_bits m ρ

end Cert.CubeProof

end
-- ==== Proof.Value.lean ====
/-
  What the kernel computes over the extended reals: on every device, the sum over the devices of their products.
-/
module

public import proofs.«01_k».proof.Proof.Memory
public import Idealize.ShloMosaic.Lib.MatmulPlain
public import Idealize.ShloMosaic.Lib.ValueLayout

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (A : Dev nD → S1536x768.Idx → Elt Ideal .f32) (B : Dev nD → S768x1536.Idx → Elt Ideal .f32)

/-! ## Rows -/

/-- Row `i` of block `j` of 128 rows. -/
def rowH (j : Fin 12) (i : Fin 128) : Fin 1536 := ⟨128 * j.val + i.val, by omega⟩
/-- Row `i` of block `k` of 64 rows. -/
def rowQ (k : Fin 24) (i : Fin 64) : Fin 1536 := ⟨64 * k.val + i.val, by omega⟩

/-- Row `i` of the quarter a device keeps, as a row of the half it keeps. -/
theorem rowH_keep (c : Dev nD) (g : Fin 6) (i : Fin 64) (h : 64 * (b2 c g).val + i.val < 128) :
    rowH (hk c g) ⟨64 * (b2 c g).val + i.val, h⟩ = rowQ (qk c g) i := by
  apply Fin.ext
  show 128 * (hk c g).val + (64 * (bit (axis 1 g) c).val + i.val) = 64 * (2 * (hk c g).val + (bit (axis 1 g) c).val) + i.val
  omega

/-- Row `i` of the quarter a device sends, as a row of the half it keeps. -/
theorem rowH_send (c : Dev nD) (g : Fin 6) (i : Fin 64) (h : 64 * (1 - b2 c g).val + i.val < 128) :
    rowH (hk c g) ⟨64 * (1 - b2 c g).val + i.val, h⟩ = rowQ (qs c g) i := by
  have e : ∀ b : Fin 2, (1 - b).val = 1 - b.val := by decide
  apply Fin.ext
  show 128 * (hk c g).val + (64 * (1 - bit (axis 1 g) c).val + i.val) = 64 * (2 * (hk c g).val + (1 - (bit (axis 1 g) c).val)) + i.val
  rw [e]
  omega

/-! ## Products and sums -/

/-- A device's product at a row and a column. -/
def prodAt (c : Dev nD) (r col : Fin 1536) : Ideal .f32 := ∑ k : Fin 768, A c (ValueIdx.ix2 r k) * B c (ValueIdx.ix2 k col)

/-- The sum of all the devices' products at a row and a column. -/
def total (r col : Fin 1536) : Ideal .f32 := ∑ d : Dev nD, prodAt A B d r col

/-- A block of 128 rows times the right factor, entry by entry. -/
theorem mm_apply (X : S128x768.Idx → Elt Ideal .f32) (W : S768x1536.Idx → Elt Ideal .f32) (i : Fin 128) (col : Fin 1536) :
    k0_pay9 (F := Ideal) X W (ValueIdx.ix2 i col) = ∑ k : Fin 768, X (ValueIdx.ix2 i k) * W (ValueIdx.ix2 k col) := by
  unfold k0_pay9
  simp only [shapeCast_self]
  refine (Ideal.matmul_plain_apply (M := 128) (K := 768) (N := 1536) none X W _ i col).trans ?_
  rw [show (constant (F := Ideal) S128x1536 .f32 0x00000000#32 : FVec Ideal S128x1536 .f32) (ValueIdx.ix2 i col) = 0 from Ideal.ofBits_zero_f32, zero_add]

/-- The product a device sends is computed as the one it keeps. -/
theorem pay3_eq (X : S128x768.Idx → Elt Ideal .f32) (W : S768x1536.Idx → Elt Ideal .f32) :
    (k0_pay3 (F := Ideal) X W : S128x1536.Idx → EReal) = k0_pay9 (F := Ideal) X W := by
  unfold k0_pay3 k0_pay9
  simp only [shapeCast_self]
  rfl

/-- Block `j` of a device's left factor, row by row. -/
theorem aBlk_apply (c : Dev nD) (j : Fin 12) (i : Fin 128) (k : Fin 768) :
    aBlk A c j (ValueIdx.ix2 i k) = A c (ValueIdx.ix2 (rowH j i) k) := by
  show A c _ = A c _
  congr 1
  funext a; fin_cases a
  · apply Fin.ext; show 128 * j.val + 1 * i.val = 128 * j.val + i.val; omega
  · apply Fin.ext; show 0 + 1 * k.val = k.val; omega

/-- The half a device keeps, after its own product. -/
theorem Y0_apply (c : Dev nD) (g : Fin 6) (i : Fin 128) (col : Fin 1536) :
    Y0 A B c g (ValueIdx.ix2 i col) = prodAt A B c (rowH (hk c g) i) col := by
  unfold Y0 prodAt
  rw [mm_apply]
  exact Finset.sum_congr rfl fun k _ => by rw [aBlk_apply]

/-- The half a device sends. -/
theorem X0_apply (c : Dev nD) (g : Fin 6) (i : Fin 128) (col : Fin 1536) :
    (X0 A B c g (ValueIdx.ix2 i col) : EReal) = prodAt A B c (rowH (hs c g) i) col := by
  unfold X0 prodAt
  rw [pay3_eq, mm_apply]
  exact Finset.sum_congr rfl fun k _ => by rw [aBlk_apply]

/-- A quarter plus the quarter received: over the extended reals a change of format is nothing. -/
theorem add_apply (Y : S64x1536.Idx → Elt Ideal .f32) (X : S64x1536.Idx → Elt Ideal .bf16) (i : S64x1536.Idx) :
    k0_pay30 (F := Ideal) Y (lift3 X) i = (Y i + X i : EReal) := by
  obtain ⟨a, b, rfl⟩ : ∃ a b, i = ValueIdx.ix2 a b := ⟨_, _, ValueIdx.eq_ix2 i⟩
  unfold k0_pay30
  show (Y (ValueIdx.ix2 a b) + shapeCast S64x1536 (lift3 X) shapeCasts_S1x64x1536_S64x1536 (ValueIdx.ix2 a b) : EReal) = _
  rw [ValueIdx.shapeCast_1ab_ab_apply]
  rfl

/-- The same sum, written to the accumulator or to its copy, whichever exchange it follows. -/
theorem pay31_eq (Y : S64x1536.Idx → Elt Ideal .f32) (V : S1x64x1536.Idx → Elt Ideal .bf16) :
    k0_pay31 (F := Ideal) Y V = k0_pay30 (F := Ideal) Y V := by
  unfold k0_pay31; simp only [shapeCast_self]
/-- The same for the copy that is sent. -/
theorem pay32_eq (Y : S64x1536.Idx → Elt Ideal .f32) (V : S1x64x1536.Idx → Elt Ideal .bf16) :
    (k0_pay32 (F := Ideal) Y V : S64x1536.Idx → EReal) = k0_pay30 (F := Ideal) Y V := by
  unfold k0_pay32; simp only [shapeCast_self]; rfl
/-- The same after the first exchange, for the copy that is sent. -/
theorem pay16_eq (Y : S64x1536.Idx → Elt Ideal .f32) (V : S1x64x1536.Idx → Elt Ideal .bf16) :
    (k0_pay16 (F := Ideal) Y V : S64x1536.Idx → EReal) = k0_pay30 (F := Ideal) Y V := by
  unfold k0_pay16 k0_pay30; simp only [shapeCast_self]; rfl
/-- The same after the first exchange, for the accumulator. -/
theorem pay21_eq (Y : S64x1536.Idx → Elt Ideal .f32) (V : S1x64x1536.Idx → Elt Ideal .bf16) :
    k0_pay21 (F := Ideal) Y V = k0_pay30 (F := Ideal) Y V := by
  unfold k0_pay21 k0_pay30; simp only [shapeCast_self]

/-- The sum of a device's product and its first neighbour's. -/
def pairAt (c : Dev nD) (g : Fin 6) (r col : Fin 1536) : Ideal .f32 := prodAt A B c r col + prodAt A B (peer 0 g c) r col

/-- After the first exchange, on the quarter a device keeps. -/
theorem Y1_apply (c : Dev nD) (g : Fin 6) (i : Fin 64) (col : Fin 1536) :
    Y1 A B c g (ValueIdx.ix2 i col) = pairAt A B c g (rowQ (qk c g) i) col := by
  unfold Y1 pairAt
  rw [pay21_eq, add_apply]
  unfold sub
  rw [← rowH_keep c g i (by omega)]
  refine congrArg₂ (· + ·) (Y0_apply A B c g _ _) ((X0_apply A B (peer 0 g c) g _ _).trans ?_)
  rw [hs_peer0]

/-- After the first exchange, on the quarter a device sends. -/
theorem X1_apply (c : Dev nD) (g : Fin 6) (i : Fin 64) (col : Fin 1536) :
    (X1 A B c g (ValueIdx.ix2 i col) : EReal) = pairAt A B c g (rowQ (qs c g) i) col := by
  unfold X1 pairAt
  rw [pay16_eq, add_apply]
  unfold sub
  rw [← rowH_send c g i (by omega)]
  refine congrArg₂ (· + ·) (Y0_apply A B c g _ _) ((X0_apply A B (peer 0 g c) g _ _).trans ?_)
  rw [hs_peer0]

/-- The sum over the square a device and its first two neighbours span. -/
def squareAt (c : Dev nD) (g : Fin 6) (r col : Fin 1536) : Ideal .f32 := pairAt A B c g r col + pairAt A B (peer 1 g c) g r col

/-- After the second exchange. -/
theorem Y2_apply (c : Dev nD) (g : Fin 6) (i : Fin 64) (col : Fin 1536) :
    Y2 A B c g (ValueIdx.ix2 i col) = squareAt A B c g (rowQ (qk c g) i) col := by
  unfold Y2 squareAt
  rw [pay31_eq, add_apply]
  refine congrArg₂ (· + ·) (Y1_apply A B c g _ _) ((X1_apply A B (peer 1 g c) g _ _).trans ?_)
  rw [qs_peer1]
/-- The copy sent at the third exchange. -/
theorem X2_apply (c : Dev nD) (g : Fin 6) (i : Fin 64) (col : Fin 1536) :
    (X2 A B c g (ValueIdx.ix2 i col) : EReal) = squareAt A B c g (rowQ (qk c g) i) col := by
  rw [← Y2_apply]
  unfold X2 Y2
  rw [pay31_eq, pay32_eq]

/-- The device and its neighbours across one, two and three axes are all the devices. -/
theorem cube_all (c : Dev nD) (g : Fin 6) :
    (Finset.univ : Finset (Dev nD)).val = {c, peer 0 g c, peer 1 g c, peer 0 g (peer 1 g c),
      peer 2 g c, peer 0 g (peer 2 g c), peer 1 g (peer 2 g c), peer 0 g (peer 1 g (peer 2 g c))} := by
  revert c g; decide +kernel

/-- The sum over the cube is the sum over the devices. -/
theorem cube_sum (c : Dev nD) (g : Fin 6) (r col : Fin 1536) :
    squareAt A B c g r col + squareAt A B (peer 2 g c) g r col = total A B r col := by
  unfold squareAt pairAt total Finset.sum
  rw [cube_all c g]
  simp only [Multiset.insert_eq_cons, Multiset.map_cons, Multiset.map_singleton, Multiset.sum_cons, Multiset.sum_singleton, add_assoc]

/-- After the third exchange: the finished quarter. -/
theorem Y3_apply (c : Dev nD) (g : Fin 6) (i : Fin 64) (col : Fin 1536) :
    Y3 A B c g (ValueIdx.ix2 i col) = total A B (rowQ (qk c g) i) col := by
  rw [← cube_sum A B c g]
  unfold Y3
  rw [pay31_eq, add_apply]
  refine congrArg₂ (· + ·) (Y2_apply A B c g _ _) ((X2_apply A B (peer 2 g c) g _ _).trans ?_)
  rw [qk_peer2]
/-- The copy sent at the fourth exchange. -/
theorem X3_apply (c : Dev nD) (g : Fin 6) (i : Fin 64) (col : Fin 1536) :
    (X3 A B c g (ValueIdx.ix2 i col) : EReal) = total A B (rowQ (qk c g) i) col := by
  rw [← Y3_apply]
  unfold X3 Y3
  rw [pay31_eq, pay32_eq]

/-- What arrives at the fourth exchange is the other quarter, finished. -/
theorem X3_peer (c : Dev nD) (g : Fin 6) (i : Fin 64) (col : Fin 1536) :
    (X3 A B (peer 1 g c) g (ValueIdx.ix2 i col) : EReal) = total A B (rowQ (qs c g) i) col := by
  rw [X3_apply, qk_peer1]
/-- The quarter written from what arrives at the fourth exchange. -/
theorem Z3_apply (c : Dev nD) (g : Fin 6) (i : Fin 64) (col : Fin 1536) :
    Z3 A B c g (ValueIdx.ix2 i col) = total A B (rowQ (qs c g) i) col := by
  rw [← X3_peer]
  unfold Z3 k0_pay67
  simp only [shapeCast_self]
  rfl

/-- Two finished quarters make the finished half. -/
theorem glue_apply (c : Dev nD) (g : Fin 6) (U V : S64x1536.Idx → EReal)
    (hU : ∀ i col, U (ValueIdx.ix2 i col) = total A B (rowQ (qk c g) i) col)
    (hV : ∀ i col, V (ValueIdx.ix2 i col) = total A B (rowQ (qs c g) i) col) (i : Fin 128) (col : Fin 1536) :
    glue2 (b2 c g) U V (ValueIdx.ix2 i col) = total A B (rowH (hk c g) i) col := by
  have e : ∀ b : Fin 2, (1 - b).val = 1 - b.val := by decide
  show (if i.val / 64 = (b2 c g).val then U (ValueIdx.ix2 (⟨i.val % 64, _⟩ : Fin 64) col) else V (ValueIdx.ix2 (⟨i.val % 64, _⟩ : Fin 64) col)) = _
  split
  · rename_i h
    rw [hU, ← rowH_keep c g _ (by show 64 * (b2 c g).val + i.val % 64 < 128; omega)]
    congr 2
    apply Fin.ext; show 64 * (b2 c g).val + i.val % 64 = i.val; omega
  · rename_i h
    rw [hV, ← rowH_send c g _ (by rw [e]; show 64 * (1 - (b2 c g).val) + i.val % 64 < 128; omega)]
    congr 2
    apply Fin.ext; show 64 * (1 - b2 c g).val + i.val % 64 = i.val; rw [e]; omega

/-- What arrives at the fifth exchange is the other half, finished. -/
theorem Z4_apply (c : Dev nD) (g : Fin 6) (i : Fin 128) (col : Fin 1536) :
    Z4 A B c g (ValueIdx.ix2 i col) = total A B (rowH (hs c g) i) col := by
  have h := glue_apply A B (peer 0 g c) g _ _ (X3_apply A B (peer 0 g c) g) (X3_peer A B (peer 0 g c) g) i col
  rw [hk_peer0] at h
  rw [← h]
  unfold Z4 k0_pay73 X4
  simp only [shapeCast_self]
  rfl

/-- Every block of 128 rows of the result, on every device. -/
theorem oBlk_apply (c : Dev nD) (j : Fin 12) (i : Fin 128) (col : Fin 1536) :
    oBlk c A B j (ValueIdx.ix2 i col) = total A B (rowH j i) col := by
  have hj : ∀ (c : Dev nD) (j : Fin 12), ∃ g : Fin 6, j = hk c g ∨ j = hs c g := by decide +kernel
  obtain ⟨g, rfl | rfl⟩ := hj c j
  · rw [oBlk_hk]
    exact glue_apply A B c g _ _ (Y3_apply A B c g) (Z3_apply A B c g) i col
  · rw [oBlk_hs]
    exact Z4_apply A B c g i col

/-- The result on every device: the sum of all the devices' products. -/
theorem Out_apply (c : Dev nD) (r col : Fin 1536) : Out c A B (ValueIdx.ix2 r col) = total A B r col := by
  refine (oBlk_apply A B c _ _ _).trans ?_
  congr 1
  apply Fin.ext
  show 128 * (r.val / 128) + r.val % 128 = r.val
  omega

end Cert.CubeProof

end
-- ==== Proof.Agree.lean ====
/-
  The reference's product is the sum of the devices' products, and the two programs end holding it.
-/
module

public import proofs.«01_k».proof.Proof.Bridge
public import proofs.«01_k».proof.Proof.Value
public import proofs.«01_k».proof.Proof.Gen.ReferenceIdeal.Run
public import proofs.«01_k».proof.Proof.Gen.ReferenceIdeal.Read
public import Idealize.ShloMosaic.Lib.Quiescent

@[expose] public section

noncomputable section

namespace Cert.CubeProof

open Idealize.ShloMosaic Idealize.SL.Sem

/-- The reference terminates with its arguments unchanged; it has no counters. -/
theorem frame_ReferenceIdeal : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- A sum over the 6144 columns is, device by device, a sum over the 768 columns each holds. -/
theorem sum_cut (f : Fin 6144 → EReal) :
    ∑ k : Fin 6144, f k = ∑ d : Fin 8, ∑ k : Fin 768, f ⟨d.val * 768 + k.val, by omega⟩ := by
  rw [← Fintype.sum_prod_type' (f := fun (d : Fin 8) (k : Fin 768) => f ⟨d.val * 768 + k.val, by omega⟩),
    ← Equiv.sum_comp (finProdFinEquiv (m := 8) (n := 768))]
  refine Finset.sum_congr rfl fun x _ => congrArg f (Fin.ext ?_)
  show x.2.val + 768 * x.1.val = x.1.val * 768 + x.2.val
  omega

/-- With each device holding its part of the two factors, the reference's product is the sum of the devices' products. -/
theorem ref_total (L : Cert.ReferenceIdeal.S1536x6144.Idx → EReal) (R : Cert.ReferenceIdeal.S6144x1536.Idx → EReal)
    (r col : Fin 1536) :
    Cert.ReferenceIdeal.Read.val_main_v0 (F := Ideal) L R (ValueIdx.ix2 r col)
      = total (fun c => Layout.block ⟨2, ![1536, 768]⟩ ⟨2, ![1536, 6144]⟩ 1 8 c L)
          (fun c => Layout.block ⟨2, ![768, 1536]⟩ ⟨2, ![6144, 1536]⟩ 0 8 c R) r col := by
  rw [Cert.ReferenceIdeal.Read.val_main_v0_apply]
  refine (sum_cut _).trans ?_
  unfold total prodAt
  refine Finset.sum_congr rfl fun d _ => Finset.sum_congr rfl fun k _ => ?_
  refine congrArg₂ (· * ·) (congrArg L ?_) (congrArg R ?_)
  · funext a; fin_cases a <;> rfl
  · funext a; fin_cases a <;> rfl

/-- Both programs end holding the same product, on every device. -/
theorem algebraic : Cert.algebraic_KernelIdeal_ReferenceIdeal := fun m ρ m' ρ' _ hargs => by
  refine ⟨_, (θ_run (Cert.KernelIdeal.defs (F := Ideal)) _ _).mono (fun r h c => ⟨(h.1 c).2.2.trans ?_, (h.1 c).1, (h.1 c).2.1⟩) (run_main (F := Ideal) m ρ),
    (θ_run (Cert.ReferenceIdeal.defs (F := Ideal)) _ _).mono (fun r h => h 0) (Cert.ReferenceIdeal.Value.run (F := Ideal) m' ρ')⟩
  have hA : inA m = fun c => Layout.block ⟨2, ![1536, 768]⟩ ⟨2, ![1536, 6144]⟩ 1 8 c _ := funext fun c => (hargs c).1
  have hB : inB m = fun c => Layout.block ⟨2, ![768, 1536]⟩ ⟨2, ![6144, 1536]⟩ 0 8 c _ := funext fun c => (hargs c).2
  rw [hA, hB]
  funext i
  obtain ⟨a, b, rfl⟩ : ∃ a b, i = ValueIdx.ix2 a b := ⟨_, _, ValueIdx.eq_ix2 i⟩
  exact (Out_apply _ _ c a b).trans (ref_total _ _ a b).symm

end Cert.CubeProof

end
-- ==== Proof.lean ====
/-
  The claims, from the modules that prove them: `Bridge` (the kernel runs, at machine words and over the extended
  reals) and `Agree` (the reference runs, and the two agree).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Bridge
public import proofs.«01_k».proof.Proof.Agree

@[expose] public section

noncomputable section

namespace Cert.Proof

open Idealize.ShloMosaic Idealize.SL.Sem Cert.Kernel

/-- The kernel and the reference run and keep their arguments, and the kernel's result is the reference's on every device. -/
theorem claim : Cert.Claim := ⟨Cert.Kernel.Gen.facts, Cert.KernelIdeal.Gen.facts, Cert.ReferenceIdeal.Gen.facts,
  Cert.CubeProof.frame_Kernel, Cert.CubeProof.frame_KernelIdeal, Cert.CubeProof.frame_ReferenceIdeal, trivial, Cert.CubeProof.algebraic⟩

end Cert.Proof

end
